-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_rows [hPre_finite_rows : Cert.Pre_finite_rows.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_rows [hPre_finite_rows : Cert.Pre_finite_rows.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_rows.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_inputs [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_rows [hKernel5Ideal : Cert.Kernel5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_rows m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_rows [hReference5Ideal : Cert.Reference5Ideal.Facts] [hPre_finite_rows : Cert.Pre_finite_rows.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_rows m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "zero_below" .f32 0xC3170000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_inputs [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v93_0)) (v1 : (c : Dev Cert.Kernel4Ideal.nD) → Buf (Elt Ideal) ((c.tc : Thread Cert.Kernel4Ideal.nD Cert.Kernel4Ideal.τ).loc Cert.Kernel4Ideal.main_v93_1)) (v2 : (c : Dev Cert.Kernel4Ideal.nD) → Buf (Elt Ideal) ((c.tc : Thread Cert.Kernel4Ideal.nD Cert.Kernel4Ideal.τ).loc Cert.Kernel4Ideal.main_v93_2)) (v3 : (c : Dev Cert.Kernel4Ideal.nD) → Buf (Elt Ideal) ((c.tc : Thread Cert.Kernel4Ideal.nD Cert.Kernel4Ideal.τ).loc Cert.Kernel4Ideal.main_v93_3)) (v4 : (c : Dev Cert.Kernel4Ideal.nD) → Buf (Elt Ideal) ((c.tc : Thread Cert.Kernel4Ideal.nD Cert.Kernel4Ideal.τ).loc Cert.Kernel4Ideal.main_v93_4)) (v5 : (c : Dev Cert.Kernel4Ideal.nD) → Buf (Elt Ideal) ((c.tc : Thread Cert.Kernel4Ideal.nD Cert.Kernel4Ideal.τ).loc Cert.Kernel4Ideal.main_v93_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v93_0) = v0 c
          ∧ r.2.mem ((c.tc : Thread Cert.Kernel4Ideal.nD Cert.Kernel4Ideal.τ).loc Cert.Kernel4Ideal.main_v93_1) = v1 c
          ∧ r.2.mem ((c.tc : Thread Cert.Kernel4Ideal.nD Cert.Kernel4Ideal.τ).loc Cert.Kernel4Ideal.main_v93_2) = v2 c
          ∧ r.2.mem ((c.tc : Thread Cert.Kernel4Ideal.nD Cert.Kernel4Ideal.τ).loc Cert.Kernel4Ideal.main_v93_3) = v3 c
          ∧ r.2.mem ((c.tc : Thread Cert.Kernel4Ideal.nD Cert.Kernel4Ideal.τ).loc Cert.Kernel4Ideal.main_v93_4) = v4 c
          ∧ r.2.mem ((c.tc : Thread Cert.Kernel4Ideal.nD Cert.Kernel4Ideal.τ).loc Cert.Kernel4Ideal.main_v93_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_v95) = v1 c
          ∧ r.2.mem ((c.tc : Thread Cert.Reference4Ideal.nD Cert.Reference4Ideal.τ).loc Cert.Reference4Ideal.main_v98) = v2 c
          ∧ r.2.mem ((c.tc : Thread Cert.Reference4Ideal.nD Cert.Reference4Ideal.τ).loc Cert.Reference4Ideal.main_v101) = v3 c
          ∧ r.2.mem ((c.tc : Thread Cert.Reference4Ideal.nD Cert.Reference4Ideal.τ).loc Cert.Reference4Ideal.main_v103) = v4 c
          ∧ r.2.mem ((c.tc : Thread Cert.Reference4Ideal.nD Cert.Reference4Ideal.τ).loc Cert.Reference4Ideal.main_v114) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_rows [hKernel5Ideal : Cert.Kernel5Ideal.Facts] [hReference5Ideal : Cert.Reference5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_rows m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v92_0)) (v1 : (c : Dev Cert.Kernel5Ideal.nD) → Buf (Elt Ideal) ((c.tc : Thread Cert.Kernel5Ideal.nD Cert.Kernel5Ideal.τ).loc Cert.Kernel5Ideal.main_v92_1)) (v2 : (c : Dev Cert.Kernel5Ideal.nD) → Buf (Elt Ideal) ((c.tc : Thread Cert.Kernel5Ideal.nD Cert.Kernel5Ideal.τ).loc Cert.Kernel5Ideal.main_v92_2)) (v3 : (c : Dev Cert.Kernel5Ideal.nD) → Buf (Elt Ideal) ((c.tc : Thread Cert.Kernel5Ideal.nD Cert.Kernel5Ideal.τ).loc Cert.Kernel5Ideal.main_v92_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v92_0) = v0 c
          ∧ r.2.mem ((c.tc : Thread Cert.Kernel5Ideal.nD Cert.Kernel5Ideal.τ).loc Cert.Kernel5Ideal.main_v92_1) = v1 c
          ∧ r.2.mem ((c.tc : Thread Cert.Kernel5Ideal.nD Cert.Kernel5Ideal.τ).loc Cert.Kernel5Ideal.main_v92_2) = v2 c
          ∧ r.2.mem ((c.tc : Thread Cert.Kernel5Ideal.nD Cert.Kernel5Ideal.τ).loc Cert.Kernel5Ideal.main_v92_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v95) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v102) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_inputs : Cert.Pre_finite_inputs.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs (hKernel4Ideal := hKernel4Ideal) (hPre_finite_inputs := hPre_finite_inputs)
    ∧ quiescent_Reference4Ideal (hReference4Ideal := hReference4Ideal)
    ∧ quiescent_Reference4Ideal_pre_finite_inputs (hReference4Ideal := hReference4Ideal) (hPre_finite_inputs := hPre_finite_inputs)
    ∧ quiescent_Kernel5 (hKernel5 := hKernel5)
    ∧ quiescent_Kernel5Ideal (hKernel5Ideal := hKernel5Ideal)
    ∧ quiescent_Kernel5Ideal_pre_finite_rows (hKernel5Ideal := hKernel5Ideal) (hPre_finite_rows := hPre_finite_rows)
    ∧ quiescent_Reference5Ideal (hReference5Ideal := hReference5Ideal)
    ∧ quiescent_Reference5Ideal_pre_finite_rows (hReference5Ideal := hReference5Ideal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs (hKernel4Ideal := hKernel4Ideal) (hReference4Ideal := hReference4Ideal) (hPre_finite_inputs := hPre_finite_inputs)
    ∧ preserves_Kernel5_Kernel5Ideal
    ∧ algebraic_Kernel5Ideal_Reference5Ideal_pre_finite_rows (hKernel5Ideal := hKernel5Ideal) (hReference5Ideal := hReference5Ideal) (hPre_finite_rows := hPre_finite_rows)
-- ==== Pre_finite_inputs.lean ====
abbrev S16896x1024 : Shape := ⟨2, ![16896, 1024]⟩
abbrev S1x1024x5416 : Shape := ⟨3, ![1, 1024, 5416]⟩
abbrev S1x2048 : Shape := ⟨2, ![1, 2048]⟩
abbrev S1x1024 : Shape := ⟨2, ![1, 1024]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S1x1024x5416 : S_.BroadcastsInDim S1x1024x5416 (![] : Fin 0 → Fin S1x1024x5416.rank)
  reducesTo_S1x1024x5416_S_d0_1_2 : S1x1024x5416.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16896x1024 .f32) (main_arg1 : FVec F S1x1024x5416 .f32) (main_arg2 : FVec F S1x2048 .f32) (main_arg3 : FVec F S1x1024 .f32) : IVec S_ 1 :=
  let main_v0 : FVec F S16896x1024 .f32 := Host.absf main_arg0
  let main_cst : FVec F S_ .f32 := constant S_ .f32 0x7F800000#32
  let main_v1 : FVec F S16896x1024 .f32 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S1x1024x5416 .f32 := Host.absf main_arg1
  let main_cst_0 : FVec F S_ .f32 := constant S_ .f32 0x7F800000#32
  let main_v5 : FVec F S1x1024x5416 .f32 := broadcastInDim S1x1024x5416 ![] bcast_S_S1x1024x5416 main_cst_0
  let main_v6 : IVec S1x1024x5416 1 := cmpf .olt main_v4 main_v5
  let main_c_1 : IVec S_ 1 := constantI S_ 1 1#1
  let main_v7 : IVec S_ 1 := (fun x v => Host.reduce IntOp.andi x v reducesTo_S1x1024x5416_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_rows.lean ====
abbrev S16896x1024 : Shape := ⟨2, ![16896, 1024]⟩
abbrev S1x1024x5416 : Shape := ⟨3, ![1, 1024, 5416]⟩
abbrev S1x1024 : Shape := ⟨2, ![1, 1024]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S1x1024x5416 : S_.BroadcastsInDim S1x1024x5416 (![] : Fin 0 → Fin S1x1024x5416.rank)
  reducesTo_S1x1024x5416_S_d0_1_2 : S1x1024x5416.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16896x1024 .f32) (main_arg1 : FVec F S1x1024x5416 .f32) (main_arg2 : FVec F S1x1024 .f32) : IVec S_ 1 :=
  let main_v0 : FVec F S16896x1024 .f32 := Host.absf main_arg0
  let main_cst : FVec F S_ .f32 := constant S_ .f32 0x7F800000#32
  let main_v1 : FVec F S16896x1024 .f32 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S1x1024x5416 .f32 := Host.absf main_arg1
  let main_cst_0 : FVec F S_ .f32 := constant S_ .f32 0x7F800000#32
  let main_v5 : FVec F S1x1024x5416 .f32 := broadcastInDim S1x1024x5416 ![] bcast_S_S1x1024x5416 main_cst_0
  let main_v6 : IVec S1x1024x5416 1 := cmpf .olt main_v4 main_v5
  let main_c_1 : IVec S_ 1 := constantI S_ 1 1#1
  let main_v7 : IVec S_ 1 := (fun x v => Host.reduce IntOp.andi x v reducesTo_S1x1024x5416_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_scores.lean ====
abbrev S4x16896x128 : Shape := ⟨3, ![4, 16896, 128]⟩
abbrev S4x66x128x256 : Shape := ⟨4, ![4, 66, 128, 256]⟩
abbrev S_ : Shape := ⟨0, ![]⟩

class Facts : Prop where
  bitsLt_bf16_f32 : FTy.bits .bf16 < FTy.bits .f32
  bcast_S_S4x16896x128 : S_.BroadcastsInDim S4x16896x128 (![] : Fin 0 → Fin S4x16896x128.rank)
  reducesTo_S4x16896x128_S_d0_1_2 : S4x16896x128.ReducesTo [0, 1, 2] S_
  h_S_ : 0 < S_.numel
  bcast_S_S4x66x128x256 : S_.BroadcastsInDim S4x66x128x256 (![] : Fin 0 → Fin S4x66x128x256.rank)
  reducesTo_S4x66x128x256_S_d0_1_2_3 : S4x66x128x256.ReducesTo [0, 1, 2, 3] S_

variable [Facts]

def fn {F : FTy → Type} [FloatOps F] (main_arg0 : FVec F S4x16896x128 .bf16) (main_arg1 : FVec F S4x66x128x256 .bf16) (main_arg2 : FVec F S4x16896x128 .bf16) : IVec S_ 1 :=
  let main_v0 : FVec F S4x16896x128 .f32 := (extf .f32 · bitsLt_bf16_f32) main_arg0
  let main_v1 : FVec F S4x16896x128 .f32 := Host.absf main_v0
  let main_cst : FVec F S_ .f32 := constant S_ .f32 0x7F800000#32
  let main_v2 : FVec F S4x16896x128 .f32 := broadcastInDim S4x16896x128 ![] bcast_S_S4x16896x128 main_cst
  let main_v3 : IVec S4x16896x128 1 := cmpf .olt main_v1 main_v2
  let main_c : IVec S_ 1 := constantI S_ 1 1#1
  let main_v4 : IVec S_ 1 := (fun x v => Host.reduce IntOp.andi x v reducesTo_S4x16896x128_S_d0_1_2 h_S_) main_v3 main_c
  let main_v5 : FVec F S4x66x128x256 .f32 := (extf .f32 · bitsLt_bf16_f32) main_arg1
  let main_v6 : FVec F S4x66x128x256 .f32 := Host.absf main_v5
  let main_cst_0 : FVec F S_ .f32 := constant S_ .f32 0x7F800000#32
  let main_v7 : FVec F S4x66x128x256 .f32 := broadcastInDim S4x66x128x256 ![] bcast_S_S4x66x128x256 main_cst_0
  let main_v8 : IVec S4x66x128x256 1 := cmpf .olt main_v6 main_v7
  let main_c_1 : IVec S_ 1 := constantI S_ 1 1#1
  let main_v9 : IVec S_ 1 := (fun x v => Host.reduce IntOp.andi x v reducesTo_S4x66x128x256_S_d0_1_2_3 h_S_) main_v8 main_c_1
  let main_v10 : IVec S_ 1 := andi main_v4 main_v9
  main_v10
-- ==== Kernel.lean ====
abbrev S4x16896x128 : Shape := ⟨3, ![4, 16896, 128]⟩
abbrev S4x66x128x256 : Shape := ⟨4, ![4, 66, 128, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16896x512 : Shape := ⟨2, ![16896, 512]⟩
abbrev S4x256x128 : Shape := ⟨3, ![4, 256, 128]⟩
abbrev S256x512 : Shape := ⟨2, ![256, 512]⟩
abbrev S8x256x128 : Shape := ⟨3, ![8, 256, 128]⟩
abbrev S256x128 : Shape := ⟨2, ![256, 128]⟩
abbrev S1x256x128 : Shape := ⟨3, ![1, 256, 128]⟩
abbrev S1x1x128x256 : Shape := ⟨4, ![1, 1, 128, 256]⟩
abbrev S128x256 : Shape := ⟨2, ![128, 256]⟩
abbrev S1 : Shape := ⟨1, ![1]⟩
abbrev S1x1x1 : Shape := ⟨3, ![1, 1, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x16896x128, .bf16⟩
  | .hbm, ⟨1, _⟩ => ⟨S4x66x128x256, .bf16⟩
  | .hbm, ⟨2, _⟩ => ⟨S4x16896x128, .bf16⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S16896x512, .bf16⟩
  | .local _ .vmem, ⟨0, _⟩ => ⟨S4x256x128, .bf16⟩
  | .local _ .vmem, ⟨1, _⟩ => ⟨S4x256x128, .bf16⟩
  | .local _ .vmem, ⟨2, _⟩ => ⟨S4x66x128x256, .bf16⟩
  | .local _ .vmem, ⟨3, _⟩ => ⟨S4x16896x128, .bf16⟩
  | .local _ .vmem, ⟨4, _⟩ => ⟨S256x256, .bf16⟩
  | .local _ .vmem, ⟨5, _⟩ => ⟨S256x512, .bf16⟩
  | .local _ .vmem, ⟨6, _⟩ => ⟨S256x512, .bf16⟩
  | .local _ .vmem, ⟨7, _⟩ => ⟨S8x256x128, .bf16⟩
  | .local _ .vmem, ⟨8, _⟩ => ⟨S8x256x128, .f32⟩
  | .local _ .vmem, ⟨9, _⟩ => ⟨S4x256x128, .f32⟩
  | _, _ => ⟨S4x16896x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![66], ![false]⟩

def k0_mult1 (i : grid0.Coords) : BitVec 32 :=
  let arg0 : BitVec 32 := BitVec.ofNat 32 (i 0).val
  let c256_i32 : BitVec 32 := 256#32
  let v78 : BitVec 32 := Scalar.muli arg0 c256_i32
  v78
def k0_off1 (i : grid0.Coords) : Fin 4 → Nat :=
  let c0_49 : Index := 0#32
  let arg0 : BitVec 32 := BitVec.ofNat 32 (i 0).val
  let v80 : Index := Scalar.indexCast arg0
  let c0_50 : Index := 0#32
  let c0_51 : Index := 0#32
  ![0, v80.toNat, 0, 0]
def k0_off2 (i : grid0.Coords) : Fin 3 → Nat :=
  let c0_52 : Index := 0#32
  let arg0 : BitVec 32 := BitVec.ofNat 32 (i 0).val
  let c256_i32 : BitVec 32 := 256#32
  let v78 : BitVec 32 := Scalar.muli arg0 c256_i32
  let v79 : BitVec 32 := v78
  let v83 : Index := Scalar.indexCast v79
  let c0_53 : Index := 0#32
  ![0, v83.toNat, 0]
def k0_off3 (i : grid0.Coords) : Fin 4 → Nat :=
  let c1_98 : Index := 1#32
  let arg0 : BitVec 32 := BitVec.ofNat 32 (i 0).val
  let v176 : Index := Scalar.indexCast arg0
  let c0_99 : Index := 0#32
  let c0_100 : Index := 0#32
  ![1, v176.toNat, 0, 0]
def k0_off4 (i : grid0.Coords) : Fin 3 → Nat :=
  let c1_101 : Index := 1#32
  let arg0 : BitVec 32 := BitVec.ofNat 32 (i 0).val
  let c256_i32 : BitVec 32 := 256#32
  let v78 : BitVec 32 := Scalar.muli arg0 c256_i32
  let v79 : BitVec 32 := v78
  let v179 : Index := Scalar.indexCast v79
  let c0_102 : Index := 0#32
  ![1, v179.toNat, 0]
def k0_off5 (i : grid0.Coords) : Fin 4 → Nat :=
  let c2_147 : Index := 2#32
  let arg0 : BitVec 32 := BitVec.ofNat 32 (i 0).val
  let v273 : Index := Scalar.indexCast arg0
  let c0_148 : Index := 0#32
  let c0_149 : Index := 0#32
  ![2, v273.toNat, 0, 0]
def k0_off6 (i : grid0.Coords) : Fin 3 → Nat :=
  let c2_150 : Index := 2#32
  let arg0 : BitVec 32 := BitVec.ofNat 32 (i 0).val
  let c256_i32 : BitVec 32 := 256#32
  let v78 : BitVec 32 := Scalar.muli arg0 c256_i32
  let v79 : BitVec 32 := v78
  let v276 : Index := Scalar.indexCast v79
  let c0_151 : Index := 0#32
  ![2, v276.toNat, 0]
def k0_off7 (i : grid0.Coords) : Fin 4 → Nat :=
  let c3_196 : Index := 3#32
  let arg0 : BitVec 32 := BitVec.ofNat 32 (i 0).val
  let v370 : Index := Scalar.indexCast arg0
  let c0_197 : Index := 0#32
  let c0_198 : Index := 0#32
  ![3, v370.toNat, 0, 0]
def k0_off8 (i : grid0.Coords) : Fin 3 → Nat :=
  let c3_199 : Index := 3#32
  let arg0 : BitVec 32 := BitVec.ofNat 32 (i 0).val
  let c256_i32 : BitVec 32 := 256#32
  let v78 : BitVec 32 := Scalar.muli arg0 c256_i32
  let v79 : BitVec 32 := v78
  let v373 : Index := Scalar.indexCast v79
  let c0_200 : Index := 0#32
  ![3, v373.toNat, 0]
def k0_mult2 (arg9 : BitVec 32) : BitVec 32 :=
  let c256_i32_264 : BitVec 32 := 256#32
  let v489 : BitVec 32 := Scalar.muli arg9 c256_i32_264
  v489

def k0_off9 (arg9 : BitVec 32) : Fin 4 → Nat :=
  let c0_265 : Index := 0#32
  let v491 : Index := Scalar.indexCast arg9
  let c0_266 : Index := 0#32
  let c0_267 : Index := 0#32
  ![0, v491.toNat, 0, 0]
def k0_off10 (arg9 : BitVec 32) : Fin 3 → Nat :=
  let c0_268 : Index := 0#32
  let c256_i32_264 : BitVec 32 := 256#32
  let v489 : BitVec 32 := Scalar.muli arg9 c256_i32_264
  let v490 : BitVec 32 := v489
  let v494 : Index := Scalar.indexCast v490
  let c0_269 : Index := 0#32
  ![0, v494.toNat, 0]
def k0_off11 (arg9 : BitVec 32) : Fin 4 → Nat :=
  let c1_310 : Index := 1#32
  let v579 : Index := Scalar.indexCast arg9
  let c0_311 : Index := 0#32
  let c0_312 : Index := 0#32
  ![1, v579.toNat, 0, 0]
def k0_off12 (arg9 : BitVec 32) : Fin 3 → Nat :=
  let c1_313 : Index := 1#32
  let c256_i32_264 : BitVec 32 := 256#32
  let v489 : BitVec 32 := Scalar.muli arg9 c256_i32_264
  let v490 : BitVec 32 := v489
  let v582 : Index := Scalar.indexCast v490
  let c0_314 : Index := 0#32
  ![1, v582.toNat, 0]
def k0_off13 (arg9 : BitVec 32) : Fin 4 → Nat :=
  let c2_355 : Index := 2#32
  let v668 : Index := Scalar.indexCast arg9
  let c0_356 : Index := 0#32
  let c0_357 : Index := 0#32
  ![2, v668.toNat, 0, 0]
def k0_off14 (arg9 : BitVec 32) : Fin 3 → Nat :=
  let c2_358 : Index := 2#32
  let c256_i32_264 : BitVec 32 := 256#32
  let v489 : BitVec 32 := Scalar.muli arg9 c256_i32_264
  let v490 : BitVec 32 := v489
  let v671 : Index := Scalar.indexCast v490
  let c0_359 : Index := 0#32
  ![2, v671.toNat, 0]
def k0_off15 (arg9 : BitVec 32) : Fin 4 → Nat :=
  let c3_400 : Index := 3#32
  let v757 : Index := Scalar.indexCast arg9
  let c0_401 : Index := 0#32
  let c0_402 : Index := 0#32
  ![3, v757.toNat, 0, 0]
def k0_off16 (arg9 : BitVec 32) : Fin 3 → Nat :=
  let c3_403 : Index := 3#32
  let c256_i32_264 : BitVec 32 := 256#32
  let v489 : BitVec 32 := Scalar.muli arg9 c256_i32_264
  let v490 : BitVec 32 := v489
  let v760 : Index := Scalar.indexCast v490
  let c0_404 : Index := 0#32
  ![3, v760.toNat, 0]

def k0_chk1 (arg9 : BitVec 32) : Prop :=
  (256 ∣ (k0_mult2 arg9).toNat) ∧
  (∀ a, (k0_off9 arg9) a + S1x1x128x256.size a ≤ S4x66x128x256.size a) ∧
  (∀ a, (k0_off10 arg9) a + S1x256x128.size a ≤ S4x16896x128.size a) ∧
  (∀ a, (k0_off11 arg9) a + S1x1x128x256.size a ≤ S4x66x128x256.size a) ∧
  (∀ a, (k0_off12 arg9) a + S1x256x128.size a ≤ S4x16896x128.size a) ∧
  (∀ a, (k0_off13 arg9) a + S1x1x128x256.size a ≤ S4x66x128x256.size a) ∧
  (∀ a, (k0_off14 arg9) a + S1x256x128.size a ≤ S4x16896x128.size a) ∧
  (∀ a, (k0_off15 arg9) a + S1x1x128x256.size a ≤ S4x66x128x256.size a) ∧
  (∀ a, (k0_off16 arg9) a + S1x256x128.size a ≤ S4x16896x128.size a)
theorem k0_mult2_dvd : ∀ (arg9 : BitVec 32) (k0_hw1 : k0_chk1 arg9), 256 ∣ (k0_mult2 arg9).toNat := fun arg9 k0_hw1 => k0_hw1.1
theorem k0_off9_inb : ∀ (arg9 : BitVec 32) (k0_hw1 : k0_chk1 arg9), ∀ a, (k0_off9 arg9) a + S1x1x128x256.size a ≤ S4x66x128x256.size a := fun arg9 k0_hw1 => k0_hw1.2.1
theorem k0_off10_inb : ∀ (arg9 : BitVec 32) (k0_hw1 : k0_chk1 arg9), ∀ a, (k0_off10 arg9) a + S1x256x128.size a ≤ S4x16896x128.size a := fun arg9 k0_hw1 => k0_hw1.2.2.1
theorem k0_off11_inb : ∀ (arg9 : BitVec 32) (k0_hw1 : k0_chk1 arg9), ∀ a, (k0_off11 arg9) a + S1x1x128x256.size a ≤ S4x66x128x256.size a := fun arg9 k0_hw1 => k0_hw1.2.2.2.1
theorem k0_off12_inb : ∀ (arg9 : BitVec 32) (k0_hw1 : k0_chk1 arg9), ∀ a, (k0_off12 arg9) a + S1x256x128.size a ≤ S4x16896x128.size a := fun arg9 k0_hw1 => k0_hw1.2.2.2.2.1
theorem k0_off13_inb : ∀ (arg9 : BitVec 32) (k0_hw1 : k0_chk1 arg9), ∀ a, (k0_off13 arg9) a + S1x1x128x256.size a ≤ S4x66x128x256.size a := fun arg9 k0_hw1 => k0_hw1.2.2.2.2.2.1
theorem k0_off14_inb : ∀ (arg9 : BitVec 32) (k0_hw1 : k0_chk1 arg9), ∀ a, (k0_off14 arg9) a + S1x256x128.size a ≤ S4x16896x128.size a := fun arg9 k0_hw1 => k0_hw1.2.2.2.2.2.2.1
theorem k0_off15_inb : ∀ (arg9 : BitVec 32) (k0_hw1 : k0_chk1 arg9), ∀ a, (k0_off15 arg9) a + S1x1x128x256.size a ≤ S4x66x128x256.size a := fun arg9 k0_hw1 => k0_hw1.2.2.2.2.2.2.2.1
theorem k0_off16_inb : ∀ (arg9 : BitVec 32) (k0_hw1 : k0_chk1 arg9), ∀ a, (k0_off16 arg9) a + S1x256x128.size a ≤ S4x16896x128.size a := fun arg9 k0_hw1 => k0_hw1.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x66x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16896x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_ln2" => some (((Real.log 2)⁻¹ : ℝ) : EReal)
  | "zero_below" => some ⊥
  | _ => none
-- ==== ReferenceIdeal.lean ====
abbrev S4x16896x128 : Shape := ⟨3, ![4, 16896, 128]⟩
abbrev S4x66x128x256 : Shape := ⟨4, ![4, 66, 128, 256]⟩
abbrev S4x16896x2x64 : Shape := ⟨4, ![4, 16896, 2, 64]⟩
abbrev S4x2x16896x64 : Shape := ⟨4, ![4, 2, 16896, 64]⟩
abbrev S8x16896x64 : Shape := ⟨3, ![8, 16896, 64]⟩
abbrev S4x128x66x256 : Shape := ⟨4, ![4, 128, 66, 256]⟩
abbrev S8x64x16896 : Shape := ⟨3, ![8, 64, 16896]⟩
abbrev S8x16896x16896 : Shape := ⟨3, ![8, 16896, 16896]⟩
abbrev S_ : Shape := ⟨0, ![]⟩
abbrev S16896 : Shape := ⟨1, ![16896]⟩
abbrev S1x16896 : Shape := ⟨2, ![1, 16896]⟩
abbrev S16896x1 : Shape := ⟨2, ![16896, 1]⟩
abbrev S16896x16896 : Shape := ⟨2, ![16896, 16896]⟩
abbrev S1x16896x16896 : Shape := ⟨3, ![1, 16896, 16896]⟩
abbrev S8x16896x16895 : Shape := ⟨3, ![8, 16896, 16895]⟩
abbrev S8x16896x1 : Shape := ⟨3, ![8, 16896, 1]⟩
abbrev S16896x8x64 : Shape := ⟨3, ![16896, 8, 64]⟩
abbrev S16896x512 : Shape := ⟨2, ![16896, 512]⟩

abbrev nBuf : Space → Nat
  | .hbm => 82
  | .vmem => 0
  | .smem => 0
  | _ => 0

abbrev bufTy : (tb : Table) → Fin (tcTables nBuf tb) → BufTy
  | .hbm, ⟨0, _⟩ => ⟨S4x16896x128, .bf16⟩
  | .hbm, ⟨1, _⟩ => ⟨S4x66x128x256, .bf16⟩
  | .hbm, ⟨2, _⟩ => ⟨S4x16896x128, .bf16⟩
  | .hbm, ⟨3, _⟩ => ⟨S4x16896x128, .f32⟩
  | .hbm, ⟨4, _⟩ => ⟨S4x16896x2x64, .f32⟩
  | .hbm, ⟨5, _⟩ => ⟨S4x2x16896x64, .f32⟩
  | .hbm, ⟨6, _⟩ => ⟨S8x16896x64, .f32⟩
  | .hbm, ⟨7, _⟩ => ⟨S4x16896x128, .f32⟩
  | .hbm, ⟨8, _⟩ => ⟨S4x16896x2x64, .f32⟩
  | .hbm, ⟨9, _⟩ => ⟨S4x2x16896x64, .f32⟩
  | .hbm, ⟨10, _⟩ => ⟨S8x16896x64, .f32⟩
  | .hbm, ⟨11, _⟩ => ⟨S4x66x128x256, .f32⟩
  | .hbm, ⟨12, _⟩ => ⟨S4x128x66x256, .f32⟩
  | .hbm, ⟨13, _⟩ => ⟨S8x64x16896, .f32⟩
  | .hbm, ⟨14, _⟩ => ⟨S8x16896x16896, .f32⟩
  | .hbm, ⟨15, _⟩ => ⟨S_, .f32⟩
  | .hbm, ⟨16, _⟩ => ⟨S_, .f32⟩
  | .hbm, ⟨17, _⟩ => ⟨S8x16896x16896, .f32⟩
  | .hbm, ⟨18, _⟩ => ⟨S8x16896x16896, .f32⟩
  | .hbm, ⟨19, _⟩ => ⟨S16896, .i32⟩
  | .hbm, ⟨20, _⟩ => ⟨S1x16896, .i32⟩
  | .hbm, ⟨21, _⟩ => ⟨S16896, .i32⟩
  | .hbm, ⟨22, _⟩ => ⟨S16896x1, .i32⟩
  | .hbm, ⟨23, _⟩ => ⟨S16896x16896, .i32⟩
  | .hbm, ⟨24, _⟩ => ⟨S16896x16896, .i32⟩
  | .hbm, ⟨25, _⟩ => ⟨S16896x16896, .i1⟩
  | .hbm, ⟨26, _⟩ => ⟨S1x16896x16896, .i1⟩
  | .hbm, ⟨27, _⟩ => ⟨S_, .f32⟩
  | .hbm, ⟨28, _⟩ => ⟨S8x16896x16896, .f32⟩
  | .hbm, ⟨29, _⟩ => ⟨S8x16896x16896, .f32⟩
  | .hbm, ⟨30, _⟩ => ⟨S8x16896x16896, .f32⟩
  | .hbm, ⟨31, _⟩ => ⟨S8x16896x16896, .f32⟩
  | .hbm, ⟨32, _⟩ => ⟨S8x16896x16896, .i1⟩
  | .hbm, ⟨33, _⟩ => ⟨S8x16896x16896, .f32⟩
  | .hbm, ⟨34, _⟩ => ⟨S8x16896x16896, .f32⟩
  | .hbm, ⟨35, _⟩ => ⟨S8x16896x16896, .f32⟩
  | .hbm, ⟨36, _⟩ => ⟨S8x16896x16896, .f32⟩
  | .hbm, ⟨37, _⟩ => ⟨S8x16896x16896, .f32⟩
  | .hbm, ⟨38, _⟩ => ⟨S8x16896x16896, .f32⟩
  | .hbm, ⟨39, _⟩ => ⟨S8x16896x16896, .f32⟩
  | .hbm, ⟨40, _⟩ => ⟨S8x16896x16896, .f32⟩
  | .hbm, ⟨41, _⟩ => ⟨S8x16896x16896, .f32⟩
  | .hbm, ⟨42, _⟩ => ⟨S_, .f32⟩
  | .hbm, ⟨43, _⟩ => ⟨S_, .f32⟩
  | .hbm, ⟨44, _⟩ => ⟨S8x16896x16896, .i1⟩
  | .hbm, ⟨45, _⟩ => ⟨S8x16896x16896, .f32⟩
  | .hbm, ⟨46, _⟩ => ⟨S8x16896x16896, .f32⟩
  | .hbm, ⟨47, _⟩ => ⟨S_, .f32⟩
  | .hbm, ⟨48, _⟩ => ⟨S_, .f32⟩
  | .hbm, ⟨49, _⟩ => ⟨S8x16896x16896, .f32⟩
  | .hbm, ⟨50, _⟩ => ⟨S8x16896x16895, .f32⟩
  | .hbm, ⟨51, _⟩ => ⟨S8x16896x1, .f32⟩
  | .hbm, ⟨52, _⟩ => ⟨S_, .f32⟩
  | .hbm, ⟨53, _⟩ => ⟨S8x16896x1, .f32⟩
  | .hbm, ⟨54, _⟩ => ⟨S8x16896x16896, .f32⟩
  | .hbm, ⟨55, _⟩ => ⟨S8x16896x16896, .f32⟩
  | .hbm, ⟨56, _⟩ => ⟨S_, .f32⟩
  | .hbm, ⟨57, _⟩ => ⟨S8x16896x16896, .f32⟩
  | .hbm, ⟨58, _⟩ => ⟨S8x16896x16896, .f32⟩
  | .hbm, ⟨59, _⟩ => ⟨S8x16896x16896, .f32⟩
  | .hbm, ⟨60, _⟩ => ⟨S8x16896x16896, .f32⟩
  | .hbm, ⟨61, _⟩ => ⟨S8x16896x16896, .i1⟩
  | .hbm, ⟨62, _⟩ => ⟨S8x16896x16896, .f32⟩
  | .hbm, ⟨63, _⟩ => ⟨S8x16896x16896, .f32⟩
  | .hbm, ⟨64, _⟩ => ⟨S8x16896x16896, .f32⟩
  | .hbm, ⟨65, _⟩ => ⟨S8x16896x16896, .f32⟩
  | .hbm, ⟨66, _⟩ => ⟨S8x16896x16896, .f32⟩
  | .hbm, ⟨67, _⟩ => ⟨S8x16896x16896, .f32⟩
  | .hbm, ⟨68, _⟩ => ⟨S8x16896x16896, .f32⟩
  | .hbm, ⟨69, _⟩ => ⟨S8x16896x16896, .f32⟩
  | .hbm, ⟨70, _⟩ => ⟨S8x16896x16896, .f32⟩
  | .hbm, ⟨71, _⟩ => ⟨S8x16896x16896, .f32⟩
  | .hbm, ⟨72, _⟩ => ⟨S8x16896x16896, .f32⟩
  | .hbm, ⟨73, _⟩ => ⟨S_, .f32⟩
  | .hbm, ⟨74, _⟩ => ⟨S_, .f32⟩
  | .hbm, ⟨75, _⟩ => ⟨S8x16896x16896, .i1⟩
  | .hbm, ⟨76, _⟩ => ⟨S8x16896x16896, .f32⟩
  | .hbm, ⟨77, _⟩ => ⟨S8x16896x16896, .f32⟩
  | .hbm, ⟨78, _⟩ => ⟨S8x16896x64, .f32⟩
  | .hbm, ⟨79, _⟩ => ⟨S16896x8x64, .f32⟩
  | .hbm, ⟨80, _⟩ => ⟨S16896x512, .f32⟩
  | .hbm, ⟨81, _⟩ => ⟨S16896x512, .bf16⟩
  | _, _ => ⟨S4x16896x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v23 : Ref sig .tc := ⟨.hbm, 40, rfl⟩
abbrev main_v24 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_call2_cst : Ref sig .tc := ⟨.hbm, 47, rfl⟩
abbrev main_call2_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_2 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩

abbrev nD : Nat := 1
abbrev τ : Topo := Topo.v7x

variable {F : FTy → Type} [FloatOps F]
-- ==== Kernel2.lean ====
abbrev S16896x1024 : Shape := ⟨2, ![16896, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16896x1024 : Shape := ⟨2, ![16896, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x4096 : Shape := ⟨2, ![1024, 4096]⟩
abbrev S16896x4096 : Shape := ⟨2, ![16896, 4096]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S1024x4096, .f32⟩
  | .hbm, ⟨23, _⟩ => ⟨S16896x4096, .f32⟩
  | .hbm, ⟨24, _⟩ => ⟨S_, .f32⟩
  | .hbm, ⟨25, _⟩ => ⟨S16896x4096, .f32⟩
  | .hbm, ⟨26, _⟩ => ⟨S16896x4096, .f32⟩
  | .hbm, ⟨27, _⟩ => ⟨S16896x4096, .f32⟩
  | .hbm, ⟨28, _⟩ => ⟨S4096x1024, .f32⟩
  | .hbm, ⟨29, _⟩ => ⟨S16896x1024, .f32⟩
  | .hbm, ⟨30, _⟩ => ⟨S1024, .f32⟩
  | .hbm, ⟨31, _⟩ => ⟨S16896x1024, .f32⟩
  | .hbm, ⟨32, _⟩ => ⟨S_, .f32⟩
  | .hbm, ⟨33, _⟩ => ⟨S16896, .f32⟩
  | .hbm, ⟨34, _⟩ => ⟨S16896x1, .f32⟩
  | .hbm, ⟨35, _⟩ => ⟨S_, .f32⟩
  | .hbm, ⟨36, _⟩ => ⟨S16896x1, .f32⟩
  | .hbm, ⟨37, _⟩ => ⟨S16896x1, .f32⟩
  | .hbm, ⟨38, _⟩ => ⟨S_, .f32⟩
  | .hbm, ⟨39, _⟩ => ⟨S16896x1, .f32⟩
  | .hbm, ⟨40, _⟩ => ⟨S16896x1, .f32⟩
  | .hbm, ⟨41, _⟩ => ⟨S16896x1, .f32⟩
  | .hbm, ⟨42, _⟩ => ⟨S16896x1024, .f32⟩
  | .hbm, ⟨43, _⟩ => ⟨S16896x1024, .f32⟩
  | .hbm, ⟨44, _⟩ => ⟨S1x1024, .f32⟩
  | .hbm, ⟨45, _⟩ => ⟨S16896x1024, .f32⟩
  | .hbm, ⟨46, _⟩ => ⟨S16896x1024, .f32⟩
  | .hbm, ⟨47, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S16896x512 : Shape := ⟨2, ![16896, 512]⟩
abbrev S16896x2048 : Shape := ⟨2, ![16896, 2048]⟩
abbrev S16896x1024 : Shape := ⟨2, ![16896, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x2048, .bf16⟩
  | .hbm, ⟨3, _⟩ => ⟨S16896x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1024x1024, .f32⟩
  | .hbm, ⟨13, _⟩ => ⟨S1024x1024, .bf16⟩
  | .hbm, ⟨14, _⟩ => ⟨S16896x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16896x512 : Shape := ⟨2, ![16896, 512]⟩
abbrev S16896x2048 : Shape := ⟨2, ![16896, 2048]⟩
abbrev S16896x1024 : Shape := ⟨2, ![16896, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16896 : Shape := ⟨1, ![16896]⟩
abbrev S16896x1 : Shape := ⟨2, ![16896, 1]⟩

abbrev nBuf : Space → Nat
  | .hbm => 40
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x2048, .bf16⟩
  | .hbm, ⟨3, _⟩ => ⟨S16896x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S16896x2048, .f32⟩
  | .hbm, ⟨9, _⟩ => ⟨S16896x1024, .f32⟩
  | .hbm, ⟨10, _⟩ => ⟨S16896x512, .f32⟩
  | .hbm, ⟨11, _⟩ => ⟨S512x1024, .f32⟩
  | .hbm, ⟨12, _⟩ => ⟨S16896x1024, .f32⟩
  | .hbm, ⟨13, _⟩ => ⟨S16896x1024, .f32⟩
  | .hbm, ⟨14, _⟩ => ⟨S16896x1024, .f32⟩
  | .hbm, ⟨15, _⟩ => ⟨S16896x512, .f32⟩
  | .hbm, ⟨16, _⟩ => ⟨S512x1024, .f32⟩
  | .hbm, ⟨17, _⟩ => ⟨S16896x1024, .f32⟩
  | .hbm, ⟨18, _⟩ => ⟨S16896x1024, .f32⟩
  | .hbm, ⟨19, _⟩ => ⟨S16896x1024, .f32⟩
  | .hbm, ⟨20, _⟩ => ⟨S1024x1024, .f32⟩
  | .hbm, ⟨21, _⟩ => ⟨S16896x1024, .f32⟩
  | .hbm, ⟨22, _⟩ => ⟨S1024, .f32⟩
  | .hbm, ⟨23, _⟩ => ⟨S16896x1024, .f32⟩
  | .hbm, ⟨24, _⟩ => ⟨S_, .f32⟩
  | .hbm, ⟨25, _⟩ => ⟨S16896, .f32⟩
  | .hbm, ⟨26, _⟩ => ⟨S16896x1, .f32⟩
  | .hbm, ⟨27, _⟩ => ⟨S_, .f32⟩
  | .hbm, ⟨28, _⟩ => ⟨S16896x1, .f32⟩
  | .hbm, ⟨29, _⟩ => ⟨S16896x1, .f32⟩
  | .hbm, ⟨30, _⟩ => ⟨S_, .f32⟩
  | .hbm, ⟨31, _⟩ => ⟨S16896x1, .f32⟩
  | .hbm, ⟨32, _⟩ => ⟨S16896x1, .f32⟩
  | .hbm, ⟨33, _⟩ => ⟨S16896x1, .f32⟩
  | .hbm, ⟨34, _⟩ => ⟨S16896x1024, .f32⟩
  | .hbm, ⟨35, _⟩ => ⟨S16896x1024, .f32⟩
  | .hbm, ⟨36, _⟩ => ⟨S1x1024, .f32⟩
  | .hbm, ⟨37, _⟩ => ⟨S16896x1024, .f32⟩
  | .hbm, ⟨38, _⟩ => ⟨S16896x1024, .f32⟩
  | .hbm, ⟨39, _⟩ => ⟨S16896x1024, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S16896x1024 : Shape := ⟨2, ![16896, 1024]⟩
abbrev S1x1024x5416 : Shape := ⟨3, ![1, 1024, 5416]⟩
abbrev S1x2048 : Shape := ⟨2, ![1, 2048]⟩
abbrev S1x1024 : Shape := ⟨2, ![1, 1024]⟩
abbrev S1024x5416 : Shape := ⟨2, ![1024, 5416]⟩
abbrev S1024x512 : Shape := ⟨2, ![1024, 512]⟩
abbrev S1024x32 : Shape := ⟨2, ![1024, 32]⟩
abbrev S1024x2048 : Shape := ⟨2, ![1024, 2048]⟩
abbrev S_ : Shape := ⟨0, ![]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S8 : Shape := ⟨1, ![8]⟩
abbrev S16896 : Shape := ⟨1, ![16896]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S4 : Shape := ⟨1, ![4]⟩
abbrev S1x4 : Shape := ⟨2, ![1, 4]⟩
abbrev S16896x4 : Shape := ⟨2, ![16896, 4]⟩
abbrev S16896x24 : Shape := ⟨2, ![16896, 24]⟩
abbrev S16896x32 : Shape := ⟨2, ![16896, 32]⟩
abbrev S1x16896x1x32 : Shape := ⟨4, ![1, 16896, 1, 32]⟩
abbrev S1x16896x4x32 : Shape := ⟨4, ![1, 16896, 4, 32]⟩
abbrev S16896x256 : Shape := ⟨2, ![16896, 256]⟩
abbrev S1024x1536 : Shape := ⟨2, ![1024, 1536]⟩
abbrev S1024x640 : Shape := ⟨2, ![1024, 640]⟩
abbrev S1024x8x64 : Shape := ⟨3, ![1024, 8, 64]⟩
abbrev S1024x8x8 : Shape := ⟨3, ![1024, 8, 8]⟩
abbrev S1 : Shape := ⟨1, ![1]⟩
abbrev S1024x4x32 : Shape := ⟨3, ![1024, 4, 32]⟩
abbrev S1024x4x4 : Shape := ⟨3, ![1024, 4, 4]⟩
abbrev S4x16896x128 : Shape := ⟨3, ![4, 16896, 128]⟩
abbrev S16896x2048 : Shape := ⟨2, ![16896, 2048]⟩
abbrev S256x1024 : Shape := ⟨2, ![256, 1024]⟩
abbrev S256x256 : Shape := ⟨2, ![256, 256]⟩
abbrev S4x256x128 : Shape := ⟨3, ![4, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩
abbrev S1x256x128 : Shape := ⟨3, ![1, 256, 128]⟩
abbrev S256x640 : Shape := ⟨2, ![256, 640]⟩

abbrev nBuf : Space → Nat
  | .hbm => 119
  | .vmem => 24
  | .smem => 0
  | _ => 0

abbrev bufTy : (tb : Table) → Fin (tcTables nBuf tb) → BufTy
  | .hbm, ⟨0, _⟩ => ⟨S16896x1024, .f32⟩
  | .hbm, ⟨1, _⟩ => ⟨S1x1024x5416, .f32⟩
  | .hbm, ⟨2, _⟩ => ⟨S1x2048, .f32⟩
  | .hbm, ⟨3, _⟩ => ⟨S1x1024, .f32⟩
  | .hbm, ⟨4, _⟩ => ⟨S1024x5416, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x32, .f32⟩
  | .hbm, ⟨10, _⟩ => ⟨S1024x2048, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1x1024x1x32, .f32⟩
  | .hbm, ⟨18, _⟩ => ⟨S1x1024x4x32, .f32⟩
  | .hbm, ⟨19, _⟩ => ⟨S1024x128, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S16896, .i32⟩
  | .hbm, ⟨29, _⟩ => ⟨S16896, .f32⟩
  | .hbm, ⟨30, _⟩ => ⟨S16896x1, .f32⟩
  | .hbm, ⟨31, _⟩ => ⟨S1x8, .f32⟩
  | .hbm, ⟨32, _⟩ => ⟨S16896x8, .f32⟩
  | .hbm, ⟨33, _⟩ => ⟨S16896x8, .f32⟩
  | .hbm, ⟨34, _⟩ => ⟨S16896x8, .f32⟩
  | .hbm, ⟨35, _⟩ => ⟨S16896x8, .f32⟩
  | .hbm, ⟨36, _⟩ => ⟨S16896x8, .f32⟩
  | .hbm, ⟨37, _⟩ => ⟨S_, .f32⟩
  | .hbm, ⟨38, _⟩ => ⟨S16896x48, .f32⟩
  | .hbm, ⟨39, _⟩ => ⟨S16896x64, .f32⟩
  | .hbm, ⟨40, _⟩ => ⟨S_, .f32⟩
  | .hbm, ⟨41, _⟩ => ⟨S16896x48, .f32⟩
  | .hbm, ⟨42, _⟩ => ⟨S16896x64, .f32⟩
  | .hbm, ⟨43, _⟩ => ⟨S1x16896x1x64, .f32⟩
  | .hbm, ⟨44, _⟩ => ⟨S1x16896x2x64, .f32⟩
  | .hbm, ⟨45, _⟩ => ⟨S16896x128, .f32⟩
  | .hbm, ⟨46, _⟩ => ⟨S1x16896x1x64, .f32⟩
  | .hbm, ⟨47, _⟩ => ⟨S1x16896x2x64, .f32⟩
  | .hbm, ⟨48, _⟩ => ⟨S16896x128, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S16896, .i32⟩
  | .hbm, ⟨58, _⟩ => ⟨S16896, .f32⟩
  | .hbm, ⟨59, _⟩ => ⟨S16896x1, .f32⟩
  | .hbm, ⟨60, _⟩ => ⟨S1x4, .f32⟩
  | .hbm, ⟨61, _⟩ => ⟨S16896x4, .f32⟩
  | .hbm, ⟨62, _⟩ => ⟨S16896x4, .f32⟩
  | .hbm, ⟨63, _⟩ => ⟨S16896x4, .f32⟩
  | .hbm, ⟨64, _⟩ => ⟨S16896x4, .f32⟩
  | .hbm, ⟨65, _⟩ => ⟨S16896x4, .f32⟩
  | .hbm, ⟨66, _⟩ => ⟨S_, .f32⟩
  | .hbm, ⟨67, _⟩ => ⟨S16896x24, .f32⟩
  | .hbm, ⟨68, _⟩ => ⟨S16896x32, .f32⟩
  | .hbm, ⟨69, _⟩ => ⟨S_, .f32⟩
  | .hbm, ⟨70, _⟩ => ⟨S16896x24, .f32⟩
  | .hbm, ⟨71, _⟩ => ⟨S16896x32, .f32⟩
  | .hbm, ⟨72, _⟩ => ⟨S1x16896x1x32, .f32⟩
  | .hbm, ⟨73, _⟩ => ⟨S1x16896x4x32, .f32⟩
  | .hbm, ⟨74, _⟩ => ⟨S16896x128, .f32⟩
  | .hbm, ⟨75, _⟩ => ⟨S1x16896x1x32, .f32⟩
  | .hbm, ⟨76, _⟩ => ⟨S1x16896x4x32, .f32⟩
  | .hbm, ⟨77, _⟩ => ⟨S16896x128, .f32⟩
  | .hbm, ⟨78, _⟩ => ⟨S16896x256, .f32⟩
  | .hbm, ⟨79, _⟩ => ⟨S16896x256, .f32⟩
  | .hbm, ⟨80, _⟩ => ⟨S1024x1536, .f32⟩
  | .hbm, ⟨81, _⟩ => ⟨S1024x1536, .bf16⟩
  | .hbm, ⟨82, _⟩ => ⟨S1024x640, .f32⟩
  | .hbm, ⟨83, _⟩ => ⟨S1024x8x64, .f32⟩
  | .hbm, ⟨84, _⟩ => ⟨S_, .f32⟩
  | .hbm, ⟨85, _⟩ => ⟨S1024x8x64, .f32⟩
  | .hbm, ⟨86, _⟩ => ⟨S1024x8x8, .f32⟩
  | .hbm, ⟨87, _⟩ => ⟨S1024x8x8, .f32⟩
  | .hbm, ⟨88, _⟩ => ⟨S_, .i32⟩
  | .hbm, ⟨89, _⟩ => ⟨S1, .i32⟩
  | .hbm, ⟨90, _⟩ => ⟨S1024x8x64, .f32⟩
  | .hbm, ⟨91, _⟩ => ⟨S1024x8x8, .f32⟩
  | .hbm, ⟨92, _⟩ => ⟨S_, .i32⟩
  | .hbm, ⟨93, _⟩ => ⟨S1, .i32⟩
  | .hbm, ⟨94, _⟩ => ⟨S1024x8x64, .f32⟩
  | .hbm, ⟨95, _⟩ => ⟨S1024x512, .f32⟩
  | .hbm, ⟨96, _⟩ => ⟨S1024x4x32, .f32⟩
  | .hbm, ⟨97, _⟩ => ⟨S_, .f32⟩
  | .hbm, ⟨98, _⟩ => ⟨S1024x4x32, .f32⟩
  | .hbm, ⟨99, _⟩ => ⟨S1024x4x4, .f32⟩
  | .hbm, ⟨100, _⟩ => ⟨S1024x4x4, .f32⟩
  | .hbm, ⟨101, _⟩ => ⟨S_, .i32⟩
  | .hbm, ⟨102, _⟩ => ⟨S1, .i32⟩
  | .hbm, ⟨103, _⟩ => ⟨S1024x4x32, .f32⟩
  | .hbm, ⟨104, _⟩ => ⟨S1024x4x4, .f32⟩
  | .hbm, ⟨105, _⟩ => ⟨S_, .i32⟩
  | .hbm, ⟨106, _⟩ => ⟨S1, .i32⟩
  | .hbm, ⟨107, _⟩ => ⟨S1024x4x32, .f32⟩
  | .hbm, ⟨108, _⟩ => ⟨S1024x128, .f32⟩
  | .hbm, ⟨109, _⟩ => ⟨S1024x640, .f32⟩
  | .hbm, ⟨110, _⟩ => ⟨S1024x640, .bf16⟩
  | .hbm, ⟨111, _⟩ => ⟨S1024x640, .bf16⟩
  | .hbm, ⟨112, _⟩ => ⟨S1024x2048, .bf16⟩
  | .hbm, ⟨113, _⟩ => ⟨S4x16896x128, .bf16⟩
  | .hbm, ⟨114, _⟩ => ⟨S4x16896x128, .bf16⟩
  | .hbm, ⟨115, _⟩ => ⟨S4x16896x128, .bf16⟩
  | .hbm, ⟨116, _⟩ => ⟨S4x16896x128, .bf16⟩
  | .hbm, ⟨117, _⟩ => ⟨S16896x128, .bf16⟩
  | .hbm, ⟨118, _⟩ => ⟨S16896x2048, .bf16⟩
  | .local _ .vmem, ⟨0, _⟩ => ⟨S256x1024, .f32⟩
  | .local _ .vmem, ⟨1, _⟩ => ⟨S256x1024, .f32⟩
  | .local _ .vmem, ⟨2, _⟩ => ⟨S1024x1536, .bf16⟩
  | .local _ .vmem, ⟨3, _⟩ => ⟨S1024x640, .bf16⟩
  | .local _ .vmem, ⟨4, _⟩ => ⟨S1024x640, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1024x2048, .bf16⟩
  | .local _ .vmem, ⟨10, _⟩ => ⟨S1x2048, .f32⟩
  | .local _ .vmem, ⟨11, _⟩ => ⟨S1x1024, .f32⟩
  | .local _ .vmem, ⟨12, _⟩ => ⟨S4x256x128, .bf16⟩
  | .local _ .vmem, ⟨13, _⟩ => ⟨S4x256x128, .bf16⟩
  | .local _ .vmem, ⟨14, _⟩ => ⟨S4x256x128, .bf16⟩
  | .local _ .vmem, ⟨15, _⟩ => ⟨S4x256x128, .bf16⟩
  | .local _ .vmem, ⟨16, _⟩ => ⟨S4x256x128, .bf16⟩
  | .local _ .vmem, ⟨17, _⟩ => ⟨S4x256x128, .bf16⟩
  | .local _ .vmem, ⟨18, _⟩ => ⟨S4x256x128, .bf16⟩
  | .local _ .vmem, ⟨19, _⟩ => ⟨S4x256x128, .bf16⟩
  | .local _ .vmem, ⟨20, _⟩ => ⟨S256x128, .bf16⟩
  | .local _ .vmem, ⟨21, _⟩ => ⟨S256x128, .bf16⟩
  | .local _ .vmem, ⟨22, _⟩ => ⟨S256x2048, .bf16⟩
  | .local _ .vmem, ⟨23, _⟩ => ⟨S256x2048, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_c_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_c_13 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93_0 : Ref sig .tc := ⟨.hbm, 113, rfl⟩
abbrev main_v93_1 : Ref sig .tc := ⟨.hbm, 114, rfl⟩
abbrev main_v93_2 : Ref sig .tc := ⟨.hbm, 115, rfl⟩
abbrev main_v93_3 : Ref sig .tc := ⟨.hbm, 116, rfl⟩
abbrev main_v93_4 : Ref sig .tc := ⟨.hbm, 117, rfl⟩
abbrev main_v93_5 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16896x1024 : Shape := ⟨2, ![16896, 1024]⟩
abbrev S1x1024x5416 : Shape := ⟨3, ![1, 1024, 5416]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x5416 : Shape := ⟨2, ![1024, 5416]⟩
abbrev S16896x5416 : Shape := ⟨2, ![16896, 5416]⟩
abbrev S16896x512 : Shape := ⟨2, ![16896, 512]⟩
abbrev S16896x256 : Shape := ⟨2, ![16896, 256]⟩
abbrev S16896x32 : Shape := ⟨2, ![16896, 32]⟩
abbrev S16896x8 : Shape := ⟨2, ![16896, 8]⟩
abbrev S16896x2048 : Shape := ⟨2, ![16896, 2048]⟩
abbrev S16896x8x64 : Shape := ⟨3, ![16896, 8, 64]⟩
abbrev S8 : Shape := ⟨1, ![8]⟩
abbrev S1x8 : Shape := ⟨2, ![1, 8]⟩
abbrev S16896x1x8 : Shape := ⟨3, ![16896, 1, 8]⟩
abbrev S16896x8x8 : Shape := ⟨3, ![16896, 8, 8]⟩
abbrev S16896x8x48 : Shape := ⟨3, ![16896, 8, 48]⟩
abbrev S16896x1x32 : Shape := ⟨3, ![16896, 1, 32]⟩
abbrev S4 : Shape := ⟨1, ![4]⟩
abbrev S1x4 : Shape := ⟨2, ![1, 4]⟩
abbrev S16896x4 : Shape := ⟨2, ![16896, 4]⟩
abbrev S16896x1x4 : Shape := ⟨3, ![16896, 1, 4]⟩
abbrev S16896x1x24 : Shape := ⟨3, ![16896, 1, 24]⟩
abbrev S16896x4x128 : Shape := ⟨3, ![16896, 4, 128]⟩
abbrev S4x16896x128 : Shape := ⟨3, ![4, 16896, 128]⟩
abbrev S16896x128 : Shape := ⟨2, ![16896, 128]⟩
abbrev S2048 : Shape := ⟨1, ![2048]⟩

abbrev nBuf : Space → Nat
  | .hbm => 130
  | .vmem => 0
  | .smem => 0
  | _ => 0

abbrev hbmTy0_0 (i : Nat) : BufTy := match i % 128 with
  | 0 => ⟨S16896x1024, .f32⟩
  | 1 => ⟨S1x1024x5416, .f32⟩
  | 2 => ⟨S1x2048, .f32⟩
  | 3 => ⟨S1x1024, .f32⟩
  | 4 => ⟨S1024, .f32⟩
  | 5 => ⟨S16896x1024, .f32⟩
  | 6 => ⟨S_, .f32⟩
  | 7 => ⟨S16896, .f32⟩
  | 8 => ⟨S16896x1, .f32⟩
  | 9 => ⟨S_, .f32⟩
  | 10 => ⟨S16896x1, .f32⟩
  | 11 => ⟨S16896x1, .f32⟩
  | 12 => ⟨S_, .f32⟩
  | 13 => ⟨S16896x1, .f32⟩
  | 14 => ⟨S16896x1, .f32⟩
  | 15 => ⟨S16896x1, .f32⟩
  | 16 => ⟨S16896x1024, .f32⟩
  | 17 => ⟨S16896x1024, .f32⟩
  | 18 => ⟨S1x1024, .f32⟩
  | 19 => ⟨S16896x1024, .f32⟩
  | 20 => ⟨S16896x1024, .f32⟩
  | 21 => ⟨S1024x5416, .f32⟩
  | 22 => ⟨S16896x5416, .f32⟩
  | 23 => ⟨S16896x512, .f32⟩
  | 24 => ⟨S16896x512, .f32⟩
  | 25 => ⟨S16896x512, .f32⟩
  | 26 => ⟨S16896x512, .f32⟩
  | 27 => ⟨S16896x512, .f32⟩
  | 28 => ⟨S16896x512, .f32⟩
  | 29 => ⟨S16896x256, .f32⟩
  | 30 => ⟨S16896x32, .f32⟩
  | 31 => ⟨S16896x8, .f32⟩
  | 32 => ⟨S16896x2048, .f32⟩
  | 33 => ⟨S16896, .i32⟩
  | 34 => ⟨S16896x8x64, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S16896, .f32⟩
  | 44 => ⟨S16896x1, .f32⟩
  | 45 => ⟨S1x8, .f32⟩
  | 46 => ⟨S16896x8, .f32⟩
  | 47 => ⟨S16896x8, .f32⟩
  | 48 => ⟨S16896x8, .f32⟩
  | 49 => ⟨S16896x8, .f32⟩
  | 50 => ⟨S16896x1x8, .f32⟩
  | 51 => ⟨S16896x8, .f32⟩
  | 52 => ⟨S16896x1x8, .f32⟩
  | 53 => ⟨S16896x8x8, .f32⟩
  | 54 => ⟨S16896x8x8, .f32⟩
  | 55 => ⟨S16896x8x8, .f32⟩
  | 56 => ⟨S16896x8x8, .f32⟩
  | 57 => ⟨S16896x8x8, .f32⟩
  | 58 => ⟨S16896x8x8, .f32⟩
  | 59 => ⟨S16896x8x8, .f32⟩
  | 60 => ⟨S16896x8x8, .f32⟩
  | 61 => ⟨S16896x8x8, .f32⟩
  | 62 => ⟨S16896x8x8, .f32⟩
  | 63 => ⟨S16896x8x8, .f32⟩
  | 64 => ⟨S16896x8x8, .f32⟩
  | 65 => ⟨S16896x8x48, .f32⟩
  | 66 => ⟨S16896x8x64, .f32⟩
  | 67 => ⟨S_, .f32⟩
  | 68 => ⟨S16896x8x64, .f32⟩
  | 69 => ⟨S16896x8x64, .f32⟩
  | 70 => ⟨S16896x1x32, .f32⟩
  | 71 => ⟨S4, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S16896, .f32⟩
  | 80 => ⟨S16896x1, .f32⟩
  | 81 => ⟨S1x4, .f32⟩
  | 82 => ⟨S16896x4, .f32⟩
  | 83 => ⟨S16896x4, .f32⟩
  | 84 => ⟨S16896x4, .f32⟩
  | 85 => ⟨S16896x4, .f32⟩
  | 86 => ⟨S16896x1x4, .f32⟩
  | 87 => ⟨S16896x4, .f32⟩
  | 88 => ⟨S16896x1x4, .f32⟩
  | 89 => ⟨S16896x1x4, .f32⟩
  | 90 => ⟨S16896x1x4, .f32⟩
  | 91 => ⟨S16896x1x4, .f32⟩
  | 92 => ⟨S16896x1x4, .f32⟩
  | 93 => ⟨S16896x1x4, .f32⟩
  | 94 => ⟨S16896x1x4, .f32⟩
  | 95 => ⟨S16896x1x4, .f32⟩
  | 96 => ⟨S16896x1x4, .f32⟩
  | 97 => ⟨S16896x1x24, .f32⟩
  | 98 => ⟨S16896x1x32, .f32⟩
  | 99 => ⟨S16896x32, .f32⟩
  | 100 => ⟨S_, .f32⟩
  | 101 => ⟨S16896x512, .f32⟩
  | 102 => ⟨S16896x512, .f32⟩
  | 103 => ⟨S16896x4x128, .f32⟩
  | 104 => ⟨S4x16896x128, .f32⟩
  | 105 => ⟨S4x16896x128, .bf16⟩
  | 106 => ⟨S16896x4x128, .f32⟩
  | 107 => ⟨S4x16896x128, .f32⟩
  | 108 => ⟨S4x16896x128, .bf16⟩
  | 109 => ⟨S16896x4x128, .f32⟩
  | 110 => ⟨S4x16896x128, .f32⟩
  | 111 => ⟨S4x16896x128, .bf16⟩
  | 112 => ⟨S16896x4x128, .f32⟩
  | 113 => ⟨S4x16896x128, .f32⟩
  | 114 => ⟨S4x16896x128, .bf16⟩
  | 115 => ⟨S16896x128, .f32⟩
  | 116 => ⟨S16896x128, .bf16⟩
  | 117 => ⟨S2048, .f32⟩
  | 118 => ⟨S1x2048, .f32⟩
  | 119 => ⟨S16896x2048, .f32⟩
  | 120 => ⟨S16896x2048, .f32⟩
  | 121 => ⟨S16896x2048, .f32⟩
  | 122 => ⟨S16896x2048, .f32⟩
  | 123 => ⟨S_, .f32⟩
  | 124 => ⟨S16896x2048, .f32⟩
  | 125 => ⟨S16896x2048, .f32⟩
  | 126 => ⟨S_, .f32⟩
  | 127 => ⟨S16896x2048, .f32⟩
  | _ => ⟨S16896x1024, .f32⟩

abbrev hbmTy0_1 (i : Nat) : BufTy := match i % 128 with
  | 0 => ⟨S16896x2048, .f32⟩
  | 1 => ⟨S16896x2048, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_8 : Ref sig .tc := ⟨.hbm, 123, rfl⟩
abbrev main_v110 : Ref sig .tc := ⟨.hbm, 124, rfl⟩
abbrev main_v111 : Ref sig .tc := ⟨.hbm, 125, rfl⟩
abbrev main_cst_9 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩

abbrev nD : Nat := 1
abbrev τ : Topo := Topo.v7x

variable {F : FTy → Type} [FloatOps F]
-- ==== Kernel5.lean ====
abbrev S16896x1024 : Shape := ⟨2, ![16896, 1024]⟩
abbrev S1x1024x5416 : Shape := ⟨3, ![1, 1024, 5416]⟩
abbrev S1x1024 : Shape := ⟨2, ![1, 1024]⟩
abbrev S1024x5416 : Shape := ⟨2, ![1024, 5416]⟩
abbrev S1024x512 : Shape := ⟨2, ![1024, 512]⟩
abbrev S1024x256 : Shape := ⟨2, ![1024, 256]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S16896 : Shape := ⟨1, ![16896]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S4 : Shape := ⟨1, ![4]⟩
abbrev S1x4 : Shape := ⟨2, ![1, 4]⟩
abbrev S16896x4 : Shape := ⟨2, ![16896, 4]⟩
abbrev S16896x24 : Shape := ⟨2, ![16896, 24]⟩
abbrev S16896x32 : Shape := ⟨2, ![16896, 32]⟩
abbrev S1x16896x1x32 : Shape := ⟨4, ![1, 16896, 1, 32]⟩
abbrev S1x16896x4x32 : Shape := ⟨4, ![1, 16896, 4, 32]⟩
abbrev S16896x256 : Shape := ⟨2, ![16896, 256]⟩
abbrev S512x1024 : Shape := ⟨2, ![512, 1024]⟩
abbrev S1024x768 : Shape := ⟨2, ![1024, 768]⟩
abbrev S1024x8x64 : Shape := ⟨3, ![1024, 8, 64]⟩
abbrev S1024x8x8 : Shape := ⟨3, ![1024, 8, 8]⟩
abbrev S1 : Shape := ⟨1, ![1]⟩
abbrev S1024x8x32 : Shape := ⟨3, ![1024, 8, 32]⟩
abbrev S1024x8x4 : Shape := ⟨3, ![1024, 8, 4]⟩
abbrev S768x1024 : Shape := ⟨2, ![768, 1024]⟩
abbrev S256x16896 : Shape := ⟨2, ![256, 16896]⟩
abbrev S128x1024 : Shape := ⟨2, ![128, 1024]⟩
abbrev S4x66x128x256 : Shape := ⟨4, ![4, 66, 128, 256]⟩
abbrev S2x128x16896 : Shape := ⟨3, ![2, 128, 16896]⟩
abbrev S128x16896 : Shape := ⟨2, ![128, 16896]⟩
abbrev S256x1024 : Shape := ⟨2, ![256, 1024]⟩
abbrev S256x256 : Shape := ⟨2, ![256, 256]⟩
abbrev S4x1x128x256 : Shape := ⟨4, ![4, 1, 128, 256]⟩
abbrev S2x128x256 : Shape := ⟨3, ![2, 128, 256]⟩
abbrev S128x256 : Shape := ⟨2, ![128, 256]⟩
abbrev S256 : Shape := ⟨1, ![256]⟩
abbrev S256x1 : Shape := ⟨2, ![256, 1]⟩
abbrev S512x256 : Shape := ⟨2, ![512, 256]⟩
abbrev S1x1x128x256 : Shape := ⟨4, ![1, 1, 128, 256]⟩
abbrev S768x256 : Shape := ⟨2, ![768, 256]⟩
abbrev S1x128x256 : Shape := ⟨3, ![1, 128, 256]⟩

abbrev nBuf : Space → Nat
  | .hbm => 116
  | .vmem => 19
  | .smem => 0
  | _ => 0

abbrev bufTy : (tb : Table) → Fin (tcTables nBuf tb) → BufTy
  | .hbm, ⟨0, _⟩ => ⟨S16896x1024, .f32⟩
  | .hbm, ⟨1, _⟩ => ⟨S1x1024x5416, .f32⟩
  | .hbm, ⟨2, _⟩ => ⟨S1x1024, .f32⟩
  | .hbm, ⟨3, _⟩ => ⟨S1024x5416, .f32⟩
  | .hbm, ⟨4, _⟩ => ⟨S1024x512, .f32⟩
  | .hbm, ⟨5, _⟩ => ⟨S1024x512, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x8, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S16896, .i32⟩
  | .hbm, ⟨23, _⟩ => ⟨S16896, .f32⟩
  | .hbm, ⟨24, _⟩ => ⟨S16896x1, .f32⟩
  | .hbm, ⟨25, _⟩ => ⟨S1x8, .f32⟩
  | .hbm, ⟨26, _⟩ => ⟨S16896x8, .f32⟩
  | .hbm, ⟨27, _⟩ => ⟨S16896x8, .f32⟩
  | .hbm, ⟨28, _⟩ => ⟨S16896x8, .f32⟩
  | .hbm, ⟨29, _⟩ => ⟨S16896x8, .f32⟩
  | .hbm, ⟨30, _⟩ => ⟨S16896x8, .f32⟩
  | .hbm, ⟨31, _⟩ => ⟨S_, .f32⟩
  | .hbm, ⟨32, _⟩ => ⟨S16896x48, .f32⟩
  | .hbm, ⟨33, _⟩ => ⟨S16896x64, .f32⟩
  | .hbm, ⟨34, _⟩ => ⟨S_, .f32⟩
  | .hbm, ⟨35, _⟩ => ⟨S16896x48, .f32⟩
  | .hbm, ⟨36, _⟩ => ⟨S16896x64, .f32⟩
  | .hbm, ⟨37, _⟩ => ⟨S1x16896x1x64, .f32⟩
  | .hbm, ⟨38, _⟩ => ⟨S1x16896x2x64, .f32⟩
  | .hbm, ⟨39, _⟩ => ⟨S16896x128, .f32⟩
  | .hbm, ⟨40, _⟩ => ⟨S1x16896x1x64, .f32⟩
  | .hbm, ⟨41, _⟩ => ⟨S1x16896x2x64, .f32⟩
  | .hbm, ⟨42, _⟩ => ⟨S16896x128, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S16896, .i32⟩
  | .hbm, ⟨52, _⟩ => ⟨S16896, .f32⟩
  | .hbm, ⟨53, _⟩ => ⟨S16896x1, .f32⟩
  | .hbm, ⟨54, _⟩ => ⟨S1x4, .f32⟩
  | .hbm, ⟨55, _⟩ => ⟨S16896x4, .f32⟩
  | .hbm, ⟨56, _⟩ => ⟨S16896x4, .f32⟩
  | .hbm, ⟨57, _⟩ => ⟨S16896x4, .f32⟩
  | .hbm, ⟨58, _⟩ => ⟨S16896x4, .f32⟩
  | .hbm, ⟨59, _⟩ => ⟨S16896x4, .f32⟩
  | .hbm, ⟨60, _⟩ => ⟨S_, .f32⟩
  | .hbm, ⟨61, _⟩ => ⟨S16896x24, .f32⟩
  | .hbm, ⟨62, _⟩ => ⟨S16896x32, .f32⟩
  | .hbm, ⟨63, _⟩ => ⟨S_, .f32⟩
  | .hbm, ⟨64, _⟩ => ⟨S16896x24, .f32⟩
  | .hbm, ⟨65, _⟩ => ⟨S16896x32, .f32⟩
  | .hbm, ⟨66, _⟩ => ⟨S1x16896x1x32, .f32⟩
  | .hbm, ⟨67, _⟩ => ⟨S1x16896x4x32, .f32⟩
  | .hbm, ⟨68, _⟩ => ⟨S16896x128, .f32⟩
  | .hbm, ⟨69, _⟩ => ⟨S1x16896x1x32, .f32⟩
  | .hbm, ⟨70, _⟩ => ⟨S1x16896x4x32, .f32⟩
  | .hbm, ⟨71, _⟩ => ⟨S16896x128, .f32⟩
  | .hbm, ⟨72, _⟩ => ⟨S16896x256, .f32⟩
  | .hbm, ⟨73, _⟩ => ⟨S16896x256, .f32⟩
  | .hbm, ⟨74, _⟩ => ⟨S512x1024, .f32⟩
  | .hbm, ⟨75, _⟩ => ⟨S512x1024, .bf16⟩
  | .hbm, ⟨76, _⟩ => ⟨S1024x768, .f32⟩
  | .hbm, ⟨77, _⟩ => ⟨S1024x8x64, .f32⟩
  | .hbm, ⟨78, _⟩ => ⟨S_, .f32⟩
  | .hbm, ⟨79, _⟩ => ⟨S1024x8x64, .f32⟩
  | .hbm, ⟨80, _⟩ => ⟨S1024x8x8, .f32⟩
  | .hbm, ⟨81, _⟩ => ⟨S1024x8x8, .f32⟩
  | .hbm, ⟨82, _⟩ => ⟨S_, .i32⟩
  | .hbm, ⟨83, _⟩ => ⟨S1, .i32⟩
  | .hbm, ⟨84, _⟩ => ⟨S1024x8x64, .f32⟩
  | .hbm, ⟨85, _⟩ => ⟨S1024x8x8, .f32⟩
  | .hbm, ⟨86, _⟩ => ⟨S_, .i32⟩
  | .hbm, ⟨87, _⟩ => ⟨S1, .i32⟩
  | .hbm, ⟨88, _⟩ => ⟨S1024x8x64, .f32⟩
  | .hbm, ⟨89, _⟩ => ⟨S1024x512, .f32⟩
  | .hbm, ⟨90, _⟩ => ⟨S1024x8x32, .f32⟩
  | .hbm, ⟨91, _⟩ => ⟨S_, .f32⟩
  | .hbm, ⟨92, _⟩ => ⟨S1024x8x32, .f32⟩
  | .hbm, ⟨93, _⟩ => ⟨S1024x8x4, .f32⟩
  | .hbm, ⟨94, _⟩ => ⟨S1024x8x4, .f32⟩
  | .hbm, ⟨95, _⟩ => ⟨S_, .i32⟩
  | .hbm, ⟨96, _⟩ => ⟨S1, .i32⟩
  | .hbm, ⟨97, _⟩ => ⟨S1024x8x32, .f32⟩
  | .hbm, ⟨98, _⟩ => ⟨S1024x8x4, .f32⟩
  | .hbm, ⟨99, _⟩ => ⟨S_, .i32⟩
  | .hbm, ⟨100, _⟩ => ⟨S1, .i32⟩
  | .hbm, ⟨101, _⟩ => ⟨S1024x8x32, .f32⟩
  | .hbm, ⟨102, _⟩ => ⟨S1024x256, .f32⟩
  | .hbm, ⟨103, _⟩ => ⟨S1024x768, .f32⟩
  | .hbm, ⟨104, _⟩ => ⟨S768x1024, .f32⟩
  | .hbm, ⟨105, _⟩ => ⟨S768x1024, .bf16⟩
  | .hbm, ⟨106, _⟩ => ⟨S768x1024, .f32⟩
  | .hbm, ⟨107, _⟩ => ⟨S768x1024, .bf16⟩
  | .hbm, ⟨108, _⟩ => ⟨S256x16896, .f32⟩
  | .hbm, ⟨109, _⟩ => ⟨S256x16896, .f32⟩
  | .hbm, ⟨110, _⟩ => ⟨S128x1024, .f32⟩
  | .hbm, ⟨111, _⟩ => ⟨S128x1024, .bf16⟩
  | .hbm, ⟨112, _⟩ => ⟨S4x66x128x256, .bf16⟩
  | .hbm, ⟨113, _⟩ => ⟨S4x66x128x256, .bf16⟩
  | .hbm, ⟨114, _⟩ => ⟨S2x128x16896, .bf16⟩
  | .hbm, ⟨115, _⟩ => ⟨S128x16896, .f32⟩
  | .local _ .vmem, ⟨0, _⟩ => ⟨S256x1024, .f32⟩
  | .local _ .vmem, ⟨1, _⟩ => ⟨S256x1024, .f32⟩
  | .local _ .vmem, ⟨2, _⟩ => ⟨S512x1024, .bf16⟩
  | .local _ .vmem, ⟨3, _⟩ => ⟨S768x1024, .bf16⟩
  | .local _ .vmem, ⟨4, _⟩ => ⟨S768x1024, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S128x1024, .bf16⟩
  | .local _ .vmem, ⟨10, _⟩ => ⟨S1x1024, .f32⟩
  | .local _ .vmem, ⟨11, _⟩ => ⟨S4x1x128x256, .bf16⟩
  | .local _ .vmem, ⟨12, _⟩ => ⟨S4x1x128x256, .bf16⟩
  | .local _ .vmem, ⟨13, _⟩ => ⟨S4x1x128x256, .bf16⟩
  | .local _ .vmem, ⟨14, _⟩ => ⟨S4x1x128x256, .bf16⟩
  | .local _ .vmem, ⟨15, _⟩ => ⟨S2x128x256, .bf16⟩
  | .local _ .vmem, ⟨16, _⟩ => ⟨S2x128x256, .bf16⟩
  | .local _ .vmem, ⟨17, _⟩ => ⟨S128x256, .f32⟩
  | .local _ .vmem, ⟨18, _⟩ => ⟨S128x256, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_11 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92_0 : Ref sig .tc := ⟨.hbm, 112, rfl⟩
abbrev main_v92_1 : Ref sig .tc := ⟨.hbm, 113, rfl⟩
abbrev main_v92_2 : Ref sig .tc := ⟨.hbm, 114, rfl⟩
abbrev main_v92_3 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16896x1024 : Shape := ⟨2, ![16896, 1024]⟩
abbrev S1x1024x5416 : Shape := ⟨3, ![1, 1024, 5416]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x5416 : Shape := ⟨2, ![1024, 5416]⟩
abbrev S16896x5416 : Shape := ⟨2, ![16896, 5416]⟩
abbrev S16896x512 : Shape := ⟨2, ![16896, 512]⟩
abbrev S16896x256 : Shape := ⟨2, ![16896, 256]⟩
abbrev S16896x32 : Shape := ⟨2, ![16896, 32]⟩
abbrev S16896x8 : Shape := ⟨2, ![16896, 8]⟩
abbrev S16896x2048 : Shape := ⟨2, ![16896, 2048]⟩
abbrev S16896x8x64 : Shape := ⟨3, ![16896, 8, 64]⟩
abbrev S8 : Shape := ⟨1, ![8]⟩
abbrev S1x8 : Shape := ⟨2, ![1, 8]⟩
abbrev S16896x1x8 : Shape := ⟨3, ![16896, 1, 8]⟩
abbrev S16896x8x8 : Shape := ⟨3, ![16896, 8, 8]⟩
abbrev S16896x8x48 : Shape := ⟨3, ![16896, 8, 48]⟩
abbrev S16896x8x32 : Shape := ⟨3, ![16896, 8, 32]⟩
abbrev S4 : Shape := ⟨1, ![4]⟩
abbrev S1x4 : Shape := ⟨2, ![1, 4]⟩
abbrev S16896x4 : Shape := ⟨2, ![16896, 4]⟩
abbrev S16896x1x4 : Shape := ⟨3, ![16896, 1, 4]⟩
abbrev S16896x8x4 : Shape := ⟨3, ![16896, 8, 4]⟩
abbrev S16896x8x24 : Shape := ⟨3, ![16896, 8, 24]⟩
abbrev S16896x120 : Shape := ⟨2, ![16896, 120]⟩
abbrev S16896x128 : Shape := ⟨2, ![16896, 128]⟩
abbrev S66x256x4x128 : Shape := ⟨4, ![66, 256, 4, 128]⟩
abbrev S4x66x128x256 : Shape := ⟨4, ![4, 66, 128, 256]⟩
abbrev S16896x2x128 : Shape := ⟨3, ![16896, 2, 128]⟩
abbrev S2x128x16896 : Shape := ⟨3, ![2, 128, 16896]⟩
abbrev S128x16896 : Shape := ⟨2, ![128, 16896]⟩

abbrev nBuf : Space → Nat
  | .hbm => 115
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1x1024x5416, .f32⟩
  | .hbm, ⟨2, _⟩ => ⟨S1x1024, .f32⟩
  | .hbm, ⟨3, _⟩ => ⟨S1024, .f32⟩
  | .hbm, ⟨4, _⟩ => ⟨S16896x1024, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S16896x1024, .f32⟩
  | .hbm, ⟨19, _⟩ => ⟨S16896x1024, .f32⟩
  | .hbm, ⟨20, _⟩ => ⟨S1024x5416, .f32⟩
  | .hbm, ⟨21, _⟩ => ⟨S16896x5416, .f32⟩
  | .hbm, ⟨22, _⟩ => ⟨S16896x512, .f32⟩
  | .hbm, ⟨23, _⟩ => ⟨S16896x512, .f32⟩
  | .hbm, ⟨24, _⟩ => ⟨S16896x512, .f32⟩
  | .hbm, ⟨25, _⟩ => ⟨S16896x512, .f32⟩
  | .hbm, ⟨26, _⟩ => ⟨S16896x512, .f32⟩
  | .hbm, ⟨27, _⟩ => ⟨S16896x512, .f32⟩
  | .hbm, ⟨28, _⟩ => ⟨S16896x256, .f32⟩
  | .hbm, ⟨29, _⟩ => ⟨S16896x32, .f32⟩
  | .hbm, ⟨30, _⟩ => ⟨S16896x8, .f32⟩
  | .hbm, ⟨31, _⟩ => ⟨S16896x2048, .f32⟩
  | .hbm, ⟨32, _⟩ => ⟨S16896, .i32⟩
  | .hbm, ⟨33, _⟩ => ⟨S16896x8x64, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S16896, .f32⟩
  | .hbm, ⟨43, _⟩ => ⟨S16896x1, .f32⟩
  | .hbm, ⟨44, _⟩ => ⟨S1x8, .f32⟩
  | .hbm, ⟨45, _⟩ => ⟨S16896x8, .f32⟩
  | .hbm, ⟨46, _⟩ => ⟨S16896x8, .f32⟩
  | .hbm, ⟨47, _⟩ => ⟨S16896x8, .f32⟩
  | .hbm, ⟨48, _⟩ => ⟨S16896x8, .f32⟩
  | .hbm, ⟨49, _⟩ => ⟨S16896x1x8, .f32⟩
  | .hbm, ⟨50, _⟩ => ⟨S16896x8, .f32⟩
  | .hbm, ⟨51, _⟩ => ⟨S16896x1x8, .f32⟩
  | .hbm, ⟨52, _⟩ => ⟨S16896x8x8, .f32⟩
  | .hbm, ⟨53, _⟩ => ⟨S16896x8x8, .f32⟩
  | .hbm, ⟨54, _⟩ => ⟨S16896x8x8, .f32⟩
  | .hbm, ⟨55, _⟩ => ⟨S16896x8x8, .f32⟩
  | .hbm, ⟨56, _⟩ => ⟨S16896x8x8, .f32⟩
  | .hbm, ⟨57, _⟩ => ⟨S16896x8x8, .f32⟩
  | .hbm, ⟨58, _⟩ => ⟨S16896x8x8, .f32⟩
  | .hbm, ⟨59, _⟩ => ⟨S16896x8x8, .f32⟩
  | .hbm, ⟨60, _⟩ => ⟨S16896x8x8, .f32⟩
  | .hbm, ⟨61, _⟩ => ⟨S16896x8x8, .f32⟩
  | .hbm, ⟨62, _⟩ => ⟨S16896x8x8, .f32⟩
  | .hbm, ⟨63, _⟩ => ⟨S16896x8x8, .f32⟩
  | .hbm, ⟨64, _⟩ => ⟨S16896x8x48, .f32⟩
  | .hbm, ⟨65, _⟩ => ⟨S16896x8x64, .f32⟩
  | .hbm, ⟨66, _⟩ => ⟨S16896x8x32, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S16896, .f32⟩
  | .hbm, ⟨76, _⟩ => ⟨S16896x1, .f32⟩
  | .hbm, ⟨77, _⟩ => ⟨S1x4, .f32⟩
  | .hbm, ⟨78, _⟩ => ⟨S16896x4, .f32⟩
  | .hbm, ⟨79, _⟩ => ⟨S16896x4, .f32⟩
  | .hbm, ⟨80, _⟩ => ⟨S16896x4, .f32⟩
  | .hbm, ⟨81, _⟩ => ⟨S16896x4, .f32⟩
  | .hbm, ⟨82, _⟩ => ⟨S16896x1x4, .f32⟩
  | .hbm, ⟨83, _⟩ => ⟨S16896x4, .f32⟩
  | .hbm, ⟨84, _⟩ => ⟨S16896x1x4, .f32⟩
  | .hbm, ⟨85, _⟩ => ⟨S16896x8x4, .f32⟩
  | .hbm, ⟨86, _⟩ => ⟨S16896x8x4, .f32⟩
  | .hbm, ⟨87, _⟩ => ⟨S16896x8x4, .f32⟩
  | .hbm, ⟨88, _⟩ => ⟨S16896x8x4, .f32⟩
  | .hbm, ⟨89, _⟩ => ⟨S16896x8x4, .f32⟩
  | .hbm, ⟨90, _⟩ => ⟨S16896x8x4, .f32⟩
  | .hbm, ⟨91, _⟩ => ⟨S16896x8x4, .f32⟩
  | .hbm, ⟨92, _⟩ => ⟨S16896x8x4, .f32⟩
  | .hbm, ⟨93, _⟩ => ⟨S16896x8x4, .f32⟩
  | .hbm, ⟨94, _⟩ => ⟨S16896x8x4, .f32⟩
  | .hbm, ⟨95, _⟩ => ⟨S16896x8x4, .f32⟩
  | .hbm, ⟨96, _⟩ => ⟨S16896x8x4, .f32⟩
  | .hbm, ⟨97, _⟩ => ⟨S16896x8x24, .f32⟩
  | .hbm, ⟨98, _⟩ => ⟨S16896x8x32, .f32⟩
  | .hbm, ⟨99, _⟩ => ⟨S_, .f32⟩
  | .hbm, ⟨100, _⟩ => ⟨S16896x8, .f32⟩
  | .hbm, ⟨101, _⟩ => ⟨S16896x8, .f32⟩
  | .hbm, ⟨102, _⟩ => ⟨S_, .f32⟩
  | .hbm, ⟨103, _⟩ => ⟨S16896x120, .f32⟩
  | .hbm, ⟨104, _⟩ => ⟨S16896x128, .f32⟩
  | .hbm, ⟨105, _⟩ => ⟨S66x256x4x128, .f32⟩
  | .hbm, ⟨106, _⟩ => ⟨S4x66x128x256, .f32⟩
  | .hbm, ⟨107, _⟩ => ⟨S4x66x128x256, .bf16⟩
  | .hbm, ⟨108, _⟩ => ⟨S66x256x4x128, .f32⟩
  | .hbm, ⟨109, _⟩ => ⟨S4x66x128x256, .f32⟩
  | .hbm, ⟨110, _⟩ => ⟨S4x66x128x256, .bf16⟩
  | .hbm, ⟨111, _⟩ => ⟨S16896x2x128, .f32⟩
  | .hbm, ⟨112, _⟩ => ⟨S2x128x16896, .f32⟩
  | .hbm, ⟨113, _⟩ => ⟨S2x128x16896, .bf16⟩
  | .hbm, ⟨114, _⟩ => ⟨S128x16896, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_6 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩

abbrev nD : Nat := 1
abbrev τ : Topo := Topo.v7x

variable {F : FTy → Type} [FloatOps F]
-- ==== Proof.SB.Step.lean ====
/-
  Stick-breaking attention: what one key block does to the kernel's three scratch buffers, head by head, as functions of
  contents. `m` is applied to the logarithms and to the weights of a block: the identity for a block that lies before
  the queries' own, the selection of the earlier keys for the queries' own.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Tiles
public import Idealize.ShloMosaic.Lib.ValueLayout
public import Idealize.ShloMosaic.Lib.ValueIdx

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.ShloMosaic.Pipeline Idealize.ShloMosaic.ValueIdx

variable {F : FTy → Type} [FloatOps F] [Named F]

/-! ### One head, one block -/

/-- Scores in base-2 units: queries by keys. -/
def score (kt : FVec F S128x256 .bf16) (qm : FVec F S256x128 .bf16) : FVec F S256x256 .f32 :=
  matmul dot_S256x128_S128x256_S256x256_1_0_0_1_n_n none qm kt (constant S256x256 .f32 0x00000000#32)

/-- The base-2 softplus of a score. -/
def softplus2 (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "inv_ln2" 0x3FB8AA3B#32)))

/-- The logarithm of the part of the stick that a key leaves. -/
def logNot (m : FVec F S256x256 .f32 → FVec F S256x256 .f32) (z : FVec F S256x256 .f32) : FVec F S256x256 .f32 :=
  m (subf (broadcast S256x256 (Scalar.ofBits .f32 0x00000000#32)) (softplus2 z))

/-- The sum of `logNot` over the later keys of the block. -/
def inside (u : FVec F S256x256 .bf16) (ln : FVec F S256x256 .f32) : FVec F S256x256 .f32 :=
  matmul dot_S256x256_S256x256_S256x256_1_0_0_1_n_n none (truncf .bf16 ln bitsLt_bf16_f32) u (constant S256x256 .f32 0x00000000#32)

/-- The block's weights, given the sum `later` over all later blocks. -/
def weight (m : FVec F S256x256 .f32 → FVec F S256x256 .f32) (z ins : FVec F S256x256 .f32) (later : FVec F S256x128 .f32) :
    FVec F S256x256 .f32 :=
  m (exp2 (addf (addf (subf z (softplus2 z)) ins)
    (concatenate S256x256 1 [⟨S256x128, later⟩, ⟨S256x128, later⟩] concatenates_S256x128_S256x128_S256x256_d1)))

/-- The weighted sum of the block's values. -/
def gather (w : FVec F S256x256 .f32) (vv : FVec F S256x128 .bf16) : FVec F S256x128 .f32 :=
  matmul dot_S256x256_S256x128_S256x128_1_0_0_1_n_n none (truncf .bf16 w bitsLt_bf16_f32) vv (constant S256x128 .f32 0x00000000#32)

/-- `later` with the block taken in. -/
def newLater (ln ins : FVec F S256x256 .f32) (later : FVec F S256x128 .f32) : FVec F S256x128 .f32 :=
  addf later (broadcastTo S256x128 (shapeCast S256x1
    (addf (extractStridedSlice S256x1 ![0, 0] ins slices_S256x256_o0_0_S256x1)
      (extractStridedSlice S256x1 ![0, 0] ln slices_S256x256_o0_0_S256x1)) shapeCasts_S256x1_S256x1) broadcasts_S256x1_S256x128)

section Head
variable (m : FVec F S256x256 .f32 → FVec F S256x256 .f32) (u : FVec F S256x256 .bf16) (kt : FVec F S128x256 .bf16)
  (vv : FVec F S256x128 .bf16) (qm : FVec F S256x128 .bf16) (later : FVec F S256x128 .f32)

def headLater : FVec F S256x128 .f32 :=
  newLater (logNot m (score kt qm)) (inside u (logNot m (score kt qm))) later

def headOut : FVec F S256x128 .f32 :=
  gather (weight m (score kt qm) (inside u (logNot m (score kt qm))) later) vv

end Head

/-! ### The scratch buffers' slots -/

theorem slot8_inb (h : Fin 8) : ∀ a, ![h.val, 0, 0] a + S1x256x128.size a ≤ S8x256x128.size a := by
  intro a; have := h.isLt; fin_cases a
  · show h.val + 1 ≤ 8; omega
  · show 0 + 256 ≤ 256; omega
  · show 0 + 128 ≤ 128; omega

theorem slot4_inb (h : Fin 4) : ∀ a, ![h.val, 0, 0] a + S1x256x128.size a ≤ S4x256x128.size a := by
  intro a; have := h.isLt; fin_cases a
  · show h.val + 1 ≤ 4; omega
  · show 0 + 256 ≤ 256; omega
  · show 0 + 128 ≤ 128; omega

abbrev r8 (h : Fin 8) : Rect S8x256x128 := Rect.unit ![h.val, 0, 0] S1x256x128.size (slot8_inb h)
abbrev r4 (j : Fin 4) : Rect S4x256x128 := Rect.unit ![j.val, 0, 0] S1x256x128.size (slot4_inb j)

def slot8 {e : EltTy} (X : Vec F S8x256x128 e) (h : Fin 8) : Vec F S256x128 e :=
  shapeCast S256x128 (View.ld X (r8 h) : Vec F S1x256x128 e) shapeCasts_S1x256x128_S256x128
def slot4 {e : EltTy} (X : Vec F S4x256x128 e) (j : Fin 4) : Vec F S256x128 e :=
  shapeCast S256x128 (View.ld X (r4 j) : Vec F S1x256x128 e) shapeCasts_S1x256x128_S256x128

/-- A slot's new contents as a piece of the buffer. -/
def pc8 {e : EltTy} (h : Fin 8) (x : Vec F S256x128 e) : View.Piece (Elt F) S8x256x128 e :=
  ⟨r8 h, shapeCast S1x256x128 x shapeCasts_S256x128_S1x256x128⟩
def pc4 {e : EltTy} (h : Fin 4) (x : Vec F S256x128 e) : View.Piece (Elt F) S4x256x128 e :=
  ⟨r4 h, shapeCast S1x256x128 x shapeCasts_S256x128_S1x256x128⟩

/-- The pair a head belongs to. -/
def pairOf (h : Fin 8) : Fin 4 := ⟨h.val / 2, by omega⟩
/-- A pair's two heads. -/
def fstOf (j : Fin 4) : Fin 8 := ⟨2 * j.val, by omega⟩
def sndOf (j : Fin 4) : Fin 8 := ⟨2 * j.val + 1, by omega⟩

/-! ### One block, all heads -/

section Block
variable (m : FVec F S256x256 .f32 → FVec F S256x256 .f32) (u : FVec F S256x256 .bf16) (fh : IVec S256x128 1)
  (kt : Fin 4 → FVec F S128x256 .bf16) (vv : Fin 4 → FVec F S256x128 .bf16) (qm : Fin 8 → FVec F S256x128 .bf16)
  (L : Fin 8 → FVec F S256x128 .f32) (A : Fin 4 → FVec F S256x128 .f32)

def nextL (h : Fin 8) : FVec F S256x128 .f32 := headLater m u (kt (pairOf h)) (qm h) (L h)

def nextA (j : Fin 4) : FVec F S256x128 .f32 :=
  addf (A j) (select fh (headOut m u (kt j) (vv j) (qm (fstOf j)) (L (fstOf j)))
    (headOut m u (kt j) (vv j) (qm (sndOf j)) (L (sndOf j))))

/-- The largest entry. -/
def topOf (x : FVec F S256x128 .f32) : F .f32 :=
  extractAt ![0, 0, 0] (shapeCast S1x1x1 (multiReduction .maximumf [1, 2] S1 (shapeCast S1x256x128 x
    shapeCasts_S256x128_S1x256x128) 0xFF800000#32 reduces_S1x256x128_S1 (.inl rfl) rfl) shapeCasts_S1_S1x1x1) inpos_S1x1x1_p0_0_0

/-- The largest of the heads, entry by entry. -/
def maxOf (L : Fin 8 → FVec F S256x128 .f32) : FVec F S256x128 .f32 :=
  maximumf (maximumf (maximumf (maximumf (maximumf (maximumf (maximumf (L 0) (L 1)) (L 2)) (L 3)) (L 4)) (L 5)) (L 6)) (L 7)

end Block

/-- A buffer of the given slots. -/
def all8 {e : EltTy} (X : Fin 8 → Vec F S256x128 e) : Vec F S8x256x128 e := fun x => X (x 0) (ix2 (x 1) (x 2))
def all4 {e : EltTy} (X : Fin 4 → Vec F S256x128 e) : Vec F S4x256x128 e := fun x => X (x 0) (ix2 (x 1) (x 2))

theorem slot8_all8 {e : EltTy} (X : Fin 8 → Vec F S256x128 e) : slot8 (all8 X) = X := by
  funext h x
  refine (shapeCast_dropUnit_apply ![256, 128] _ _ x).trans ?_
  have e0 : (r8 h).idx (Fin.cons ⟨0, Nat.one_pos⟩ x : S1x256x128.Idx) 0 = h := Fin.ext (show h.val + 1 * 0 = h.val by omega)
  have e1 : ix2 ((r8 h).idx (Fin.cons ⟨0, Nat.one_pos⟩ x : S1x256x128.Idx) 1) ((r8 h).idx (Fin.cons ⟨0, Nat.one_pos⟩ x : S1x256x128.Idx) 2) = x :=
    Shape.idx_ext₂ (show 0 + 1 * (x 0).val = (x 0).val by omega) (show 0 + 1 * (x 1).val = (x 1).val by omega)
  exact (congrFun (congrArg X e0) _).trans (congrArg (X h) e1)

theorem slot4_all4 {e : EltTy} (X : Fin 4 → Vec F S256x128 e) : slot4 (all4 X) = X := by
  funext h x
  refine (shapeCast_dropUnit_apply ![256, 128] _ _ x).trans ?_
  have e0 : (r4 h).idx (Fin.cons ⟨0, Nat.one_pos⟩ x : S1x256x128.Idx) 0 = h := Fin.ext (show h.val + 1 * 0 = h.val by omega)
  have e1 : ix2 ((r4 h).idx (Fin.cons ⟨0, Nat.one_pos⟩ x : S1x256x128.Idx) 1) ((r4 h).idx (Fin.cons ⟨0, Nat.one_pos⟩ x : S1x256x128.Idx) 2) = x :=
    Shape.idx_ext₂ (show 0 + 1 * (x 0).val = (x 0).val by omega) (show 0 + 1 * (x 1).val = (x 1).val by omega)
  exact (congrFun (congrArg X e0) _).trans (congrArg (X h) e1)

/-- One slot's piece, where it holds the index. -/
theorem piece_apply {e : EltTy} {n : ℕ} (X : Fin n → Vec F S256x128 e) (k : Fin n) (y : (⟨3, ![n, 256, 128]⟩ : Shape).Idx) (x : S1x256x128.Idx)
    (h0 : (y 0).val = k.val + (x 0).val) (h1 : (y 1).val = (x 1).val) (h2 : (y 2).val = (x 2).val) :
    shapeCast S1x256x128 (X k) shapeCasts_S256x128_S1x256x128 x = X (y 0) (ix2 (y 1) (y 2)) := by
  have hx : (x 0).val < 1 := (x 0).isLt
  refine (shapeCast_addUnit_apply ![256, 128] _ _ x).trans ?_
  have e0 : y 0 = k := Fin.ext (by omega)
  rw [e0]
  exact congrArg (X k) (Shape.idx_ext₂ (h1.symm) (h2.symm))

/-- The eight stores of a trip leave the buffer of their slots. -/
theorem canon8 {e : EltTy} (X : Fin 8 → Vec F S256x128 e) :
    View.canon [pc8 7 (X 7), pc8 6 (X 6), pc8 5 (X 5), pc8 4 (X 4), pc8 3 (X 3), pc8 2 (X 2), pc8 1 (X 1), pc8 0 (X 0)] = all8 X := by
  funext y
  unfold pc8
  canon_tiles x h
  · exact piece_apply X 7 y x h0 h1 h2
  · exact piece_apply X 6 y x h0 h1 h2
  · exact piece_apply X 5 y x h0 h1 h2
  · exact piece_apply X 4 y x h0 h1 h2
  · exact piece_apply X 3 y x h0 h1 h2
  · exact piece_apply X 2 y x h0 h1 h2
  · exact piece_apply X 1 y x h0 h1 h2
  · exact piece_apply X 0 y x (by simpa using h0) h1 h2

theorem canon4 {e : EltTy} (X : Fin 4 → Vec F S256x128 e) :
    View.canon [pc4 3 (X 3), pc4 2 (X 2), pc4 1 (X 1), pc4 0 (X 0)] = all4 X := by
  funext y
  unfold pc4
  canon_tiles x h
  · exact piece_apply X 3 y x h0 h1 h2
  · exact piece_apply X 2 y x h0 h1 h2
  · exact piece_apply X 1 y x h0 h1 h2
  · exact piece_apply X 0 y x (by simpa using h0) h1 h2

/-! ### The blocks of keys and values at given offsets -/

def ktAt (x1 : Vec F S4x66x128x256 .bf16) (o : Fin 4 → Fin 4 → ℕ) (h : ∀ j a, o j a + S1x1x128x256.size a ≤ S4x66x128x256.size a)
    (j : Fin 4) : FVec F S128x256 .bf16 :=
  shapeCast S128x256 (View.ld x1 (Rect.unit (s := S4x66x128x256) (o j) S1x1x128x256.size (h j)) : FVec F S1x1x128x256 .bf16)
    shapeCasts_S1x1x128x256_S128x256

def vvAt (x2 : Vec F S4x16896x128 .bf16) (o : Fin 4 → Fin 3 → ℕ) (h : ∀ j a, o j a + S1x256x128.size a ≤ S4x16896x128.size a)
    (j : Fin 4) : FVec F S256x128 .bf16 :=
  shapeCast S256x128 (View.ld x2 (Rect.unit (s := S4x16896x128) (o j) S1x256x128.size (h j)) : FVec F S1x256x128 .bf16)
    shapeCasts_S1x256x128_S256x128

def ktOff (kb : BitVec 32) : Fin 4 → Fin 4 → ℕ := ![k0_off9 kb, k0_off11 kb, k0_off13 kb, k0_off15 kb]
def vvOff (kb : BitVec 32) : Fin 4 → Fin 3 → ℕ := ![k0_off10 kb, k0_off12 kb, k0_off14 kb, k0_off16 kb]

theorem ktOff_inb (kb : BitVec 32) (h : k0_chk1 kb) : ∀ j a, ktOff kb j a + S1x1x128x256.size a ≤ S4x66x128x256.size a := by
  intro j; fin_cases j
  · exact k0_off9_inb kb h
  · exact k0_off11_inb kb h
  · exact k0_off13_inb kb h
  · exact k0_off15_inb kb h

theorem vvOff_inb (kb : BitVec 32) (h : k0_chk1 kb) : ∀ j a, vvOff kb j a + S1x256x128.size a ≤ S4x16896x128.size a := by
  intro j; fin_cases j
  · exact k0_off10_inb kb h
  · exact k0_off12_inb kb h
  · exact k0_off14_inb kb h
  · exact k0_off16_inb kb h

/-! ### The loop -/

/-- What the loop carries in its scratch buffers, slot by slot, and its word `worst`. -/
structure St (F : FTy → Type) where
  L : Fin 8 → FVec F S256x128 .f32
  A : Fin 4 → FVec F S256x128 .f32
  W : F .f32

section Loop
variable (u : FVec F S256x256 .bf16) (fh : IVec S256x128 1) (qm : Fin 8 → FVec F S256x128 .bf16)
  (x1 : Vec F S4x66x128x256 .bf16) (x2 : Vec F S4x16896x128 .bf16)

/-- One block, from offsets. -/
def block (m : FVec F S256x256 .f32 → FVec F S256x256 .f32) (kt : Fin 4 → FVec F S128x256 .bf16)
    (vv : Fin 4 → FVec F S256x128 .bf16) (L : Fin 8 → FVec F S256x128 .f32) (A : Fin 4 → FVec F S256x128 .f32) : St F :=
  ⟨nextL m u kt qm L, nextA m u fh kt vv qm L A, topOf (maxOf (nextL m u kt qm L))⟩

/-- The trip at the word `kb`. -/
def tripAt (kb : BitVec 32) (h : k0_chk1 kb) (s : St F) : St F :=
  block u fh qm id (ktAt x1 (ktOff kb) (ktOff_inb kb h)) (vvAt x2 (vvOff kb) (vvOff_inb kb h)) s.L s.A

/-- The loop's test. -/
def goesOn (kb : BitVec 32) (w : F .f32) : BitVec 1 :=
  Scalar.andi (Scalar.cmpi .sge kb 0#32) (Scalar.cmpf .ogt w (Named.named κ "zero_below" 0xC3170000#32))

end Loop

end Cert.KernelIdeal.SB

end
-- ==== Proof.SB.Trip.lean ====
/-
  One trip of the while: holding the keys, the values and the three scratch buffers, the body of the loop leaves the
  buffers at `tripAt` and calls its own label at the next block.
-/
module

public import proofs.«01_k».proof.Proof.SB.Step

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

section
variable (c : Dev nD) (arg2 : Memref sig .tc .vmem S4x66x128x256 .bf16) (harg2 : arg2.IsWhole)
  (arg3 : Memref sig .tc .vmem S4x16896x128 .bf16) (harg3 : arg3.IsWhole)
  (u : FVec F S256x256 .bf16) (fh : IVec S256x128 1) (qm : Fin 8 → Vec F S256x128 .bf16)
  (x1 : Vec F S4x66x128x256 .bf16) (x2 : Vec F S4x16896x128 .bf16)

/-- The buffers the loop reads and writes, the later sums and the output at given slots. -/
def held (L : Fin 8 → Vec F S256x128 .f32) (A : Fin 4 → Vec F S256x128 .f32) : sProp 𝕄 :=
  iprop(owns (c : Thread nD τ) arg2 fullShare x1 ∗ owns (c : Thread nD τ) arg3 fullShare x2
    ∗ owns (c : Thread nD τ) (Memref.whole cc0_scratch0) fullShare (all8 qm)
    ∗ owns (c : Thread nD τ) (Memref.whole cc0_scratch1) fullShare (all8 L)
    ∗ owns (c : Thread nD τ) (Memref.whole cc0_scratch2) fullShare (all4 A))

/-- The label's specification: from the buffers at `s` it returns, whatever its two words, with the buffers at `s'`. -/
def spec (s s' : St F) : sWPT 𝕄 (BitVec 32 × F .f32) := do
  sWPT.consume (held c arg2 arg3 qm x1 x2 s.L s.A)
  let r ← sWPT.arbitrary
  sWPT.produce (held c arg2 arg3 qm x1 x2 s'.L s'.A)
  pure r

theorem spec_apply (s s' : St F) (K : BitVec 32 × F .f32 → sProp 𝕄) :
    spec c arg2 arg3 qm x1 x2 s s' K
      = iprop(held c arg2 arg3 qm x1 x2 s.L s.A ∗ ∀ r : BitVec 32 × F .f32, (held c arg2 arg3 qm x1 x2 s'.L s'.A -∗ K r)) := rfl

set_option maxHeartbeats 4000000 in
theorem trip (E : Set ℕ) (k : ℕ) (i : grid0.Coords) (kb : BitVec 32) (s s' : St F)
    (hcond : goesOn kb s.W = 1#1) (hchk : k0_chk1 kb)
    (hrec : ∀ K, spec c arg2 arg3 qm x1 x2 (tripAt u fh qm x1 x2 kb hchk s) s' K
      ⊢ wp frame (wpE (defs₀ (F := F)) 𝒱₀ (c : Thread nD τ) (some k)) E
        (defs₀ (F := F) .tc 1 ⟨i, arg2, harg2, arg3, harg3, Memref.whole cc0_scratch0, Memref.isWhole_whole _, u,
          Memref.whole cc0_scratch1, Memref.isWhole_whole _, Memref.whole cc0_scratch2, Memref.isWhole_whole _, fh,
          Scalar.subi kb 1#32, (tripAt u fh qm x1 x2 kb hchk s).W⟩) K)
    (K : BitVec 32 × F .f32 → sProp 𝕄) :
    spec c arg2 arg3 qm x1 x2 s s' K
      ⊢ wp frame (wpE (defs₀ (F := F)) 𝒱₀ (c : Thread nD τ) (some (k + 1))) E
        (cc0_while1 i arg2 harg2 arg3 harg3 (Memref.whole cc0_scratch0) (Memref.isWhole_whole _) u (Memref.whole cc0_scratch1)
          (Memref.isWhole_whole _) (Memref.whole cc0_scratch2) (Memref.isWhole_whole _) fh kb s.W) K := by
  simp only [cc0_while1_eq_skeleton]; unfold cc0_while1_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold goesOn at hcond
  rw [spec_apply]
  unfold held owns
  iintro ⟨⟨⟨%f1, %hf1, H1⟩, ⟨%f2, %hf2, H2⟩, ⟨%fq, %hfq, Hq⟩, ⟨%fl, %hfl, Hl⟩, ⟨%fa, %hfa, Ha⟩⟩, Hk⟩
  have hL : s.L = slot8 (View.read (Elt F) (Memref.whole cc0_scratch1).view fl) := by rw [hfl, slot8_all8]
  have hA : s.A = slot4 (View.read (Elt F) (Memref.whole cc0_scratch2).view fa) := by rw [hfa, slot4_all4]
  have hq : qm = slot8 (View.read (Elt F) (Memref.whole cc0_scratch0).view fq) := by rw [hfq, slot8_all8]
  sl_exec
  have hW : (tripAt u fh qm x1 x2 kb hchk s).W = k0_pay3 (trip.sl.r_38 c arg2 u kb hchk f1 fq fl) := by
    unfold tripAt block
    rw [hL, hq, ← hf1]
    have e : k0_pay3 (F := F) = topOf := rfl
    rw [e]
    dsimp only
    refine congrArg topOf ?_
    unfold maxOf
    rfl
  have hrec' := hrec
  rw [hW] at hrec'
  iapply (wp_call_spec 𝒱₀ (c : Thread nD τ) (some (k + 1)) E (spec c arg2 arg3 qm x1 x2 (tripAt u fh qm x1 x2 kb hchk s) s') k
      (fun u hu => by cases hu; exact Nat.lt_succ_self k) ?_)
  · exact hrec'
  rw [spec_apply]
  isplitl [H1 H2 Hq Hl Ha]
  · unfold held owns
    isplitl [H1]; · iexists _; isplitr; · (ipureintro; exact hf1)
                    iexact H1
    isplitl [H2]; · iexists _; isplitr; · (ipureintro; exact hf2)
                    iexact H2
    isplitl [Hq]; · iexists _; isplitr; · (ipureintro; exact hfq)
                    iexact Hq
    isplitl [Hl]
    · iexists _; isplitr; swap; · iexact Hl
      ipureintro
      refine (View.read_writes_eq_canon _ _ _ (View.cover_of_tiled_head _ _ _ (by rfl))).trans (Eq.trans ?_ (canon8 _))
      unfold tripAt block
      rw [hL, hq, hA, ← hf1, ← hf2]
      rfl
    · iexists _; isplitr; swap; · iexact Ha
      ipureintro
      refine (View.read_writes_eq_canon _ _ _ (View.cover_of_tiled_head _ _ _ (by rfl))).trans (Eq.trans ?_ (canon4 _))
      unfold tripAt block
      rw [hL, hq, hA, ← hf1, ← hf2]
      rfl
  iintro %r Hh
  rw [wp_ret]; imodintro
  iapply Hk
  unfold held owns
  iexact Hh

end

end Cert.KernelIdeal.SB

end
-- ==== Proof.SB.Start.lean ====
/-
  The queries' own block: what the body stores before the loop, as lists of stores, and the buffers those stores leave.
-/
module

public import proofs.«01_k».proof.Proof.SB.Step

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ### Stores of slots, one after the other -/

theorem slotN_inb {n : ℕ} (h : Fin n) : ∀ a, ![h.val, 0, 0] a + S1x256x128.size a ≤ (⟨3, ![n, 256, 128]⟩ : Shape).size a := by
  intro a; have := h.isLt; fin_cases a
  · show h.val + 1 ≤ n; omega
  · show 0 + 256 ≤ 256; omega
  · show 0 + 128 ≤ 128; omega

abbrev rN {n : ℕ} (h : Fin n) : Rect ⟨3, ![n, 256, 128]⟩ := Rect.unit ![h.val, 0, 0] S1x256x128.size (slotN_inb h)

theorem mem_rN {n : ℕ} (h : Fin n) (y : (⟨3, ![n, 256, 128]⟩ : Shape).Idx) : y ∈ (rN h).set ↔ y 0 = h := by
  rw [Rect.mem_set_unit]
  constructor
  · intro H
    have h0 : h.val ≤ (y 0).val ∧ (y 0).val < h.val + 1 := H 0
    exact Fin.ext (by omega)
  · intro e a
    fin_cases a
    · show h.val ≤ (y 0).val ∧ (y 0).val < h.val + 1
      rw [e]; omega
    · exact ⟨Nat.zero_le _, (y 1).isLt.trans_eq (Nat.zero_add 256).symm⟩
    · exact ⟨Nat.zero_le _, (y 2).isLt.trans_eq (Nat.zero_add 128).symm⟩

/-- One more slot stored. -/
theorem canon_slot {n : ℕ} {e : EltTy} (h : Fin n) (x : Vec F S256x128 e) (l : List (View.Piece (Elt F) ⟨3, ![n, 256, 128]⟩ e))
    (y : (⟨3, ![n, 256, 128]⟩ : Shape).Idx) :
    View.canon ((⟨rN h, shapeCast S1x256x128 x shapeCasts_S256x128_S1x256x128⟩ : View.Piece (Elt F) ⟨3, ![n, 256, 128]⟩ e) :: l) y
      = if (y 0).val = h.val then x (ix2 (y 1) (y 2)) else View.canon l y := by
  by_cases hy : y 0 = h
  · rw [if_pos (congrArg Fin.val hy)]
    obtain ⟨j, hj⟩ := (rN h).exists_idx_of_mem ((mem_rN h y).2 hy)
    rw [← hj]
    refine (View.canon_cons_emb (rN h) _ l j).trans ?_
    refine (shapeCast_addUnit_apply ![256, 128] _ _ j).trans (congrArg x (Shape.idx_ext₂ ?_ ?_))
    · show (j 1).val = 0 + 1 * (j 1).val; omega
    · show (j 2).val = 0 + 1 * (j 2).val; omega
  · rw [if_neg fun H => hy (Fin.ext H)]
    exact View.canon_cons_of_not_mem _ _ (fun H => hy ((mem_rN h y).1 H))

/-- A slot read back after a covering list of stores. -/
theorem readCov_slot {n : ℕ} {e : EltTy} {κ : Kind} {sp : Space} (v : View sig κ sp ⟨3, ![n, 256, 128]⟩ e)
    (l : List (View.Piece (Elt F) ⟨3, ![n, 256, 128]⟩ e)) (hl : ∀ y, ∃ p ∈ l, y ∈ p.1.set) (h : Fin n) (x : S256x128.Idx) :
    shapeCast S256x128 (v.readCov l (rN h).toLoadRect : Vec F S1x256x128 e) shapeCasts_S1x256x128_S256x128 x
      = View.canon l (ix3 h (x 0) (x 1)) := by
  refine (shapeCast_dropUnit_apply ![256, 128] _ _ x).trans ?_
  refine (congrFun (View.readCov_eq_canon v l _ fun _ => hl _) _).trans (congrArg (View.canon l) ?_)
  funext a
  fin_cases a
  · exact Fin.ext (show h.val + 1 * 0 = h.val by omega)
  · exact Fin.ext (show 0 + 1 * (x 0).val = (x 0).val by omega)
  · exact Fin.ext (show 0 + 1 * (x 1).val = (x 1).val by omega)

/-! ### The queries, a head's lanes at a time -/

def lowLanes : IVec S256x128 1 := cmpi .slt (iota .tc S256x128 32 [1] iota_S256x128_d1_w32) (broadcast S256x128 64#32)
def highLanes : IVec S256x128 1 := cmpi .sge (iota .tc S256x128 32 [1] iota_S256x128_d1_w32) (broadcast S256x128 64#32)

/-- A head's queries, zero in the lanes of the pair's other head. -/
def heads (x0 : Vec F S4x256x128 .bf16) (h : Fin 8) : Vec F S256x128 .bf16 :=
  select ((![lowLanes, highLanes, lowLanes, highLanes, lowLanes, highLanes, lowLanes, highLanes] : Fin 8 → _) h)
    (slot4 x0 (pairOf h)) (broadcast S256x128 (Scalar.ofBits .bf16 0x0000#16))

def qList (x0 : Vec F S4x256x128 .bf16) : List (View.Piece (Elt F) S8x256x128 .bf16) :=
  [pc8 7 (heads x0 7), pc8 6 (heads x0 6), pc8 5 (heads x0 5), pc8 4 (heads x0 4), pc8 3 (heads x0 3), pc8 2 (heads x0 2),
    pc8 1 (heads x0 1), pc8 0 (heads x0 0)]

theorem qList_cover (x0 : Vec F S4x256x128 .bf16) : ∀ y, ∃ p ∈ qList x0, y ∈ p.1.set :=
  View.cover_of_tiled_head _ _ _ (by rfl)

theorem qList_canon (x0 : Vec F S4x256x128 .bf16) : View.canon (qList x0) = all8 (heads x0) := canon8 (heads x0)

def headsRead (x0 : Vec F S4x256x128 .bf16) (h : Fin 8) : Vec F S256x128 .bf16 :=
  shapeCast S256x128 ((Memref.whole cc0_scratch0).view.readCov (qList x0) (r8 h).toLoadRect : Vec F S1x256x128 .bf16)
    shapeCasts_S1x256x128_S256x128

theorem headsRead_eq (x0 : Vec F S4x256x128 .bf16) : headsRead x0 = heads x0 := by
  funext h x
  refine (readCov_slot (Memref.whole cc0_scratch0).view (qList x0) (qList_cover x0) h x).trans ?_
  rw [qList_canon]
  exact congrArg (heads x0 h) (Shape.idx_ext₂ rfl rfl)

/-! ### The block's stores -/

def visible : IVec S256x256 1 :=
  cmpi .slt (iota .tc S256x256 32 [1] iota_S256x256_d1_w32) (iota .tc S256x256 32 [0] iota_S256x256_d0_w32)

/-- The selection of the earlier keys. -/
def earlier (z : FVec F S256x256 .f32) : FVec F S256x256 .f32 :=
  select visible z (broadcast S256x256 (Scalar.ofBits .f32 0x00000000#32))

def zeros : FVec F S256x128 .f32 := broadcast S256x128 (Scalar.ofBits .f32 0x00000000#32)

section
variable (u : FVec F S256x256 .bf16) (qm : Fin 8 → Vec F S256x128 .bf16)
  (kt : Fin 4 → FVec F S128x256 .bf16) (vv : Fin 4 → FVec F S256x128 .bf16)

def laterRead (l : List (View.Piece (Elt F) S8x256x128 .f32)) (h : Fin 8) : FVec F S256x128 .f32 :=
  shapeCast S256x128 ((Memref.whole cc0_scratch1).view.readCov l (r8 h).toLoadRect : Vec F S1x256x128 .f32)
    shapeCasts_S1x256x128_S256x128

def outRead (l : List (View.Piece (Elt F) S4x256x128 .f32)) (j : Fin 4) : FVec F S256x128 .f32 :=
  shapeCast S256x128 ((Memref.whole cc0_scratch2).view.readCov l (r4 j).toLoadRect : Vec F S1x256x128 .f32)
    shapeCasts_S1x256x128_S256x128

/-- The stores into the later sums: zero everywhere, then the first `n` heads. -/
def lList : ℕ → List (View.Piece (Elt F) S8x256x128 .f32)
  | 0 => [⟨Rect.unit ![0, 0, 0] S8x256x128.size inb_S8x256x128_S8x256x128_0_0_0,
      shapeCast S8x256x128 (broadcast S8x256x128 (Scalar.ofBits .f32 0x00000000#32)) shapeCasts_S8x256x128_S8x256x128⟩]
  | n + 1 => pc8 (Fin.ofNat 8 n) (headLater earlier u (kt (pairOf (Fin.ofNat 8 n))) (qm (Fin.ofNat 8 n))
      (laterRead (lList n) (Fin.ofNat 8 n))) :: lList n

/-- A head's share of the output, as the body computes it. -/
def outAt (h : ℕ) : FVec F S256x128 .f32 :=
  headOut earlier u (kt (pairOf (Fin.ofNat 8 h))) (vv (pairOf (Fin.ofNat 8 h))) (qm (Fin.ofNat 8 h))
    (laterRead (lList u qm kt h) (Fin.ofNat 8 h))

/-- The stores into the output: zero everywhere, then the first `n` pairs. -/
def aList : ℕ → List (View.Piece (Elt F) S4x256x128 .f32)
  | 0 => [⟨Rect.unit ![0, 0, 0] S4x256x128.size inb_S4x256x128_S4x256x128_0_0_0,
      shapeCast S4x256x128 (broadcast S4x256x128 (Scalar.ofBits .f32 0x00000000#32)) shapeCasts_S4x256x128_S4x256x128⟩]
  | n + 1 => pc4 (Fin.ofNat 4 n) (addf (outRead (aList n) (Fin.ofNat 4 n))
      (select lowLanes (outAt u qm kt vv (2 * n)) (outAt u qm kt vv (2 * n + 1)))) :: aList n

/-- The state before the loop. -/
def start : St F := block u lowLanes qm earlier kt vv (fun _ => zeros) (fun _ => zeros)

theorem lList_cover : ∀ n, ∀ y, ∃ p ∈ lList u qm kt n, y ∈ p.1.set
  | 0, y => ⟨_, List.mem_singleton.2 rfl, by
      rw [Rect.mem_set_unit]; intro a
      refine ⟨by fin_cases a <;> exact Nat.zero_le _, ?_⟩
      have := (y a).isLt
      fin_cases a <;> exact this.trans_eq (Nat.zero_add _).symm⟩
  | n + 1, y => by
    obtain ⟨p, hp, hy⟩ := lList_cover n y
    exact ⟨p, List.mem_cons_of_mem _ hp, hy⟩

theorem aList_cover : ∀ n, ∀ y, ∃ p ∈ aList u qm kt vv n, y ∈ p.1.set
  | 0, y => ⟨_, List.mem_singleton.2 rfl, by
      rw [Rect.mem_set_unit]; intro a
      refine ⟨by fin_cases a <;> exact Nat.zero_le _, ?_⟩
      have := (y a).isLt
      fin_cases a <;> exact this.trans_eq (Nat.zero_add _).symm⟩
  | n + 1, y => by
    obtain ⟨p, hp, hy⟩ := aList_cover n y
    exact ⟨p, List.mem_cons_of_mem _ hp, hy⟩

theorem lList_canon (n : ℕ) (hn : n ≤ 8) (y : S8x256x128.Idx) :
    View.canon (lList u qm kt n) y
      = if (y 0).val < n then nextL earlier u kt qm (fun _ => zeros) (y 0) (ix2 (y 1) (y 2)) else Scalar.ofBits .f32 0x00000000#32 := by
  induction n generalizing y with
  | zero =>
    rw [if_neg (Nat.not_lt_zero _)]
    exact congrFun (View.canon_cons_unit_lit _ _ [] (by decide)) y
  | succ n ih =>
    have hn8 : (Fin.ofNat 8 n).val = n := Nat.mod_eq_of_lt hn
    refine (canon_slot (Fin.ofNat 8 n) _ _ y).trans ?_
    have hz : laterRead (lList u qm kt n) (Fin.ofNat 8 n) = zeros := by
      funext x
      refine (readCov_slot (Memref.whole cc0_scratch1).view _ (lList_cover u qm kt n) _ x).trans ?_
      refine (ih (by omega) _).trans (if_neg ?_)
      show ¬ (Fin.ofNat 8 n).val < n
      omega
    by_cases hy : y 0 = Fin.ofNat 8 n
    · rw [if_pos (congrArg Fin.val hy), if_pos (by rw [hy, hn8]; omega), hz, ← hy]
      rfl
    · rw [if_neg fun H => hy (Fin.ext H), ih (by omega)]
      have : (y 0).val ≠ n := fun h => hy (Fin.ext (h.trans hn8.symm))
      by_cases h' : (y 0).val < n
      · rw [if_pos h', if_pos (by omega)]
      · rw [if_neg h', if_neg (by omega)]

theorem laterRead_zeros (n : ℕ) (hn : n < 8) : laterRead (lList u qm kt n) (Fin.ofNat 8 n) = zeros := by
  have hn8 : (Fin.ofNat 8 n).val = n := Nat.mod_eq_of_lt hn
  funext x
  refine (readCov_slot (Memref.whole cc0_scratch1).view _ (lList_cover u qm kt n) _ x).trans ?_
  refine (lList_canon u qm kt n hn.le _).trans (if_neg ?_)
  show ¬ (Fin.ofNat 8 n).val < n
  omega

theorem lList_all : View.canon (lList u qm kt 8) = all8 (nextL earlier u kt qm fun _ => zeros) := by
  funext y
  exact (lList_canon u qm kt 8 le_rfl y).trans (if_pos (y 0).isLt)

theorem pair_heads : ∀ j : Fin 4, pairOf (Fin.ofNat 8 (2 * j.val)) = j ∧ pairOf (Fin.ofNat 8 (2 * j.val + 1)) = j
    ∧ fstOf j = Fin.ofNat 8 (2 * j.val) ∧ sndOf j = Fin.ofNat 8 (2 * j.val + 1) := by decide

theorem aList_canon (n : ℕ) (hn : n ≤ 4) (y : S4x256x128.Idx) :
    View.canon (aList u qm kt vv n) y
      = if (y 0).val < n then (start u qm kt vv).A (y 0) (ix2 (y 1) (y 2)) else Scalar.ofBits .f32 0x00000000#32 := by
  induction n generalizing y with
  | zero =>
    rw [if_neg (Nat.not_lt_zero _)]
    exact congrFun (View.canon_cons_unit_lit _ _ [] (by decide)) y
  | succ n ih =>
    have hn4 : (Fin.ofNat 4 n).val = n := Nat.mod_eq_of_lt hn
    refine (canon_slot (Fin.ofNat 4 n) _ _ y).trans ?_
    have hz : outRead (aList u qm kt vv n) (Fin.ofNat 4 n) = zeros := by
      funext x
      refine (readCov_slot (Memref.whole cc0_scratch2).view _ (aList_cover u qm kt vv n) _ x).trans ?_
      refine (ih (by omega) _).trans (if_neg ?_)
      show ¬ (Fin.ofNat 4 n).val < n
      omega
    by_cases hy : y 0 = Fin.ofNat 4 n
    · rw [if_pos (congrArg Fin.val hy), if_pos (by rw [hy, hn4]; omega), hz]
      unfold outAt
      rw [laterRead_zeros u qm kt (2 * n) (by omega), laterRead_zeros u qm kt (2 * n + 1) (by omega)]
      obtain ⟨k1, k2, k3, k4⟩ := pair_heads ⟨n, hn⟩
      dsimp only at k1 k2 k3 k4
      rw [show y 0 = (⟨n, hn⟩ : Fin 4) from Fin.ext (by rw [hy]; exact hn4), k1, k2, ← k3, ← k4]
      rfl
    · rw [if_neg fun H => hy (Fin.ext H), ih (by omega)]
      have : (y 0).val ≠ n := fun h => hy (Fin.ext (h.trans hn4.symm))
      by_cases h' : (y 0).val < n
      · rw [if_pos h', if_pos (by omega)]
      · rw [if_neg h', if_neg (by omega)]

theorem aList_all : View.canon (aList u qm kt vv 4) = all4 (start u qm kt vv).A := by
  funext y
  exact (aList_canon u qm kt vv 4 le_rfl y).trans (if_pos (y 0).isLt)

end

end Cert.KernelIdeal.SB

end
-- ==== Proof.SB.Body.lean ====
/-
  The kernel's body at a grid point: the loop over the earlier blocks, by induction on how many are left, and what it
  leaves in the output block.
-/
module

public import proofs.«01_k».proof.Proof.SB.Trip
public import proofs.«01_k».proof.Proof.SB.Start

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The loop -/

/-- The counter with `n` blocks left: `n - 1` as a word. -/
def word (n : ℕ) : BitVec 32 := Scalar.subi (BitVec.ofNat 32 n) 1#32

theorem word_succ (n : ℕ) : word (n + 1) = BitVec.ofNat 32 n := by
  unfold word Scalar.subi
  show BitVec.ofNat 32 (n + 1) - 1#32 = _
  rw [BitVec.ofNat_add]
  exact BitVec.add_sub_cancel _ _

theorem chk_ofNat : ∀ n : Fin 66, k0_chk1 (BitVec.ofNat 32 n.val) := by decide

theorem chk_word (n : ℕ) (hn : n < 66) : k0_chk1 (word (n + 1)) := by
  rw [word_succ]; exact chk_ofNat ⟨n, hn⟩

theorem goesOn_zero (w : F .f32) : ¬goesOn (word 0) w = 1#1 := by
  unfold goesOn Scalar.andi
  rw [show Scalar.cmpi .sge (word 0) 0#32 = 0#1 from by decide]
  show ¬ (0#1 &&& _) = 1#1
  rw [BitVec.zero_and]
  decide

section
variable (u : FVec F S256x256 .bf16) (fh : IVec S256x128 1) (qm : Fin 8 → Vec F S256x128 .bf16)
  (x1 : Vec F S4x66x128x256 .bf16) (x2 : Vec F S4x16896x128 .bf16)

/-- The loop from `n` blocks left. -/
def loopFrom : (n : ℕ) → n ≤ 66 → St F → St F
  | 0, _, s => s
  | n + 1, h, s =>
    if goesOn (word (n + 1)) s.W = 1#1 then
      loopFrom n (Nat.le_of_succ_le h) (tripAt u fh qm x1 x2 (word (n + 1)) (chk_word n h) s)
    else s

theorem spec_le (c : Dev nD) (arg2 : Memref sig .tc .vmem S4x66x128x256 .bf16) (harg2 : arg2.IsWhole)
    (arg3 : Memref sig .tc .vmem S4x16896x128 .bf16) (harg3 : arg3.IsWhole) (E : Set ℕ) (i : grid0.Coords) :
    ∀ (n : ℕ) (hn : n ≤ 66) (s : St F) (K : BitVec 32 × F .f32 → sProp 𝕄),
      spec c arg2 arg3 qm x1 x2 s (loopFrom u fh qm x1 x2 n hn s) K
      ⊢ wp frame (wpE (defs₀ (F := F)) 𝒱₀ (c : Thread nD τ) (some n)) E
        (defs₀ (F := F) .tc 1 ⟨i, arg2, harg2, arg3, harg3, Memref.whole cc0_scratch0, Memref.isWhole_whole _, u,
          Memref.whole cc0_scratch1, Memref.isWhole_whole _, Memref.whole cc0_scratch2, Memref.isWhole_whole _, fh,
          word n, s.W⟩) K := by
  have stop : ∀ (n : ℕ) (s : St F) (K : BitVec 32 × F .f32 → sProp 𝕄), ¬goesOn (word n) s.W = 1#1 →
      spec c arg2 arg3 qm x1 x2 s s K ⊢ wp frame (wpE (defs₀ (F := F)) 𝒱₀ (c : Thread nD τ) (some n)) E
        (cc0_while1 i arg2 harg2 arg3 harg3 (Memref.whole cc0_scratch0) (Memref.isWhole_whole _) u (Memref.whole cc0_scratch1)
          (Memref.isWhole_whole _) (Memref.whole cc0_scratch2) (Memref.isWhole_whole _) fh (word n) s.W) K := by
    intro n s K hg
    simp only [cc0_while1_eq_skeleton]; unfold cc0_while1_skel
    unfold goesOn at hg
    simp only [hg, ↓reduceIte, Prog.pure_eq_ret]
    rw [spec_apply]
    iintro ⟨H, Hk⟩
    rw [wp_ret]; imodintro
    iapply Hk
    iexact H
  intro n
  induction n with
  | zero => exact fun hn s K => stop 0 s K (goesOn_zero s.W)
  | succ n ih =>
    intro hn s K
    by_cases hg : goesOn (word (n + 1)) s.W = 1#1
    · rw [show loopFrom u fh qm x1 x2 (n + 1) hn s
        = loopFrom u fh qm x1 x2 n (Nat.le_of_succ_le hn) (tripAt u fh qm x1 x2 (word (n + 1)) (chk_word n hn) s) from by
          rw [loopFrom, if_pos hg]]
      refine trip c arg2 harg2 arg3 harg3 u fh qm x1 x2 E n i (word (n + 1)) s _ hg (chk_word n hn) ?_ K
      intro K'
      have := ih (Nat.le_of_succ_le hn) (tripAt u fh qm x1 x2 (word (n + 1)) (chk_word n hn) s) K'
      rwa [show word n = Scalar.subi (word (n + 1)) 1#32 from by rw [word_succ]; rfl] at this
    · rw [show loopFrom u fh qm x1 x2 (n + 1) hn s = s from by rw [loopFrom, if_neg hg]]
      exact stop (n + 1) s K hg

end

/-! ### The body -/

def ktOff0 (i : grid0.Coords) : Fin 4 → Fin 4 → ℕ := ![k0_off1 i, k0_off3 i, k0_off5 i, k0_off7 i]
def vvOff0 (i : grid0.Coords) : Fin 4 → Fin 3 → ℕ := ![k0_off2 i, k0_off4 i, k0_off6 i, k0_off8 i]

theorem ktOff0_inb (i : grid0.Coords) : ∀ j a, ktOff0 i j a + S1x1x128x256.size a ≤ S4x66x128x256.size a := by
  intro j; fin_cases j
  · exact k0_off1_inb i
  · exact k0_off3_inb i
  · exact k0_off5_inb i
  · exact k0_off7_inb i

theorem vvOff0_inb (i : grid0.Coords) : ∀ j a, vvOff0 i j a + S1x256x128.size a ≤ S4x16896x128.size a := by
  intro j; fin_cases j
  · exact k0_off2_inb i
  · exact k0_off4_inb i
  · exact k0_off6_inb i
  · exact k0_off8_inb i

section
variable (i : grid0.Coords) (x0 : Vec F S4x256x128 .bf16) (x1 : Vec F S4x66x128x256 .bf16) (x2 : Vec F S4x16896x128 .bf16)
  (x3 : Vec F S256x256 .bf16)

def uOf : FVec F S256x256 .bf16 :=
  shapeCast S256x256 (View.ld x3 (Rect.unit (s := S256x256) ![0, 0] S256x256.size inb_S256x256_S256x256_0_0) : FVec F S256x256 .bf16)
    shapeCasts_S256x256_S256x256

/-- The state the queries' own block leaves. -/
def start0 : St F := start (uOf x3) (heads x0) (ktAt x1 (ktOff0 i) (ktOff0_inb i)) (vvAt x2 (vvOff0 i) (vvOff0_inb i))

theorem start0_W : (start0 i x0 x1 x2 x3).W
    = topOf (maxOf (nextL earlier (uOf x3) (ktAt x1 (ktOff0 i) (ktOff0_inb i)) (heads x0) fun _ => zeros)) := by
  unfold start0 start block; dsimp only

theorem i_le : (i 0).val ≤ 66 := (i 0).isLt.le

/-- The state after the loop. -/
def final : St F := loopFrom (uOf x3) lowLanes (heads x0) x1 x2 (i 0).val (i_le i) (start0 i x0 x1 x2 x3)

def outSlot (A : FVec F S256x128 .f32) : FVec F S256x128 .bf16 := truncf .bf16 A bitsLt_bf16_f32

/-- The output block: a pair's lanes after the other's. -/
def outBlock (A : Fin 4 → FVec F S256x128 .f32) : Vec F S256x512 .bf16 :=
  View.canon ([
    ⟨Rect.unit ![0, 384] S256x128.size inb_S256x512_S256x128_0_384, outSlot (A 3)⟩,
    ⟨Rect.unit ![0, 256] S256x128.size inb_S256x512_S256x128_0_256, outSlot (A 2)⟩,
    ⟨Rect.unit ![0, 128] S256x128.size inb_S256x512_S256x128_0_128, outSlot (A 1)⟩,
    ⟨Rect.unit ![0, 0] S256x128.size inb_S256x512_S256x128_0_0, outSlot (A 0)⟩] : List (View.Piece (Elt F) S256x512 .bf16))

end

set_option maxHeartbeats 8000000 in
theorem sound_body0 (c : Dev nD) (i : grid0.Coords)
    (arg1 : Memref sig .tc .vmem S4x256x128 .bf16) (harg1 : arg1.IsWhole)
    (arg2 : Memref sig .tc .vmem S4x66x128x256 .bf16) (harg2 : arg2.IsWhole)
    (arg3 : Memref sig .tc .vmem S4x16896x128 .bf16) (harg3 : arg3.IsWhole)
    (arg4 : Memref sig .tc .vmem S256x256 .bf16) (harg4 : arg4.IsWhole)
    (arg5 : Memref sig .tc .vmem S256x512 .bf16) (harg5 : arg5.IsWhole)
    (x0 : Vec F S4x256x128 .bf16) (x1 : Vec F S4x66x128x256 .bf16) (x2 : Vec F S4x16896x128 .bf16) (x3 : Vec F S256x256 .bf16)
    (K : PUnit → sProp 𝕄) :
    iprop((owns (c : Thread nD τ) arg1 fullShare x0 ∗ owns (c : Thread nD τ) arg2 fullShare x1
        ∗ owns (c : Thread nD τ) arg3 fullShare x2 ∗ owns (c : Thread nD τ) arg4 fullShare x3
        ∗ (∃ x4, owns (c : Thread nD τ) arg5 fullShare x4)
        ∗ (∃ y0, owns (c : Thread nD τ) (Memref.whole cc0_scratch0) fullShare y0)
        ∗ (∃ y1, owns (c : Thread nD τ) (Memref.whole cc0_scratch1) fullShare y1)
        ∗ (∃ y2, owns (c : Thread nD τ) (Memref.whole cc0_scratch2) fullShare y2))
      ∗ ((owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare (outBlock (final i x0 x1 x2 x3).A)
        ∗ (∃ y0, owns (c : Thread nD τ) (Memref.whole cc0_scratch0) fullShare y0)
        ∗ (∃ y1, owns (c : Thread nD τ) (Memref.whole cc0_scratch1) fullShare y1)
        ∗ (∃ y2, owns (c : Thread nD τ) (Memref.whole cc0_scratch2) fullShare y2)) -∗ K ⟨⟩))
      ⊢ wp frame (wpE (defs₀ (F := F)) 𝒱₀ (c : Thread nD τ) none) Set.univ
        (cc0_sb_attention i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _)) K := by
  simp only [cc0_sb_attention_eq_skeleton]; unfold cc0_sb_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f0, %hf0, H0⟩, ⟨%f1, %hf1, H1⟩, ⟨%f2, %hf2, H2⟩, ⟨%f3, %hf3, H3⟩, ⟨%x4, %f4, %hf4, H4⟩, ⟨%y0, %fq, %hfq, Hq⟩, ⟨%y1, %fl, %hfl, Hl⟩, ⟨%y2, %fa, %hfa, Ha⟩⟩, HK⟩
  sl_exec
  have hq : sound_body0.sl.Hq_8 c arg1 f0 = qList x0 := by
    unfold sound_body0.sl.Hq_8
    rw [← hf0]; rfl
  have hu : sound_body0.sl.r c arg4 f3 = uOf x3 := by rw [← hf3]; rfl
  have hl : (⟨Rect.unit ![7, 0, 0] S1x256x128.size inb_S8x256x128_S1x256x128_7_0_0,
          k0_pay116 (sound_body0.sl.r_41 c i arg1 arg2 f0 f1) (sound_body0.sl.r_42 c i arg1 arg2 arg4 f0 f1 f3)
            (sound_body0.sl.r_44 c i arg1 arg2 arg4 f0 f1 f3)⟩ ::
        sound_body0.sl.Hl_8 c i arg1 arg2 arg4 f0 f1 f3) = lList (uOf x3) (headsRead x0) (ktAt x1 (ktOff0 i) (ktOff0_inb i)) 8 := by
    rw [← hf3, ← hf0, ← hf1]
    rfl
  have ha : (⟨Rect.unit ![3, 0, 0] S1x256x128.size inb_S4x256x128_S1x256x128_3_0_0,
          k0_pay117 k0_pay24 (sound_body0.sl.r_38 c i arg1 arg2 arg3 arg4 f0 f1 f2 f3)
            (sound_body0.sl.r_43 c i arg1 arg2 arg3 arg4 f0 f1 f2 f3)
            (sound_body0.sl.v460 c i arg1 arg2 arg3 arg4 f0 f1 f2 f3)⟩ ::
        sound_body0.sl.Ha_4 c i arg1 arg2 arg3 arg4 f0 f1 f2 f3) = aList (uOf x3) (headsRead x0) (ktAt x1 (ktOff0 i) (ktOff0_inb i)) (vvAt x2 (vvOff0 i) (vvOff0_inb i)) 4 := by
    rw [← hf3, ← hf0, ← hf1, ← hf2]
    rfl
  have hW : k0_pay118 (sound_body0.sl.r_40 c i arg1 arg2 arg4 f0 f1 f3) (sound_body0.sl.r_41 c i arg1 arg2 f0 f1)
                (sound_body0.sl.r_42 c i arg1 arg2 arg4 f0 f1 f3) (sound_body0.sl.r_44 c i arg1 arg2 arg4 f0 f1 f3)
      = (start0 i x0 x1 x2 x3).W := by
    have e : (start0 i x0 x1 x2 x3).W = topOf (maxOf fun h => headLater earlier (uOf x3)
        (ktAt x1 (ktOff0 i) (ktOff0_inb i) (pairOf h)) (headsRead x0 h)
        (laterRead (lList (uOf x3) (headsRead x0) (ktAt x1 (ktOff0 i) (ktOff0_inb i)) h.val) h)) := by
      rw [headsRead_eq, start0_W]
      refine congrArg topOf (congrArg maxOf (funext fun h => ?_))
      have := laterRead_zeros (uOf x3) (heads x0) (ktAt x1 (ktOff0 i) (ktOff0_inb i)) h.val h.isLt
      rw [show Fin.ofNat 8 h.val = h from Fin.ext (Nat.mod_eq_of_lt h.isLt)] at this
      rw [this]; rfl
    rw [e]
    rw [← hf3, ← hf0, ← hf1]
    unfold maxOf; rfl
  have hrec := spec_le (uOf x3) lowLanes (heads x0) x1 x2 c arg2 harg2 arg3 harg3 Set.univ i (i 0).val (i_le i) (start0 i x0 x1 x2 x3)
  rw [hq, hl, ha, hu, hW]
  have hT : ∀ K, spec c arg2 arg3 (heads x0) x1 x2 (start0 i x0 x1 x2 x3) (final i x0 x1 x2 x3) K
      ⊢ wp frame (wpE (defs₀ (F := F)) 𝒱₀ (c : Thread nD τ) (some (i 0).val)) Set.univ
        (defs₀ (F := F) .tc 1 ⟨i, arg2, harg2, arg3, harg3, Memref.whole cc0_scratch0, Memref.isWhole_whole _, uOf x3,
          Memref.whole cc0_scratch1, Memref.isWhole_whole _, Memref.whole cc0_scratch2, Memref.isWhole_whole _, k0_pay24,
          sound_body0.sl.v77 i, (start0 i x0 x1 x2 x3).W⟩) K := hrec
  iapply (wp_call_spec 𝒱₀ (c : Thread nD τ) none Set.univ
    (spec c arg2 arg3 (heads x0) x1 x2 (start0 i x0 x1 x2 x3) (final i x0 x1 x2 x3)) (i 0).val (fun u hu => nomatch hu) ?_)
  · exact hT
  rw [spec_apply]
  isplitl [H1 H2 Hq Hl Ha]
  · unfold held owns
    isplitl [H1]; · iexists _; isplitr; · (ipureintro; exact hf1)
                    iexact H1
    isplitl [H2]; · iexists _; isplitr; · (ipureintro; exact hf2)
                    iexact H2
    isplitl [Hq]
    · iexists _; isplitr; swap; · iexact Hq
      ipureintro
      exact (View.read_writes_eq_canon _ _ _ (qList_cover x0)).trans (qList_canon x0)
    isplitl [Hl]
    · iexists _; isplitr; swap; · iexact Hl
      ipureintro
      refine (View.read_writes_eq_canon _ _ _ (lList_cover _ _ _ 8)).trans ?_
      rw [headsRead_eq]
      exact lList_all _ _ _
    · iexists _; isplitr; swap; · iexact Ha
      ipureintro
      refine (View.read_writes_eq_canon _ _ _ (aList_cover _ _ _ _ 4)).trans ?_
      rw [headsRead_eq]
      exact aList_all _ _ _ _
  iintro %r Hh
  obtain ⟨r0, r1⟩ := r
  unfold held owns
  icases Hh with ⟨⟨%g1, %hg1, H1⟩, ⟨%g2, %hg2, H2⟩, ⟨%gq, %hgq, Hq⟩, ⟨%gl, %hgl, Hl⟩, ⟨%ga, %hga, Ha⟩⟩
  sl_exec
  rw [wp_ret]; imodintro
  iapply HK
  isplitl [H0]; · iexists _; isplitr; · (ipureintro; exact hf0)
                  iexact H0
  isplitl [H1]; · iexists _; isplitr; · (ipureintro; exact hg1)
                  iexact H1
  isplitl [H2]; · iexists _; isplitr; · (ipureintro; exact hg2)
                  iexact H2
  isplitl [H3]; · iexists _; isplitr; · (ipureintro; exact hf3)
                  iexact H3
  isplitl [H4]
  · iexists _; isplitr; swap; · iexact H4
    ipureintro
    have hA : (final i x0 x1 x2 x3).A = slot4 (View.read (Elt F) (Memref.whole cc0_scratch2).view ga) := by rw [hga, slot4_all4]
    refine (View.read_writes_eq_canon _ _ _ (View.cover_of_tiled_head _ _ _ (by rfl))).trans ?_
    rw [hA]; rfl
  isplitl [Hq]; · iexists _; iexists _; isplitr; swap; · iexact Hq
                  ipureintro; exact hgq
  isplitl [Hl]; · iexists _; iexists _; isplitr; swap; · iexact Hl
                  ipureintro; exact hgl
  iexists _; iexists _; isplitr; swap; · iexact Ha
  ipureintro; exact hga

end Cert.KernelIdeal.SB

end
-- ==== Proof.SB.Frame.lean ====
/-
  The attention call's launch: the proof data at every grid point, the run, and the arguments unchanged.
-/
module

public import proofs.«01_k».proof.Proof.SB.Body

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The core's buffers when the call starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block at a point. -/
def outAtPoint (c : Dev nD) (t : Fin (cfg0 (F := F)).N) : Vec F S256x512 .bf16 :=
  outBlock (final (grid0.coords t) (iblk m c 0 t) (iblk m c 1 t) (iblk m c 2 t) (iblk m c 3 t)).A

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAtPoint m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = outAtPoint m c t := by dsimp only [dats]; rfl

theorem before_0 (c : Dev nD) (t : Fin (cfg0 (F := F)).N) (d) : (dats m 0 c).before 0 t d = iblk m c 0 t :=
  (((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl))
theorem before_1 (c : Dev nD) (t : Fin (cfg0 (F := F)).N) (d) : (dats m 0 c).before 1 t d = iblk m c 1 t :=
  (((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl))
theorem before_2 (c : Dev nD) (t : Fin (cfg0 (F := F)).N) (d) : (dats m 0 c).before 2 t d = iblk m c 2 t :=
  (((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl))
theorem before_3 (c : Dev nD) (t : Fin (cfg0 (F := F)).N) (d) : (dats m 0 c).before 3 t d = iblk m c 3 t :=
  (((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl))

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem scratch_owns (c : Dev nD) (b : Ref sig .tc) (f : Buf (Elt F) ((c : Thread nD τ).loc b)) :
    ((((c : Thread nD τ).loc b) ↦{fullShare} f : sProp 𝕄)) ⊢ owns (c : Thread nD τ) (Memref.whole b) fullShare f := by
  rw [owns_whole_eq]
  iintro H
  iexists f; isplitr; · (ipureintro; rfl)
  iexact H

theorem owns_scratch (c : Dev nD) (b : Ref sig .tc) (y) :
    (owns (c : Thread nD τ) (Memref.whole b) fullShare y : sProp 𝕄) ⊢ ∃ f : Buf (Elt F) ((c : Thread nD τ).loc b), (((c : Thread nD τ).loc b) ↦{fullShare} f) := by
  rw [owns_whole_eq]
  iintro ⟨%f, -, H⟩
  iexists f; iexact H

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4]
  unfold Pipeline.ΦA
  rw [scopedRest0_eq]
  iintro ⟨⟨⟨⟨%g0, G0⟩, ⟨%g1, G1⟩, ⟨%g2, G2⟩⟩, Hp⟩, Ho, ⟨%d0, H0⟩, ⟨%d1, H1⟩, ⟨%d2, H2⟩, ⟨%d3, H3⟩, ⟨%d4, H4⟩⟩
  ihave G0 := scratch_owns c cc0_scratch0 g0 $$ G0
  ihave G1 := scratch_owns c cc0_scratch1 g1 $$ G1
  ihave G2 := scratch_owns c cc0_scratch2 g2 $$ G2
  iapply (sound_body0 c (grid0.coords t) _ _ _ _ _ _ _ _ _ _ (iblk m c 0 t) (iblk m c 1 t) (iblk m c 2 t) (iblk m c 3 t) _)
  isplitl [H0 H1 H2 H3 H4 G0 G1 G2]
  · isplitl [H0]; · iexact H0
    isplitl [H1]; · iexact H1
    isplitl [H2]; · iexact H2
    isplitl [H3]; · iexact H3
    isplitl [H4]; · iexists _; iexact H4
    isplitl [G0]; · iexists _; iexact G0
    isplitl [G1]; · iexists _; iexact G1
    iexists _; iexact G2
  iintro ⟨H0, H1, H2, H3, H4, ⟨%y0, G0⟩, ⟨%y1, G1⟩, ⟨%y2, G2⟩⟩
  isplitl [Hp G0 G1 G2]
  · isplitl [G0 G1 G2]
    · isplitl [G0]; · iapply (owns_scratch c cc0_scratch0 y0); iexact G0
      isplitl [G1]; · iapply (owns_scratch c cc0_scratch1 y1); iexact G1
      iapply (owns_scratch c cc0_scratch2 y2); iexact G2
    iexact Hp
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The launch: every array ends at what the proof data says, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The result array at the proof data's, the arguments unchanged. -/
theorem run_blocks : θ_run defs (onTc (τ := τ) (main (F := F))) ⟨m, fun _ => 0, ρ⟩ (fun r => ∀ c : Dev nD,
      r.2.mem ((c.tc : Thread nD τ).loc main_v8) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ ⟨h, _⟩ c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_quiescent m ρ)

/-- The frame claim, at any floats. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_blocks m ρ))
    ((θ_run defs _ _).mono (fun _ h => h.2) (run_quiescent m ρ))

end Cert.KernelIdeal.SB

end
-- ==== Proof.SB.Real.lean ====
/-
  Stick-breaking attention over the reals: what the logarithms, their sums and the weights of a row are, in base-2 units,
  and the scalar operations of the two programs read at real numbers.
-/
module

public import Idealize.ShloMosaic.PureOps.Ideal
public import Idealize.ShloMosaic.PureOps.Ideal.Laws
public import Idealize.ShloMosaic.Lib.ValueIdx
public import Mathlib.Analysis.SpecialFunctions.Pow.Real

@[expose] public section

noncomputable section

namespace Cert.Stick

open Idealize.ShloMosaic

/-- A finite sum of reals as a sum of extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem coe_abs (x : ℝ) : max (x : EReal) (-(x : EReal)) = ((|x| : ℝ) : EReal) := by
  rw [← EReal.coe_neg, coe_max]; rfl

/-- The base-2 softplus, log₂(1 + 2^x). -/
def sp2 (x : ℝ) : ℝ := max x 0 + Real.log (1 + Real.rpow 2 (-|x|)) * (Real.log 2)⁻¹

theorem pow2_pos (x : ℝ) : 0 < Real.rpow 2 x := Real.rpow_pos_of_pos _root_.two_pos x

/-- The kernel's softplus of a real. -/
theorem kernel_softplus (x : ℝ) :
    max (x : EReal) 0 + Ideal.log (1 + Ideal.exp2 (0 - max (x : EReal) (-(x : EReal)))) * (((Real.log 2)⁻¹ : ℝ) : EReal)
      = (sp2 x : EReal) := by
  have h := pow2_pos (-|x|)
  rw [coe_abs, zero_sub, ← EReal.coe_neg, Ideal.exp2_coe, ← EReal.coe_one, ← EReal.coe_add, Ideal.log_coe,
    if_neg (by linarith), ← EReal.coe_zero, coe_max, ← EReal.coe_mul, ← EReal.coe_add]
  rfl

theorem log_two_ne : Real.log 2 ≠ 0 := (Real.log_pos one_lt_two).ne'

theorem exp_mul_log_two (x : ℝ) : Real.exp (x * Real.log 2) = Real.rpow 2 x := by
  show _ = (2 : ℝ) ^ x
  rw [Real.rpow_def_of_pos _root_.two_pos, mul_comm]

/-- The natural softplus of a real, as `log1p` of an exponential computes it. -/
theorem host_softplus (x : ℝ) :
    max ((x * Real.log 2 : ℝ) : EReal) 0
        + Ideal.log1p (Ideal.exp (-(max ((x * Real.log 2 : ℝ) : EReal) (-((x * Real.log 2 : ℝ) : EReal)))))
      = ((sp2 x * Real.log 2 : ℝ) : EReal) := by
  have h := pow2_pos (-|x|)
  have hl : 0 < Real.log 2 := Real.log_pos one_lt_two
  have ha : -|x * Real.log 2| = -|x| * Real.log 2 := by rw [abs_mul, abs_of_pos hl]; ring
  rw [coe_abs, ← EReal.coe_neg, Ideal.exp_coe, ha, exp_mul_log_two, Ideal.log1p, ← EReal.coe_one, ← EReal.coe_add,
    Ideal.log_coe, if_neg (by linarith), ← EReal.coe_zero, coe_max, ← EReal.coe_add]
  congr 1
  have hm : max (x * Real.log 2) 0 = max x 0 * Real.log 2 := by
    rw [max_mul_of_nonneg _ _ hl.le, zero_mul]
  rw [hm]
  unfold sp2
  rw [add_mul, inv_mul_cancel_right₀ log_two_ne]

/-- The host's softplus, with its test for a value unequal to itself. -/
theorem host_select (x : ℝ) (z : EReal) (h : z = ((x * Real.log 2 : ℝ) : EReal)) :
    Scalar.select (Ideal.cmp .une (z - 0) (z - 0)) (z + 0)
        (max z 0 + Ideal.log1p (Ideal.exp (-(max (z - 0) (-(z - 0))))))
      = ((sp2 x * Real.log 2 : ℝ) : EReal) := by
  have e : Ideal.cmp .une (z - 0) (z - 0) = 0#1 := by
    unfold Ideal.cmp
    simp
  rw [e, sub_zero, h, ← host_softplus x]
  rfl

theorem sp2_neg (x : ℝ) : sp2 (-x) = sp2 x - x := by
  unfold sp2
  rw [abs_neg]
  have : max (-x) 0 = max x 0 - x := by
    rcases le_total x 0 with h | h
    · rw [max_eq_left (by linarith), max_eq_right h]; ring
    · rw [max_eq_right (by linarith), max_eq_left h]; ring
  rw [this]; ring

/-! ### The scores -/

/-- The pair of head `h`, and the head's `k`-th lane among its pair's. -/
def pairIx (h : Fin 8) : Fin 4 := ⟨h.val / 2, by omega⟩
def lane (h : Fin 8) (k : Fin 64) : Fin 128 := ⟨64 * (h.val % 2) + k.val, by omega⟩

/-- Head `h`'s score of query `R` and key `C`, in base-2 units. -/
def xs (Q : Fin 4 → Fin 16896 → Fin 128 → ℝ) (K : Fin 4 → Fin 66 → Fin 128 → Fin 256 → ℝ) (h : Fin 8) (R C : ℕ) : ℝ :=
  ∑ k : Fin 64, Q (pairIx h) (Fin.ofNat 16896 R) (lane h k)
    * K (pairIx h) (Fin.ofNat 66 (C / 256)) (lane h k) (Fin.ofNat 256 C)

/-! ### A row: query `R`, scores `x` by key -/

section Row
variable (R : ℕ) (x : ℕ → ℝ)

/-- The logarithm of what key `C` leaves of the stick; a key not before the query takes nothing. -/
def lnOf (C : ℕ) : ℝ := if C < R then -sp2 (x C) else 0

/-- The logarithms of the keys from `n` on. -/
def sufFrom (n : ℕ) : ℝ := ∑ C ∈ Finset.Ico n 16896, lnOf R x C

/-- The weight of key `C`. -/
def wOf (C : ℕ) : ℝ := if C < R then Real.rpow 2 (x C - sp2 (x C) + sufFrom R x (C + 1)) else 0

/-- Keys past the query add nothing. -/
theorem sufFrom_past (n : ℕ) (h : R ≤ n) : sufFrom R x n = 0 :=
  Finset.sum_eq_zero fun C hC => if_neg (by have := (Finset.mem_Ico.1 hC).1; omega)

theorem sufFrom_split (a b : ℕ) (hab : a ≤ b) (hb : b ≤ 16896) :
    sufFrom R x a = ∑ C ∈ Finset.Ico a b, lnOf R x C + sufFrom R x b :=
  (Finset.sum_Ico_consecutive _ hab hb).symm

end Row

/-- A block's sum over the keys after `c`. -/
theorem block_sum {M : Type} [AddCommMonoid M] (f : ℕ → M) (kb c : ℕ) :
    (∑ k : Fin 256, if c < k.val then f (256 * kb + k.val) else 0) = ∑ C ∈ Finset.Ico (256 * kb + c + 1) (256 * (kb + 1)), f C := by
  rw [Fin.sum_univ_eq_sum_range (fun k => if c < k then f (256 * kb + k) else 0) 256, ← Finset.sum_filter]
  have : (Finset.range 256).filter (c < ·) = Finset.Ico (c + 1) 256 := by
    ext k; simp only [Finset.mem_filter, Finset.mem_range, Finset.mem_Ico]; omega
  rw [this, Finset.sum_Ico_add f]
  congr 1
  rw [show c + 1 + 256 * kb = 256 * kb + c + 1 by omega, show 256 + 256 * kb = 256 * (kb + 1) by omega]

/-- A block's sum. -/
theorem block_all {M : Type} [AddCommMonoid M] (f : ℕ → M) (kb : ℕ) :
    ∑ k : Fin 256, f (256 * kb + k.val) = ∑ C ∈ Finset.Ico (256 * kb) (256 * (kb + 1)), f C := by
  rw [Fin.sum_univ_eq_sum_range (fun k => f (256 * kb + k)) 256, Finset.range_eq_Ico, Finset.sum_Ico_add f]
  congr 1
  rw [show 0 + 256 * kb = 256 * kb by omega, show 256 + 256 * kb = 256 * (kb + 1) by omega]

end Cert.Stick

end
-- ==== Proof.SB.Block.lean ====
/-
  One block of stick-breaking attention at the extended reals: from real scores, a head's sum over the later keys and its
  share of the output.
-/
module

public import proofs.«01_k».proof.Proof.SB.Start
public import proofs.«01_k».proof.Proof.SB.Real
public import Idealize.ShloMosaic.Lib.MatmulPlain
public import Idealize.ShloMosaic.Lib.IdealHost

@[expose] public section

set_option maxRecDepth 16384

noncomputable section

namespace Cert.KernelIdeal.SB

open Cert.KernelIdeal Cert.KernelIdeal.Gen Cert.Stick
open Idealize.ShloMosaic Idealize.ShloMosaic.TcCoe
open Idealize.ShloMosaic.ValueIdx

theorem inv_ln2_eq : (Named.named κ "inv_ln2" 0x3FB8AA3B#32 : Ideal .f32) = (((Real.log 2)⁻¹ : ℝ) : EReal) := rfl
theorem zero_below_eq : (Named.named κ "zero_below" 0xC3170000#32 : Ideal .f32) = (⊥ : EReal) := rfl

theorem score_apply (kt : FVec Ideal S128x256 .bf16) (qm : FVec Ideal S256x128 .bf16) (r c : Fin 256) :
    score kt qm (ix2 r c) = ∑ d : Fin 128, (qm (ix2 r d) : EReal) * kt (ix2 d c) := by
  refine (Ideal.matmul_plain_apply none qm kt _ r c).trans ?_
  show Ideal.ofBits .f32 0x00000000#32 + _ = _
  rw [Ideal.ofBits_zero_f32, zero_add]

theorem inside_apply (u : FVec Ideal S256x256 .bf16) (ln : FVec Ideal S256x256 .f32) (r c : Fin 256) :
    inside u ln (ix2 r c) = ∑ k : Fin 256, (ln (ix2 r k) : EReal) * u (ix2 k c) := by
  refine (Ideal.matmul_plain_apply none (truncf .bf16 ln bitsLt_bf16_f32) u _ r c).trans ?_
  show Ideal.ofBits .f32 0x00000000#32 + _ = _
  rw [Ideal.ofBits_zero_f32, zero_add]
  rfl

theorem gather_apply (w : FVec Ideal S256x256 .f32) (vv : FVec Ideal S256x128 .bf16) (r : Fin 256) (d : Fin 128) :
    gather w vv (ix2 r d) = ∑ k : Fin 256, (w (ix2 r k) : EReal) * vv (ix2 k d) := by
  refine (Ideal.matmul_plain_apply none (truncf .bf16 w bitsLt_bf16_f32) vv _ r d).trans ?_
  show Ideal.ofBits .f32 0x00000000#32 + _ = _
  rw [Ideal.ofBits_zero_f32, zero_add]
  rfl

theorem softplus2_apply (z : FVec Ideal S256x256 .f32) (p : S256x256.Idx) (x : ℝ) (h : z p = (x : EReal)) :
    softplus2 z p = ((sp2 x : ℝ) : EReal) := by
  refine Eq.trans ?_ (kernel_softplus x)
  show max (z p : EReal) (Ideal.ofBits .f32 0x00000000#32)
      + Ideal.log (Ideal.ofBits .f32 0x3F800000#32
          + Ideal.exp2 (Ideal.ofBits .f32 0x00000000#32 - max (z p : EReal) (-(z p : EReal)))) * (((Real.log 2)⁻¹ : ℝ) : EReal) = _
  rw [h, Ideal.ofBits_zero_f32, Ideal.ofBits_one_f32]

theorem col0 (z : FVec Ideal S256x256 .f32) (r : Fin 256) :
    extractStridedSlice S256x1 ![0, 0] z slices_S256x256_o0_0_S256x1 (ix2 r (0 : Fin 1)) = z (ix2 r (0 : Fin 256)) :=
  extractStridedSlice_apply _ _ _ _ _ (by intro a; fin_cases a <;> simp [ix2])

section Head
variable (m : FVec Ideal S256x256 .f32 → FVec Ideal S256x256 .f32) (u : FVec Ideal S256x256 .bf16) (kt : FVec Ideal S128x256 .bf16)
  (vv : FVec Ideal S256x128 .bf16) (qm : FVec Ideal S256x128 .bf16) (later : FVec Ideal S256x128 .f32)
  (i kb : ℕ) (hkb : kb < 66) (r : Fin 256) (x : ℕ → ℝ)
  (hm : ∀ (z : FVec Ideal S256x256 .f32) (c : Fin 256),
    m z (ix2 r c) = if 256 * kb + c.val < 256 * i + r.val then z (ix2 r c) else (0 : EReal))
  (hu : ∀ a b : Fin 256, u (ix2 a b) = if b.val < a.val then (1 : EReal) else 0)
  (hz : ∀ c : Fin 256, score kt qm (ix2 r c) = ((x (256 * kb + c.val) : ℝ) : EReal))
  (hl : ∀ d : Fin 128, later (ix2 r d) = ((sufFrom (256 * i + r.val) x (256 * (kb + 1)) : ℝ) : EReal))

include hm hz in
theorem logNot_eq (c : Fin 256) : logNot m (score kt qm) (ix2 r c) = ((lnOf (256 * i + r.val) x (256 * kb + c.val) : ℝ) : EReal) := by
  unfold logNot lnOf
  rw [hm]
  split
  · show Ideal.ofBits .f32 0x00000000#32 - (softplus2 (score kt qm) (ix2 r c) : EReal) = _
    rw [softplus2_apply _ _ _ (hz c), Ideal.ofBits_zero_f32, zero_sub, EReal.coe_neg]
  · rfl

include hm hz hu in
theorem inside_eq (c : Fin 256) : inside u (logNot m (score kt qm)) (ix2 r c)
    = ((∑ C ∈ Finset.Ico (256 * kb + c.val + 1) (256 * (kb + 1)), lnOf (256 * i + r.val) x C : ℝ) : EReal) := by
  rw [inside_apply, ← block_sum (lnOf (256 * i + r.val) x) kb c.val, coe_sum]
  refine Finset.sum_congr rfl fun k _ => ?_
  rw [logNot_eq m kt qm i kb r x hm hz k, hu]
  split
  · rw [mul_one]
  · rw [mul_zero]; rfl

include hm hz hu hl hkb in
theorem headLater_eq (d : Fin 128) :
    headLater m u kt qm later (ix2 r d) = ((sufFrom (256 * i + r.val) x (256 * kb) : ℝ) : EReal) := by
  unfold headLater newLater
  show (later (ix2 r d) : EReal) + broadcastTo S256x128 _ _ (ix2 r d) = _
  rw [broadcastTo_apply _ _ (ix2 r d) (ix2 r (0 : Fin 1)) (by intro a; fin_cases a <;> rfl), shapeCast_self]
  show (later (ix2 r d) : EReal) + (_ + _) = _
  rw [col0, col0, hl, inside_eq m u kt qm i kb r x hm hu hz, logNot_eq m kt qm i kb r x hm hz, ← EReal.coe_add, ← EReal.coe_add]
  congr 1
  rw [sufFrom_split _ x (256 * kb) (256 * (kb + 1)) (by omega) (by omega),
    Finset.sum_eq_sum_Ico_succ_bot (show 256 * kb < 256 * (kb + 1) by omega)]
  show sufFrom (256 * i + r.val) x (256 * (kb + 1)) + (_ + lnOf (256 * i + r.val) x (256 * kb)) = _
  rw [add_comm, add_comm (lnOf (256 * i + r.val) x (256 * kb))]
  rfl

include hm hz hu hl hkb in
theorem weight_eq (c : Fin 256) :
    weight m (score kt qm) (inside u (logNot m (score kt qm))) later (ix2 r c)
      = ((wOf (256 * i + r.val) x (256 * kb + c.val) : ℝ) : EReal) := by
  unfold weight wOf
  rw [hm]
  split
  · show Ideal.exp2 ((((score kt qm (ix2 r c) : EReal) - softplus2 (score kt qm) (ix2 r c))
        + inside u (logNot m (score kt qm)) (ix2 r c)) + concatenate S256x256 1 [⟨S256x128, later⟩, ⟨S256x128, later⟩]
          concatenates_S256x128_S256x128_S256x256_d1 (ix2 r c)) = _
    have hc : concatenate S256x256 1 [⟨S256x128, later⟩, ⟨S256x128, later⟩] concatenates_S256x128_S256x128_S256x256_d1 (ix2 r c)
        = ((sufFrom (256 * i + r.val) x (256 * (kb + 1)) : ℝ) : EReal) := by
      by_cases hlt : c.val < 128
      · rw [concatenate_pair_apply_left 1 later later _ (ix2 r c) rfl (ix2 r (⟨c.val, hlt⟩ : Fin 128))
          (by intro b; fin_cases b <;> rfl), hl]
      · rw [concatenate_pair_apply_right 1 later later _ (ix2 r c) rfl rfl (ix2 r (⟨c.val - 128, by omega⟩ : Fin 128))
          (by intro b hb; fin_cases b
              · rfl
              · exact absurd rfl hb)
          (show c.val - 128 + 128 = c.val by omega), hl]
    rw [hc, hz, softplus2_apply _ _ _ (hz c), inside_eq m u kt qm i kb r x hm hu hz, ← EReal.coe_sub, ← EReal.coe_add,
      ← EReal.coe_add, Ideal.exp2_coe,
      sufFrom_split _ x (256 * kb + c.val + 1) (256 * (kb + 1)) (by omega) (by omega), add_assoc]
  · rfl

include hm hz hu hl hkb in
theorem headOut_eq (d : Fin 128) : headOut m u kt vv qm later (ix2 r d)
    = ∑ c : Fin 256, ((wOf (256 * i + r.val) x (256 * kb + c.val) : ℝ) : EReal) * vv (ix2 c d) := by
  unfold headOut
  rw [gather_apply]
  exact Finset.sum_congr rfl fun c _ => by rw [weight_eq m u kt qm later i kb hkb r x hm hu hz hl c]

end Head

/-- A signed comparison of two small words. -/
theorem lt_word (a b : ℕ) (ha : a < 2 ^ 31) (hb : b < 2 ^ 31) :
    Scalar.cmpi .slt (BitVec.ofNat 32 a) (BitVec.ofNat 32 b) = if a < b then 1#1 else 0#1 := by
  refine (WordCmp.cmpi_slt_ofNat ha hb).trans ?_
  by_cases h : a < b <;> simp [h]

theorem visible_apply (r c : Fin 256) : visible (ix2 r c) = if c.val < r.val then 1#1 else 0#1 := by
  unfold visible
  show Scalar.cmpi .slt (iota .tc S256x256 32 [1] iota_S256x256_d1_w32 (ix2 r c)) (iota .tc S256x256 32 [0] iota_S256x256_d0_w32 (ix2 r c)) = _
  rw [iota_single_apply, iota_single_apply]
  exact lt_word c.val r.val (by have := c.isLt; omega) (by have := r.isLt; omega)

theorem lowLanes_apply (r : Fin 256) (d : Fin 128) : lowLanes (ix2 r d) = if d.val < 64 then 1#1 else 0#1 := by
  unfold lowLanes
  show Scalar.cmpi .slt (iota .tc S256x128 32 [1] iota_S256x128_d1_w32 (ix2 r d)) 64#32 = _
  rw [iota_single_apply]
  exact lt_word d.val 64 (by have := d.isLt; omega) (by omega)

theorem highLanes_apply (r : Fin 256) (d : Fin 128) : highLanes (ix2 r d) = if d.val < 64 then 0#1 else 1#1 := by
  unfold highLanes
  show Scalar.cmpi .sge (iota .tc S256x128 32 [1] iota_S256x128_d1_w32 (ix2 r d)) 64#32 = _
  rw [iota_single_apply]
  have H : ∀ d : Fin 128, Scalar.cmpi .sge (BitVec.ofNat 32 d.val) 64#32 = if d.val < 64 then 0#1 else 1#1 := by decide
  exact H d

end Cert.KernelIdeal.SB

end
-- ==== Proof.SB.Loop.lean ====
/-
  The whole run of a grid point at the extended reals: after the loop a pair's output is, lane by lane, the weighted sum
  of the values over all keys.
-/
module

public import proofs.«01_k».proof.Proof.SB.Body
public import proofs.«01_k».proof.Proof.SB.Block

@[expose] public section

set_option maxRecDepth 16384

noncomputable section

namespace Cert.KernelIdeal.SB

open Cert.KernelIdeal Cert.KernelIdeal.Gen Cert.Stick
open Idealize.ShloMosaic Idealize.ShloMosaic.TcCoe
open Idealize.ShloMosaic.ValueIdx

/-! ### The words of the offsets -/

theorem ktOff_eq : ∀ n : Fin 66, ∀ j a, ktOff (BitVec.ofNat 32 n.val) j a = (![j.val, n.val, 0, 0] : Fin 4 → ℕ) a := by decide
theorem vvOff_eq : ∀ n : Fin 66, ∀ j a, vvOff (BitVec.ofNat 32 n.val) j a = (![j.val, 256 * n.val, 0] : Fin 3 → ℕ) a := by decide

theorem ktOff0_eq (i : grid0.Coords) (j a) : ktOff0 i j a = (![j.val, (i 0).val, 0, 0] : Fin 4 → ℕ) a := by
  have e : ktOff0 i = ktOff (BitVec.ofNat 32 (i 0).val) := rfl
  rw [e]; exact ktOff_eq (i 0) j a
theorem vvOff0_eq (i : grid0.Coords) (j a) : vvOff0 i j a = (![j.val, 256 * (i 0).val, 0] : Fin 3 → ℕ) a := by
  have e : vvOff0 i = vvOff (BitVec.ofNat 32 (i 0).val) := rfl
  rw [e]; exact vvOff_eq (i 0) j a

theorem ktAt_apply (x1 : Vec Ideal S4x66x128x256 .bf16) (o) (h) (n : Fin 66)
    (ho : ∀ j a, o j a = (![j.val, n.val, 0, 0] : Fin 4 → ℕ) a) (j : Fin 4) (d : Fin 128) (c : Fin 256) :
    ktAt x1 o h j (ix2 d c) = x1 (ix4 j n d c) := by
  unfold ktAt
  refine (shapeCast_apply _ _ (ix2 d c) (ix4 (0 : Fin 1) (0 : Fin 1) d c) ?_).trans (congrArg x1 (funext fun a => Fin.ext ?_))
  · rw [Shape.rowMajor_val_two, Shape.rowMajor_val_four]
    show ((0 * 1 + 0) * 128 + d.val) * 256 + c.val = d.val * 256 + c.val
    omega
  · have := ho j a
    fin_cases a
    · show o j 0 + 1 * 0 = j.val; simpa using this
    · show o j 1 + 1 * 0 = n.val; simpa using this
    · show o j 2 + 1 * d.val = d.val; have : o j 2 = 0 := this; omega
    · show o j 3 + 1 * c.val = c.val; have : o j 3 = 0 := this; omega

theorem vvAt_apply (x2 : Vec Ideal S4x16896x128 .bf16) (o) (h) (n : Fin 66)
    (ho : ∀ j a, o j a = (![j.val, 256 * n.val, 0] : Fin 3 → ℕ) a) (j : Fin 4) (c : Fin 256) (d : Fin 128) :
    vvAt x2 o h j (ix2 c d) = x2 (ix3 j (Fin.ofNat 16896 (256 * n.val + c.val)) d) := by
  unfold vvAt
  refine (shapeCast_dropUnit_apply ![256, 128] _ _ (ix2 c d)).trans (congrArg x2 (funext fun a => Fin.ext ?_))
  have := ho j a
  have hn := n.isLt
  have hc := c.isLt
  fin_cases a
  · show o j 0 + 1 * 0 = j.val; simpa using this
  · show o j 1 + 1 * c.val = (256 * n.val + c.val) % 16896
    have : o j 1 = 256 * n.val := this
    rw [Nat.mod_eq_of_lt (by omega)]; omega
  · show o j 2 + 1 * d.val = d.val; have : o j 2 = 0 := this; omega

theorem slot4_apply (X : Vec Ideal S4x256x128 .bf16) (j : Fin 4) (r : Fin 256) (d : Fin 128) : slot4 X j (ix2 r d) = X (ix3 j r d) := by
  unfold slot4
  refine (shapeCast_dropUnit_apply ![256, 128] _ _ (ix2 r d)).trans (congrArg X (funext fun a => Fin.ext ?_))
  fin_cases a
  · show j.val + 1 * 0 = j.val; omega
  · show 0 + 1 * r.val = r.val; omega
  · show 0 + 1 * d.val = d.val; omega

/-! ### The scores -/

theorem heads_apply (x0 : Vec Ideal S4x256x128 .bf16) (h : Fin 8) (r : Fin 256) (d : Fin 128) :
    heads x0 h (ix2 r d) = if d.val / 64 = h.val % 2 then x0 (ix3 (pairOf h) r d) else (0 : EReal) := by
  have hd := d.isLt
  have lo : Scalar.select (lowLanes (ix2 r d)) (x0 (ix3 (pairOf h) r d)) (0 : EReal)
      = if d.val / 64 = 0 then x0 (ix3 (pairOf h) r d) else (0 : EReal) := by
    rw [lowLanes_apply]
    by_cases hh : d.val < 64
    · rw [if_pos hh, if_pos (by omega)]; rfl
    · rw [if_neg hh, if_neg (by omega)]; rfl
  have hi : Scalar.select (highLanes (ix2 r d)) (x0 (ix3 (pairOf h) r d)) (0 : EReal)
      = if d.val / 64 = 1 then x0 (ix3 (pairOf h) r d) else (0 : EReal) := by
    rw [highLanes_apply]
    by_cases hh : d.val < 64
    · rw [if_pos hh, if_neg (by omega)]; rfl
    · rw [if_neg hh, if_pos (by omega)]; rfl
  have hz : Ideal.ofBits .bf16 0x0000#16 = 0 := Ideal.ofBits_zero_bf16
  unfold heads
  rw [select_apply, slot4_apply]
  show Scalar.select _ _ (Ideal.ofBits .bf16 0x0000#16) = _
  rw [hz]
  fin_cases h
  · exact lo
  · exact hi
  · exact lo
  · exact hi
  · exact lo
  · exact hi
  · exact lo
  · exact hi

/-- A sum over a pair's lanes of what is zero off one head's. -/
theorem sum_lanes {M : Type} [AddCommMonoid M] (h : Fin 8) (f : Fin 128 → M) :
    (∑ d : Fin 128, if d.val / 64 = h.val % 2 then f d else 0) = ∑ k : Fin 64, f (lane h k) := by
  have hs := Fin.sum_univ_add (a := 64) (b := 64) fun d : Fin (64 + 64) => if d.val / 64 = h.val % 2 then f d else 0
  refine hs.trans ?_
  rcases Nat.mod_two_eq_zero_or_one h.val with e | e
  · rw [Finset.sum_eq_zero (s := Finset.univ) (f := fun k : Fin 64 => if (Fin.natAdd 64 k).val / 64 = h.val % 2 then f (Fin.natAdd 64 k) else 0)
      fun k _ => if_neg (by have := k.isLt; rw [Fin.val_natAdd]; omega), add_zero]
    refine Finset.sum_congr rfl fun k _ => ?_
    rw [if_pos (by have := k.isLt; rw [Fin.val_castAdd]; omega)]
    exact congrArg f (Fin.ext (show k.val = 64 * (h.val % 2) + k.val by omega))
  · rw [Finset.sum_eq_zero (s := Finset.univ) (f := fun k : Fin 64 => if (Fin.castAdd 64 k).val / 64 = h.val % 2 then f (Fin.castAdd 64 k) else 0)
      fun k _ => if_neg (by have := k.isLt; rw [Fin.val_castAdd]; omega), zero_add]
    refine Finset.sum_congr rfl fun k _ => ?_
    rw [if_pos (by have := k.isLt; rw [Fin.val_natAdd]; omega)]
    exact congrArg f (Fin.ext (show 64 + k.val = 64 * (h.val % 2) + k.val by omega))

/-! ### The invariant -/

theorem block_W {F : FTy → Type} [FloatOps F] [Named F] (u : FVec F S256x256 .bf16) (fh : IVec S256x128 1) (qm : Fin 8 → FVec F S256x128 .bf16) (m kt vv L A) :
    (block u fh qm m kt vv L A).W = topOf (maxOf (nextL m u kt qm L)) := by
  unfold block
  dsimp only

section
variable (Q : Fin 4 → Fin 16896 → Fin 128 → ℝ) (K : Fin 4 → Fin 66 → Fin 128 → Fin 256 → ℝ)
  (x1 : Vec Ideal S4x66x128x256 .bf16) (x2 : Vec Ideal S4x16896x128 .bf16) (i : ℕ) (hi : i < 66)
  (x0 : Vec Ideal S4x256x128 .bf16) (u : FVec Ideal S256x256 .bf16)
  (h0 : ∀ j r d, x0 (ix3 j r d) = ((Q j (Fin.ofNat 16896 (256 * i + r.val)) d : ℝ) : EReal))
  (h1 : ∀ j n d c, x1 (ix4 j n d c) = ((K j n d c : ℝ) : EReal))
  (hu : ∀ a b : Fin 256, u (ix2 a b) = if b.val < a.val then (1 : EReal) else 0)

/-- The head whose lanes hold `d`. -/
def headAt (j : Fin 4) (d : Fin 128) : Fin 8 := if d.val < 64 then fstOf j else sndOf j

/-- What a key adds to a lane of a pair's output. -/
def share (j : Fin 4) (d : Fin 128) (R C : ℕ) : EReal :=
  ((wOf R (xs Q K (headAt j d) R) C : ℝ) : EReal) * x2 (ix3 j (Fin.ofNat 16896 C) d)

/-- The later sums after the keys from `n` blocks on. -/
def LInv (n : ℕ) (L : Fin 8 → FVec Ideal S256x128 .f32) : Prop :=
  ∀ (h : Fin 8) (r : Fin 256) (d : Fin 128), L h (ix2 r d) = ((sufFrom (256 * i + r.val) (xs Q K h (256 * i + r.val)) (256 * n) : ℝ) : EReal)

/-- The output after the keys from `n` blocks on. -/
def AInv (n : ℕ) (A : Fin 4 → FVec Ideal S256x128 .f32) : Prop :=
  ∀ (j : Fin 4) (r : Fin 256) (d : Fin 128), A j (ix2 r d) = ∑ C ∈ Finset.Ico (256 * n) 16896, share Q K x2 j d (256 * i + r.val) C

include h0 h1 in
theorem score_eq (n : Fin 66) (kt : Fin 4 → FVec Ideal S128x256 .bf16) (hk : ∀ j d c, kt j (ix2 d c) = x1 (ix4 j n d c))
    (h : Fin 8) (r c : Fin 256) :
    score (kt (pairOf h)) (heads x0 h) (ix2 r c) = ((xs Q K h (256 * i + r.val) (256 * n.val + c.val) : ℝ) : EReal) := by
  have hc := c.isLt
  rw [score_apply]
  unfold xs
  show _ = ((∑ k : Fin 64, Q (pairOf h) _ (lane h k) * K (pairOf h) _ (lane h k) _ : ℝ) : EReal)
  rw [coe_sum, ← sum_lanes h fun d => ((Q (pairOf h) (Fin.ofNat 16896 (256 * i + r.val)) d
    * K (pairOf h) (Fin.ofNat 66 ((256 * n.val + c.val) / 256)) d (Fin.ofNat 256 (256 * n.val + c.val)) : ℝ) : EReal)]
  have e1 : Fin.ofNat 66 ((256 * n.val + c.val) / 256) = n := Fin.ext (by
    show (256 * n.val + c.val) / 256 % 66 = n.val; have := n.isLt; omega)
  have e2 : Fin.ofNat 256 (256 * n.val + c.val) = c := Fin.ext (by
    show (256 * n.val + c.val) % 256 = c.val; omega)
  rw [e1, e2]
  refine Finset.sum_congr rfl fun d _ => ?_
  rw [heads_apply, hk]
  split
  · rw [h0, h1, ← EReal.coe_mul]
  · rw [zero_mul]

theorem headAt_eq (j : Fin 4) (d : Fin 128) (r : Fin 256) (f : Fin 8 → EReal) :
    Scalar.select (lowLanes (ix2 r d)) (f (fstOf j)) (f (sndOf j)) = f (headAt j d) := by
  rw [lowLanes_apply]
  unfold headAt
  by_cases h : d.val < 64
  · rw [if_pos h, if_pos h]; rfl
  · rw [if_neg h, if_neg h]; rfl

theorem pair_fst : ∀ j : Fin 4, pairOf (fstOf j) = j ∧ pairOf (sndOf j) = j := by decide

theorem topOf_ne_bot (x : FVec Ideal S256x128 .f32) (p : S256x128.Idx) (h : (⊥ : EReal) < x p) : (⊥ : EReal) < topOf x := by
  have gen : ∀ (S : Finset S1x256x128.Idx) (b : EReal) (f : S1x256x128.Idx → EReal) (q : S1x256x128.Idx), q ∈ S → ⊥ < f q →
      (⊥ : EReal) < S.fold (FloatOps.maximumf (F := Ideal) (φ := .f32)) b f := fun S b f q hq hf =>
    (Finset.lt_fold_max (s := S) (b := b) (f := f) (⊥ : EReal)).2 (.inr ⟨q, hq, hf⟩)
  have only : ∀ y : FVec Ideal S1 .f32, ∃ k : S1.Idx, extractAt ![0, 0, 0] (shapeCast S1x1x1 y shapeCasts_S1_S1x1x1) inpos_S1x1x1_p0_0_0 = y k :=
    fun y => ⟨_, rfl⟩
  obtain ⟨k, e⟩ := only (multiReduction .maximumf [1, 2] S1 (shapeCast S1x256x128 x shapeCasts_S256x128_S1x256x128) 0xFF800000#32
    reduces_S1x256x128_S1 (.inl rfl) rfl)
  unfold topOf
  refine lt_of_lt_of_eq (gen _ _ _ (ix3 (0 : Fin 1) (p 0) (p 1)) ?_ ?_) (e.trans (multiReduction_maximumf_eq_fold (F := Ideal) (φ := .f32)
    (shapeCast S1x256x128 x shapeCasts_S256x128_S1x256x128) _ reduces_S1x256x128_S1 (.inl rfl) rfl k)).symm
  · refine Finset.mem_filter.2 ⟨Finset.mem_univ _, ?_⟩
    funext a
    fin_cases a
    exact Subsingleton.elim (α := Fin 1) _ _
  · refine h.trans_eq ?_
    refine ((shapeCast_addUnit_apply ![256, 128] x _ (ix3 (0 : Fin 1) (p 0) (p 1))).trans (congrArg x ?_)).symm
    exact Shape.idx_ext₂ rfl rfl

include hi h0 h1 hu in
theorem block_inv (m : FVec Ideal S256x256 .f32 → FVec Ideal S256x256 .f32) (n : Fin 66)
    (hm : ∀ (z : FVec Ideal S256x256 .f32) (r c : Fin 256),
      m z (ix2 r c) = if 256 * n.val + c.val < 256 * i + r.val then z (ix2 r c) else (0 : EReal))
    (kt : Fin 4 → FVec Ideal S128x256 .bf16) (hk : ∀ j d c, kt j (ix2 d c) = x1 (ix4 j n d c))
    (vv : Fin 4 → FVec Ideal S256x128 .bf16) (hv : ∀ j c d, vv j (ix2 c d) = x2 (ix3 j (Fin.ofNat 16896 (256 * n.val + c.val)) d))
    (L : Fin 8 → FVec Ideal S256x128 .f32) (A : Fin 4 → FVec Ideal S256x128 .f32)
    (hL : LInv Q K i (n.val + 1) L) (hA : AInv Q K x2 i (n.val + 1) A) :
    LInv Q K i n.val (block u lowLanes (heads x0) m kt vv L A).L ∧ AInv Q K x2 i n.val (block u lowLanes (heads x0) m kt vv L A).A
      ∧ (⊥ : EReal) < (block u lowLanes (heads x0) m kt vv L A).W := by
  have key : LInv Q K i n.val (nextL m u kt (heads x0) L) := fun h r d =>
    headLater_eq m u (kt (pairOf h)) (heads x0 h) (L h) i n.val n.isLt r (xs Q K h (256 * i + r.val)) (hm · r) hu
      (score_eq Q K x1 i x0 h0 h1 n kt hk h r) (hL h r) d
  refine ⟨key, fun j r d => ?_, ?_⟩
  · have hout : ∀ h : Fin 8, pairOf h = j → headOut m u (kt j) (vv j) (heads x0 h) (L h) (ix2 r d)
        = ∑ c : Fin 256, ((wOf (256 * i + r.val) (xs Q K h (256 * i + r.val)) (256 * n.val + c.val) : ℝ) : EReal)
          * x2 (ix3 j (Fin.ofNat 16896 (256 * n.val + c.val)) d) := by
      rintro h rfl
      refine (headOut_eq m u (kt (pairOf h)) (vv (pairOf h)) (heads x0 h) (L h) i n.val n.isLt r (xs Q K h (256 * i + r.val)) (hm · r) hu
        (score_eq Q K x1 i x0 h0 h1 n kt hk h r) (hL h r) d).trans (Finset.sum_congr rfl fun c _ => ?_)
      rw [hv]
    show (A j (ix2 r d) : EReal) + Scalar.select (lowLanes (ix2 r d)) (headOut m u (kt j) (vv j) (heads x0 (fstOf j)) (L (fstOf j)) (ix2 r d))
      (headOut m u (kt j) (vv j) (heads x0 (sndOf j)) (L (sndOf j)) (ix2 r d)) = _
    rw [hout _ (pair_fst j).1, hout _ (pair_fst j).2,
      headAt_eq j d r fun h => ∑ c : Fin 256, ((wOf (256 * i + r.val) (xs Q K h (256 * i + r.val)) (256 * n.val + c.val) : ℝ) : EReal)
          * x2 (ix3 j (Fin.ofNat 16896 (256 * n.val + c.val)) d),
      hA, add_comm,
      ← Finset.sum_Ico_consecutive (share Q K x2 j d (256 * i + r.val)) (show 256 * n.val ≤ 256 * (n.val + 1) by omega)
        (show 256 * (n.val + 1) ≤ 16896 by have := n.isLt; omega),
      ← block_all (share Q K x2 j d (256 * i + r.val)) n.val]
    simp only [share]
  · rw [block_W (F := Ideal)]
    refine topOf_ne_bot _ (ix2 (0 : Fin 256) (0 : Fin 128)) ?_
    refine lt_of_lt_of_le ?_ (le_max_right _ _)
    show (⊥ : EReal) < nextL (F := Ideal) m u kt (heads x0) L 7 (ix2 (0 : Fin 256) (0 : Fin 128))
    rw [key]
    exact EReal.bot_lt_coe _

theorem goesOn_word (n : ℕ) (hn : n < 66) (w : EReal) (h : ⊥ < w) : goesOn (F := Ideal) (word (n + 1)) w = 1#1 := by
  unfold goesOn
  rw [word_succ]
  have e : ∀ n : Fin 66, Scalar.cmpi .sge (BitVec.ofNat 32 n.val) 0#32 = 1#1 := by decide
  rw [e ⟨n, hn⟩]
  show 1#1 &&& BitVec.ofBool (decide ((⊥ : EReal) < w)) = 1#1
  rw [decide_eq_true h]; rfl

include hi h0 h1 hu in
theorem loop_inv : ∀ (n : ℕ) (hn : n ≤ 66) (_ : n ≤ i) (s : St Ideal), LInv Q K i n s.L → AInv Q K x2 i n s.A → (⊥ : EReal) < s.W →
    AInv Q K x2 i 0 (loopFrom u lowLanes (heads x0) x1 x2 n hn s).A
  | 0, _, _, _, _, hA, _ => hA
  | n + 1, hn, hni, s, hL, hA, hW => by
    unfold loopFrom
    rw [if_pos (goesOn_word n hn s.W hW)]
    have ew := word_succ n
    have B := block_inv Q K x1 x2 i hi x0 u h0 h1 hu id ⟨n, hn⟩
      (fun z r c => (if_pos (by have := c.isLt; show 256 * n + c.val < _; omega)).symm)
      (ktAt x1 (ktOff (word (n + 1))) (ktOff_inb _ (chk_word n hn)))
      (ktAt_apply x1 _ _ ⟨n, hn⟩ (by rw [ew]; exact ktOff_eq ⟨n, hn⟩))
      (vvAt x2 (vvOff (word (n + 1))) (vvOff_inb _ (chk_word n hn)))
      (vvAt_apply x2 _ _ ⟨n, hn⟩ (by rw [ew]; exact vvOff_eq ⟨n, hn⟩)) s.L s.A hL hA
    exact loop_inv n (Nat.le_of_succ_le hn) (Nat.le_of_succ_le hni) _ B.1 B.2.1 B.2.2

end

/-- A pair's output at a grid point. -/
theorem final_eq (Q : Fin 4 → Fin 16896 → Fin 128 → ℝ) (K : Fin 4 → Fin 66 → Fin 128 → Fin 256 → ℝ) (i : grid0.Coords)
    (x0 : Vec Ideal S4x256x128 .bf16) (x1 : Vec Ideal S4x66x128x256 .bf16) (x2 : Vec Ideal S4x16896x128 .bf16) (x3 : Vec Ideal S256x256 .bf16)
    (h0 : ∀ j r d, x0 (ix3 j r d) = ((Q j (Fin.ofNat 16896 (256 * (i 0).val + r.val)) d : ℝ) : EReal))
    (h1 : ∀ j n d c, x1 (ix4 j n d c) = ((K j n d c : ℝ) : EReal))
    (hu : ∀ a b : Fin 256, x3 (ix2 a b) = if b.val < a.val then (1 : EReal) else 0)
    (j : Fin 4) (r : Fin 256) (d : Fin 128) :
    (final i x0 x1 x2 x3).A j (ix2 r d) = ∑ C ∈ Finset.range 16896, share Q K x2 j d (256 * (i 0).val + r.val) C := by
  have hi : (i 0).val < 66 := (i 0).isLt
  have hu' : ∀ a b : Fin 256, uOf x3 (ix2 a b) = if b.val < a.val then (1 : EReal) else 0 := fun a b => by
    rw [← hu]
    refine (shapeCast_apply _ _ (ix2 a b) (ix2 a b) rfl).trans (congrArg x3 ?_)
    exact (Shape.idx_ext₂ (show 0 + 1 * a.val = a.val by omega) (show 0 + 1 * b.val = b.val by omega))
  have past : ∀ (r : Fin 256) (C : ℕ), 256 * ((i 0).val + 1) ≤ C → ¬ C < 256 * (i 0).val + r.val := fun r C hC => by
    have := r.isLt; omega
  have B := block_inv Q K x1 x2 (i 0).val hi x0 (uOf x3) h0 h1 hu' earlier (i 0)
    (fun z r c => by
      unfold earlier
      rw [select_apply, visible_apply]
      by_cases h : c.val < r.val
      · rw [if_pos h, if_pos (by omega)]; rfl
      · rw [if_neg h, if_neg (by omega)]; exact Ideal.ofBits_zero_f32)
    (ktAt x1 (ktOff0 i) (ktOff0_inb i)) (ktAt_apply x1 _ _ (i 0) (ktOff0_eq i))
    (vvAt x2 (vvOff0 i) (vvOff0_inb i)) (vvAt_apply x2 _ _ (i 0) (vvOff0_eq i)) (fun _ => zeros) (fun _ => zeros)
    (fun h r d => by
      rw [sufFrom_past _ _ _ (by have := r.isLt; omega)]; exact Ideal.ofBits_zero_f32)
    (fun j r d => by
      refine Ideal.ofBits_zero_f32.trans (Finset.sum_eq_zero fun C hC => ?_).symm
      unfold share wOf
      rw [if_neg (past r C (Finset.mem_Ico.1 hC).1)]
      exact zero_mul _)
  have R := loop_inv Q K x1 x2 (i 0).val hi x0 (uOf x3) h0 h1 hu' (i 0).val (i_le i) le_rfl (start0 i x0 x1 x2 x3) B.1 B.2.1 B.2.2
  rw [Finset.range_eq_Ico]
  exact R j r d

end Cert.KernelIdeal.SB

end
-- ==== Proof.SB.Ref.lean ====
/-
  The reference of stick-breaking attention at the extended reals: on finite queries and keys each entry of its result is
  the weighted sum of the values over all keys.
-/
module

public import proofs.«01_k».proof.Proof.Gen.ReferenceIdeal.Read
public import proofs.«01_k».proof.Proof.SB.Real
public import Idealize.ShloMosaic.Lib.WordCmp
public import Idealize.ShloMosaic.Lib.IdealHost
public import Idealize.ShloMosaic.Lib.Routing.Ops

@[expose] public section

set_option maxRecDepth 16384

noncomputable section

namespace Cert.ReferenceIdeal.SB

open Cert.ReferenceIdeal Cert.ReferenceIdeal.Gen Cert.ReferenceIdeal.Read Cert.Stick
open Idealize.ShloMosaic Idealize.ShloMosaic.TcCoe
open Idealize.ShloMosaic.ValueIdx

theorem ofBits_two : Ideal.ofBits .f32 0x40000000#32 = ((2 : ℝ) : EReal) := by
  simp [Ideal.ofBits, Ideal.ieee]
  rw [← EReal.coe_mul]; norm_num

section
variable (x0 : (⟨S4x16896x128, .bf16⟩ : BufTy).Contents (Elt Ideal)) (x1 : (⟨S4x66x128x256, .bf16⟩ : BufTy).Contents (Elt Ideal))
  (x2 : (⟨S4x16896x128, .bf16⟩ : BufTy).Contents (Elt Ideal))

theorem q_apply (h : Fin 8) (R : Fin 16896) (k : Fin 64) :
    val_main_v3 (F := Ideal) x0 (ix3 h R k) = x0 (ix3 (pairIx h) R (lane h k)) := by
  have := h.isLt; have := R.isLt; have := k.isLt
  have e3 : idx_main_v3 (ix3 h R k) = ix4 (pairIx h) (⟨h.val % 2, by omega⟩ : Fin 2) R k := by
    funext a
    fin_cases a <;> refine Fin.ext ?_ <;> simp [idx_main_v3, ix3, ix4, pairIx] <;> omega
  have e2 : idx_main_v2 (ix4 (pairIx h) (⟨h.val % 2, by omega⟩ : Fin 2) R k) = ix4 (pairIx h) R (⟨h.val % 2, by omega⟩ : Fin 2) k := by
    funext a
    fin_cases a <;> rfl
  have e1 : idx_main_v1 (ix4 (pairIx h) R (⟨h.val % 2, by omega⟩ : Fin 2) k) = ix3 (pairIx h) R (lane h k) := by
    funext a
    fin_cases a <;> refine Fin.ext ?_ <;> simp [idx_main_v1, ix3, ix4, pairIx, lane] <;> omega
  rw [val_main_v3_apply, e3, val_main_v2_apply, e2, val_main_v1_apply, e1]
  rfl

theorem v_apply (h : Fin 8) (R : Fin 16896) (k : Fin 64) :
    val_main_v7 (F := Ideal) x2 (ix3 h R k) = x2 (ix3 (pairIx h) R (lane h k)) := q_apply x2 h R k

theorem k_apply (h : Fin 8) (k : Fin 64) (C : Fin 16896) :
    val_main_v10 (F := Ideal) x1 (ix3 h k C) = x1 (ix4 (pairIx h) (Fin.ofNat 66 (C.val / 256)) (lane h k) (Fin.ofNat 256 C.val)) := by
  rw [val_main_v10_apply, val_main_v9_apply, val_main_v8_apply]
  have := h.isLt; have := C.isLt; have := k.isLt
  refine congrArg x1 (funext fun a => Fin.ext ?_)
  fin_cases a
  · simp [idx_main_v9, idx_main_v10, ix3, ix4, pairIx]; omega
  · simp [idx_main_v9, idx_main_v10, ix3, ix4, pairIx]; omega
  · simp [idx_main_v9, idx_main_v10, ix3, ix4, lane]; omega
  · simp [idx_main_v9, idx_main_v10, ix3, ix4, lane]; omega

variable (Q : Fin 4 → Fin 16896 → Fin 128 → ℝ) (K : Fin 4 → Fin 66 → Fin 128 → Fin 256 → ℝ)
  (h0 : ∀ j R d, x0 (ix3 j R d) = ((Q j R d : ℝ) : EReal))
  (h1 : ∀ j n d c, x1 (ix4 j n d c) = ((K j n d c : ℝ) : EReal))

include h0 h1

theorem z_apply (h : Fin 8) (R C : Fin 16896) :
    val_main_v14 (F := Ideal) x0 x1 (ix3 h R C) = ((xs Q K h R.val C.val * Real.log 2 : ℝ) : EReal) := by
  rw [val_main_v14_apply, val_main_v13_apply, val_main_v12_apply, val_main_cst_apply, val_main_v11_apply]
  show (_ * Ideal.log (Ideal.ofBits .f32 0x40000000#32) : EReal) = _
  rw [ofBits_two, Ideal.log_coe, if_neg (by norm_num), EReal.coe_mul]
  congr 1
  unfold xs
  rw [coe_sum]
  refine Finset.sum_congr rfl fun k _ => ?_
  have e1 : lidx_main_v11 (ix3 h R C) k = ix3 h R k := by funext a; fin_cases a <;> rfl
  have e2 : ridx_main_v11 (ix3 h R C) k = ix3 h k C := by funext a; fin_cases a <;> rfl
  have eR : Fin.ofNat 16896 R.val = R := Fin.ext (Nat.mod_eq_of_lt R.isLt)
  rw [e1, e2, q_apply, k_apply, h0, h1, ← EReal.coe_mul, eR]

/-- The softplus of the natural score. -/
theorem sp_apply (h : Fin 8) (R C : Fin 16896) :
    val_main_v23 (F := Ideal) x0 x1 (ix3 h R C) = ((sp2 (xs Q K h R.val C.val) * Real.log 2 : ℝ) : EReal) := by
  rw [← host_select _ _ (z_apply x0 x1 Q K h0 h1 h R C)]
  have hz := Ideal.ofBits_zero_f32
  simp only [val_main_v23_apply, val_main_call0_v4_apply, val_main_call0_v3_apply, val_main_call0_v2_apply, val_main_call0_v6_apply,
    val_main_call0_v5_apply, val_main_call0_v11_apply, val_main_call0_v10_apply, val_main_call0_v9_apply, val_main_call0_v8_apply,
    val_main_call0_v7_apply, val_main_call0_v1_apply, val_main_call0_v0_apply, val_main_call0_cst_apply, Ideal.ofBits_def, hz]
  rfl

/-- The softplus of its negation. -/
theorem spn_apply (h : Fin 8) (R C : Fin 16896) :
    val_main_call3_v1 (F := Ideal) x0 x1 (ix3 h R C) = ((sp2 (-xs Q K h R.val C.val) * Real.log 2 : ℝ) : EReal) := by
  have hn : val_main_call3_v0 (F := Ideal) x0 x1 (ix3 h R C) = ((-xs Q K h R.val C.val * Real.log 2 : ℝ) : EReal) := by
    rw [val_main_call3_v0_apply, z_apply x0 x1 Q K h0 h1, neg_mul, EReal.coe_neg]
    rfl
  rw [← host_select _ _ hn]
  have hz := Ideal.ofBits_zero_f32
  simp only [val_main_call3_v1_apply, val_main_call3_call0_v4_apply, val_main_call3_call0_v3_apply, val_main_call3_call0_v2_apply, val_main_call3_call0_v6_apply,
    val_main_call3_call0_v5_apply, val_main_call3_call0_v11_apply, val_main_call3_call0_v10_apply, val_main_call3_call0_v9_apply, val_main_call3_call0_v8_apply,
    val_main_call3_call0_v7_apply, val_main_call3_call0_v1_apply, val_main_call3_call0_v0_apply, val_main_call3_call0_cst_apply, Ideal.ofBits_def, hz]
  rfl

omit h0 h1 in
theorem seen_apply (h : Fin 8) (R C : Fin 16896) :
    val_main_call1_v1 (F := Ideal) (ix3 h R C) = if C.val < R.val then 1#1 else 0#1 := by
  rw [val_main_call1_v1_apply, val_main_v22_apply, val_main_v21_apply, val_main_v19_apply, val_main_v20_apply, val_main_v16_apply,
    val_main_v18_apply, val_main_v15_apply, val_main_v17_apply]
  have := C.isLt; have := R.isLt
  refine (WordCmp.cmpi_slt_ofNat (w := 32) (a := C.val) (b := R.val) (by omega) (by omega)).trans ?_
  by_cases h : C.val < R.val <;> simp [h]

/-- The logarithms. -/
theorem ln_apply (h : Fin 8) (R C : Fin 16896) :
    val_main_v25 (F := Ideal) x0 x1 (ix3 h R C) = ((lnOf R.val (xs Q K h R.val) C.val * Real.log 2 : ℝ) : EReal) := by
  rw [val_main_v25_apply, seen_apply, val_main_v24_apply, sp_apply x0 x1 Q K h0 h1, val_main_call1_v2_apply]
  unfold lnOf
  by_cases hc : C.val < R.val
  · rw [if_pos hc, if_pos hc, neg_mul, EReal.coe_neg]; rfl
  · rw [if_neg hc, if_neg hc, zero_mul]; exact Ideal.ofBits_zero_f32

omit h0 h1 in
theorem foldl_add {ι : Type} (g : ι → EReal) (l : List ι) (a : EReal) : l.foldl (fun r n => r + g n) a = a + (l.map g).sum := by
  induction l generalizing a with
  | nil => exact (add_zero a).symm
  | cons n l ih => rw [List.foldl_cons, ih, List.map_cons, List.sum_cons, add_assoc]

omit h0 h1 in
/-- A host window sum from zero, as a sum over the window's places. -/
theorem window_eq {s t u : Shape} (window strides lo hi : Fin s.rank → ℕ) (x : FVec Ideal s .f32) (init : FVec Ideal u .f32)
    (h : s.ReduceWindows window strides lo hi t) (hu : 0 < u.numel) (hi0 : ∀ p, init p = (0 : EReal)) (j : t.Idx) :
    Host.reduceWindowAdd window strides lo hi x init h hu j
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else (0 : EReal)) := by
  have e : init (Shape.Idx.first hu) = (0 : EReal) := hi0 _
  refine (foldl_add _ _ (init (Shape.Idx.first hu) : EReal)).trans ?_
  rw [e, zero_add]
  have sums : ∀ (N : ℕ) (f : Fin N → EReal), ((List.finRange N).map f).sum = ∑ i, f i := fun N f => (Fin.sum_univ_def f).symm
  refine (sums _ _).trans ?_
  refine (Finset.sum_congr rfl fun n _ => dite_congr rfl (fun _ => rfl) fun _ => rfl).trans (Equiv.sum_comp (M := EReal) (Shape.rowMajor (⟨s.rank, window⟩ : Shape)).symm fun w =>
    if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩) else (0 : EReal))

omit h0 h1 in
/-- A sum over windows reaching to the row's end is the sum from each entry on. -/
theorem window_sum (x : FVec Ideal S8x16896x16896 .f32) (init : FVec Ideal S_ .f32) (hi : ∀ p, init p = (0 : EReal))
    (h : Fin 8) (R C : Fin 16896) (f : ℕ → EReal) (hf : ∀ C : Fin 16896, x (ix3 h R C) = f C.val) :
    Host.reduceWindowAdd ![1, 1, 16896] ![1, 1, 1] ![0, 0, 0] ![0, 0, 16895] x init
      reduceWindows_S8x16896x16896_S8x16896x16896_w1s1p0_0_w1s1p0_0_w16896s1p0_16895 h_S_ (ix3 h R C)
      = ∑ C' ∈ Finset.Ico C.val 16896, f C' := by
  have hC := C.isLt
  have hR := R.isLt
  have hh := h.isLt
  rw [window_eq _ _ _ _ x init _ _ hi]
  have places : ∀ g : (⟨3, ![1, 1, 16896]⟩ : Shape).Idx → EReal, ∑ w, g w = ∑ n : Fin 16896, g (ix3 (0 : Fin 1) (0 : Fin 1) n) := fun g =>
    (Fintype.sum_equiv ⟨fun n : Fin 16896 => (ix3 (0 : Fin 1) (0 : Fin 1) n : (⟨3, ![1, 1, 16896]⟩ : Shape).Idx), fun w => w 2, fun _ => rfl, fun w => by
      funext a
      fin_cases a
      · exact Subsingleton.elim (α := Fin 1) _ _
      · exact Subsingleton.elim (α := Fin 1) _ _
      · rfl⟩ _ g fun _ => rfl).symm
  refine (places _).trans ?_
  refine (Finset.sum_congr rfl fun n _ => (?_ : _ = (if C.val + n.val < 16896 then f (C.val + n.val) else 0))).trans ?_
  · by_cases hn : C.val + n.val < 16896
    · rw [if_pos hn, ← hf ⟨C.val + n.val, hn⟩]
      refine (dif_pos (c := ∀ a : Fin 3, _ ∧ _) ?_).trans (congrArg x (funext fun a => Fin.ext ?_))
      · intro a
        fin_cases a <;> refine ⟨Nat.zero_le _, ?_⟩
        · show h.val * 1 + 0 - 0 < 8; omega
        · show R.val * 1 + 0 - 0 < 16896; omega
        · show C.val * 1 + n.val - 0 < 16896; omega
      · fin_cases a
        · show h.val * 1 + 0 - 0 = h.val; omega
        · show R.val * 1 + 0 - 0 = R.val; omega
        · show C.val * 1 + n.val - 0 = C.val + n.val; omega
    · rw [if_neg hn]
      refine dif_neg (c := ∀ a : Fin 3, _ ∧ _) fun H => hn ?_
      have := (H 2).2
      have : C.val * 1 + n.val - 0 < 16896 := this
      omega
  rw [Fin.sum_univ_eq_sum_range (fun n => if C.val + n < 16896 then f (C.val + n) else 0) 16896,
    Finset.sum_Ico_eq_sum_range, ← Finset.sum_filter]
  refine Finset.sum_congr (Finset.ext fun n => ?_) fun _ _ => rfl
  simp only [Finset.mem_filter, Finset.mem_range]
  omega

theorem suffix_apply (h : Fin 8) (R C : Fin 16896) :
    val_main_v30 (F := Ideal) x0 x1 (ix3 h R C) = ((sufFrom R.val (xs Q K h R.val) (C.val + 1) * Real.log 2 : ℝ) : EReal) := by
  have hw : ∀ C : Fin 16896, val_main_v26 (F := Ideal) x0 x1 (ix3 h R C) = ((sufFrom R.val (xs Q K h R.val) C.val * Real.log 2 : ℝ) : EReal) := fun C => by
    refine (window_sum (val_main_v25 (F := Ideal) x0 x1) _ (fun p => Ideal.ofBits_zero_f32) h R C
      (fun C => ((lnOf R.val (xs Q K h R.val) C * Real.log 2 : ℝ) : EReal)) (ln_apply x0 x1 Q K h0 h1 h R)).trans ?_
    rw [← coe_sum, ← Finset.sum_mul]; rfl
  unfold val_main_v30
  have hC := C.isLt
  by_cases hlt : C.val < 16895
  · refine (concatenate_pair_apply_left 2 (val_main_v27 (F := Ideal) x0 x1) (val_main_v29 (F := Ideal)) _ (ix3 h R C) rfl (ix3 h R (⟨C.val, hlt⟩ : Fin 16895)) (by intro b; fin_cases b <;> rfl)).trans ?_
    rw [val_main_v27_apply]
    refine Eq.trans (congrArg _ ?_) (hw ⟨C.val + 1, by omega⟩)
    funext a
    fin_cases a
    · rfl
    · rfl
    · exact Fin.ext (Nat.add_comm 1 C.val)
  · refine (concatenate_pair_apply_right 2 (val_main_v27 (F := Ideal) x0 x1) (val_main_v29 (F := Ideal)) _ (ix3 h R C) rfl rfl (ix3 h R (0 : Fin 1)) (by
      intro b hb; fin_cases b
      · rfl
      · rfl
      · exact absurd rfl hb) (show 0 + 16895 = C.val by omega)).trans ?_
    have : sufFrom R.val (xs Q K h R.val) (C.val + 1) = 0 := by
      unfold sufFrom; rw [Finset.Ico_eq_empty (by omega)]; rfl
    rw [this, zero_mul]
    exact Ideal.ofBits_zero_f32

/-- The weights. -/
theorem weight_apply (h : Fin 8) (R C : Fin 16896) :
    val_main_v34 (F := Ideal) x0 x1 (ix3 h R C) = ((wOf R.val (xs Q K h R.val) C.val : ℝ) : EReal) := by
  have hs : val_main_call4_v1 (F := Ideal) (ix3 h R C) = if C.val < R.val then 1#1 else 0#1 := seen_apply h R C
  rw [val_main_v34_apply, hs, val_main_call4_v2_apply, val_main_v33_apply, val_main_v32_apply, val_main_v31_apply,
    spn_apply x0 x1 Q K h0 h1, suffix_apply x0 x1 Q K h0 h1]
  unfold wOf
  by_cases hc : C.val < R.val
  · rw [if_pos hc, if_pos hc]
    show Ideal.exp (-((sp2 (-xs Q K h R.val C.val) * Real.log 2 : ℝ) : EReal) + ((sufFrom R.val (xs Q K h R.val) (C.val + 1) * Real.log 2 : ℝ) : EReal)) = _
    rw [← EReal.coe_neg, ← EReal.coe_add, Ideal.exp_coe, sp2_neg, ← exp_mul_log_two]
    congr 2; ring
  · rw [if_neg hc, if_neg hc]; exact Ideal.ofBits_zero_f32

theorem out_apply (h : Fin 8) (R : Fin 16896) (k : Fin 64) :
    val_main_v35 (F := Ideal) x0 x1 x2 (ix3 h R k)
      = ∑ C : Fin 16896, ((wOf R.val (xs Q K h R.val) C.val : ℝ) : EReal) * x2 (ix3 (pairIx h) C (lane h k)) := by
  rw [val_main_v35_apply]
  refine Finset.sum_congr rfl fun C _ => ?_
  have e1 : lidx_main_v35 (ix3 h R k) C = ix3 h R C := by funext a; fin_cases a <;> rfl
  have e2 : ridx_main_v35 (ix3 h R k) C = ix3 h C k := by funext a; fin_cases a <;> rfl
  rw [e1, e2, weight_apply x0 x1 Q K h0 h1, v_apply]

theorem result_apply (h : Fin 8) (R : Fin 16896) (k : Fin 64) :
    val_main_v38 (F := Ideal) x0 x1 x2 (ix2 R (⟨64 * h.val + k.val, by omega⟩ : Fin 512))
      = ∑ C : Fin 16896, ((wOf R.val (xs Q K h R.val) C.val : ℝ) : EReal) * x2 (ix3 (pairIx h) C (lane h k)) := by
  rw [val_main_v38_apply, val_main_v37_apply, val_main_v36_apply, ← out_apply x0 x1 x2 Q K h0 h1 h R k]
  have := h.isLt; have := R.isLt; have := k.isLt
  refine congrArg (val_main_v35 (F := Ideal) x0 x1 x2) (funext fun a => Fin.ext ?_)
  fin_cases a
  · simp [idx_main_v36, idx_main_v37, ix2, ix3]; omega
  · simp [idx_main_v36, idx_main_v37, ix2, ix3]; omega
  · simp [idx_main_v36, idx_main_v37, ix2, ix3]; omega

end

end Cert.ReferenceIdeal.SB

end
-- ==== Proof.SB.Value.lean ====
/-
  The attention call against its reference at the extended reals, on finite queries and keys.
-/
module

public import proofs.«01_k».proof.Defs
public import proofs.«01_k».proof.Proof.SB.Frame
public import proofs.«01_k».proof.Proof.SB.Loop
public import proofs.«01_k».proof.Proof.SB.Ref
public import proofs.«01_k».proof.Proof.Gen.ReferenceIdeal.Run
public import Idealize.ShloMosaic.Lib.ReduceAll
public import Idealize.ShloMosaic.Lib.Pipeline.ValueKit.Geometry

@[expose] public section

set_option maxRecDepth 16384

noncomputable section

namespace Cert.KernelIdeal.SB

open Cert.KernelIdeal Cert.KernelIdeal.Gen Cert.Stick
open Idealize.ShloMosaic Idealize.ShloMosaic.TcCoe Idealize.SL.Sem
open Idealize.ShloMosaic.ValueIdx
open Idealize.ShloMosaic.Pipeline (Dat)

/-! ### The precondition -/

theorem real_of_lt (x : EReal) (h : Ideal.cmp .olt (max x (-x)) (Ideal.ofBits .f32 0x7F800000#32) = 1#1) : x = ((x.toReal : ℝ) : EReal) := by
  have ht : Ideal.ofBits .f32 0x7F800000#32 = (⊤ : EReal) := by
    unfold Ideal.ofBits Ideal.ieee; simp
  rw [ht] at h
  have hlt : max x (-x) < ⊤ := by
    by_contra hn
    simp [Ideal.cmp, hn] at h
  refine (EReal.coe_toReal ?_ ?_).symm
  · rintro rfl; simp at hlt
  · rintro rfl; simp at hlt

theorem real_of_pre [Cert.Pre_finite_scores.Facts] (x0 : FVec Ideal S4x16896x128 .bf16) (x1 : FVec Ideal S4x66x128x256 .bf16) (x2 : FVec Ideal S4x16896x128 .bf16)
    (h : Cert.Pre_finite_scores.fn (F := Ideal) x0 x1 x2 = fun _ => 1#1) :
    (∀ i, x0 i = (((x0 i : EReal).toReal : ℝ) : EReal)) ∧ ∀ i, x1 i = (((x1 i : EReal).toReal : ℝ) : EReal) := by
  have e := congrFun h (fun a => a.elim0)
  obtain ⟨e0, e1⟩ := IntOp.andi_eq_one.1 e
  haveI : Subsingleton Cert.Pre_finite_scores.S_.Idx := ⟨fun a b => funext fun k => k.elim0⟩
  exact ⟨fun i => real_of_lt _ (Host.reduce_andi_all _ _ _ _ _ e0 i), fun i => real_of_lt _ (Host.reduce_andi_all _ _ _ _ _ e1 i)⟩

/-! ### The blocks -/

variable (m : (ℓ : Loc nD τ sig) → Buf (Elt Ideal) ℓ) (c : Dev nD)

theorem index0 : ∀ t : Fin grid0.N, win0_0.index t = ![0, (grid0.coords t 0).val, 0] := by decide +kernel
theorem index1 : ∀ t : Fin grid0.N, win0_1.index t = ![0, 0, 0, 0] := by decide +kernel
theorem index2 : ∀ t : Fin grid0.N, win0_2.index t = ![0, 0, 0] := by decide +kernel
theorem index3 : ∀ t : Fin grid0.N, win0_3.index t = ![0, 0] := by decide +kernel
theorem index4 : ∀ t : Fin grid0.N, win0_4.index t = ![(grid0.coords t 0).val, 0] := by decide +kernel

theorem block0 (t : Fin (cfg0 (F := Ideal)).N) (j : Fin 4) (r : Fin 256) (d : Fin 128) :
    iblk m c 0 t (ix3 j r d) = m ((c : Thread nD τ).loc main_arg0) (ix3 j (Fin.ofNat 16896 (256 * (grid0.coords t 0).val + r.val)) d) := by
  have hi : (grid0.coords t 0).val < 66 := (grid0.coords t 0).isLt
  rw [← V_main_arg0 m c]
  refine congrArg (V m c main_arg0) (funext fun a => Fin.ext ?_)
  have := r.isLt
  fin_cases a
  · blk_simp [index0 t]; try simp [ix3]
  · blk_simp [index0 t]; simp [ix3]; omega
  · blk_simp [index0 t]; try simp [ix3]

theorem block1 (t : Fin (cfg0 (F := Ideal)).N) (j : Fin 4) (n : Fin 66) (d : Fin 128) (k : Fin 256) :
    iblk m c 1 t (ix4 j n d k) = m ((c : Thread nD τ).loc main_arg1) (ix4 j n d k) := by
  rw [← V_main_arg1 m c]
  refine congrArg (V m c main_arg1) (funext fun a => Fin.ext ?_)
  fin_cases a <;> blk_simp [index1 t] <;> simp [ix4]

theorem block2 (t : Fin (cfg0 (F := Ideal)).N) : iblk m c 2 t = m ((c : Thread nD τ).loc main_arg2) := by
  rw [← V_main_arg2 m c]
  funext y
  refine congrArg (V m c main_arg2) (funext fun a => Fin.ext ?_)
  fin_cases a <;> blk_simp [index2 t] <;> simp

theorem V_lower : V m c main_v7 = fun y : S256x256.Idx => if (y 1).val < (y 0).val then (1 : EReal) else 0 := by
  have e : V m c main_v7 = (uitofp .bf16 (cmpi .sgt
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))) : FVec Ideal S256x256 .bf16) := by
    unfold V hostOps0
    after_results
  rw [e]
  funext y
  have h0 := (y 0).isLt
  have h1 := (y 1).isLt
  have e := WordCmp.cmpi_sgt_ofNat (w := 32) (a := (y 0).val) (b := (y 1).val) (by change (y 0).val < 256 at h0; omega) (by change (y 1).val < 256 at h1; omega)
  show (((IntOp.cmpi .sgt (BitVec.ofNat 32 (y 0).val) (BitVec.ofNat 32 (y 1).val)).toNat : ℝ) : EReal) = _
  rw [e]
  by_cases h : (y 1).val < (y 0).val
  · rw [if_pos h]; simp [h]
  · rw [if_neg h]; simp [h]

theorem block3 (t : Fin (cfg0 (F := Ideal)).N) (a b : Fin 256) :
    iblk m c 3 t (ix2 a b) = if b.val < a.val then (1 : EReal) else 0 := by
  refine Eq.trans (congrArg (V m c main_v7) (?_ : _ = ix2 a b)) (congrFun (V_lower m c) (ix2 a b))
  funext k
  refine Fin.ext ?_
  fin_cases k <;> blk_simp [index3 t] <;> simp [ix2]

theorem outBlock_apply (A : Fin 4 → FVec Ideal S256x128 .f32) (j : Fin 4) (r : Fin 256) (d : Fin 128) (y : S256x512.Idx)
    (h0 : (y 0).val = r.val) (h1 : (y 1).val = 128 * j.val + d.val) : outBlock A y = A j (ix2 r d) := by
  have hd := d.isLt
  have hr := r.isLt
  let G : S256x512.Idx → EReal := fun y => A (Fin.ofNat 4 ((y 1).val / 128)) (ix2 (y 0) (Fin.ofNat 128 (y 1).val))
  have piece : ∀ (j : Fin 4) (o) (ho : o = (![0, 128 * j.val] : Fin 2 → ℕ)) (inb) (x : (Rect.unit (s := S256x512) o S256x128.size inb).shape.Idx),
      outSlot (A j) x = G ((Rect.unit (s := S256x512) o S256x128.size inb).emb x) := by
    rintro j _ rfl inb x
    have h1 : (x 1).val < 128 := (x 1).isLt
    have e0 : (((Rect.unit (s := S256x512) ![0, 128 * j.val] S256x128.size inb).emb x) 0).val = (x 0).val := by
      show 0 + 1 * (x 0).val = _; omega
    have e1 : (((Rect.unit (s := S256x512) ![0, 128 * j.val] S256x128.size inb).emb x) 1).val = 128 * j.val + (x 1).val := by
      show 128 * j.val + 1 * (x 1).val = _; omega
    have ej : Fin.ofNat 4 ((((Rect.unit (s := S256x512) ![0, 128 * j.val] S256x128.size inb).emb x) 1).val / 128) = j := Fin.ext (by
      have := j.isLt; show _ / 128 % 4 = j.val; rw [e1]; omega)
    show A j x = A (Fin.ofNat 4 _) _
    rw [ej]
    refine congrArg (A j) (Shape.idx_ext₂ e0.symm ?_)
    show (x 1).val = _ % 128
    rw [e1]; omega
  have inside : ∀ (j : Fin 4) (o) (ho : o = (![0, 128 * j.val] : Fin 2 → ℕ)) (inb), (y 1).val / 128 = j.val →
      y ∈ (Rect.unit (s := S256x512) o S256x128.size inb).set := by
    rintro j _ rfl inb hj
    have ey : y = (Rect.unit (s := S256x512) ![0, 128 * j.val] S256x128.size inb).emb (ix2 r d) := Shape.idx_ext₂ ?_ ?_
    · rw [ey]; exact LoadRect.idx_mem _ _
    · show _ = 0 + 1 * r.val; omega
    · show _ = 128 * j.val + 1 * d.val; omega
  have e : outBlock A y = G y := by
    unfold outBlock
    refine View.canon_apply_of_pieces (Val := Elt Ideal) (e := .bf16) G _ ?_ y ?_
    · intro p hp
      rcases List.mem_cons.1 hp with rfl | hp
      · exact piece 3 ![0, 384] rfl inb_S256x512_S256x128_0_384
      rcases List.mem_cons.1 hp with rfl | hp
      · exact piece 2 ![0, 256] rfl inb_S256x512_S256x128_0_256
      rcases List.mem_cons.1 hp with rfl | hp
      · exact piece 1 ![0, 128] rfl inb_S256x512_S256x128_0_128
      obtain rfl := List.mem_singleton.1 hp
      exact piece 0 ![0, 0] rfl inb_S256x512_S256x128_0_0
    · have hj : (y 1).val / 128 = j.val := by omega
      fin_cases j
      · exact ⟨_, List.mem_cons_of_mem _ (List.mem_cons_of_mem _ (List.mem_cons_of_mem _ (List.mem_singleton_self _))), inside 0 ![0, 0] rfl inb_S256x512_S256x128_0_0 hj⟩
      · exact ⟨_, List.mem_cons_of_mem _ (List.mem_cons_of_mem _ List.mem_cons_self), inside 1 ![0, 128] rfl inb_S256x512_S256x128_0_128 hj⟩
      · exact ⟨_, List.mem_cons_of_mem _ List.mem_cons_self, inside 2 ![0, 256] rfl inb_S256x512_S256x128_0_256 hj⟩
      · exact ⟨_, List.mem_cons_self, inside 3 ![0, 384] rfl inb_S256x512_S256x128_0_384 hj⟩
  rw [e]
  show A (Fin.ofNat 4 _) _ = _
  have ej : Fin.ofNat 4 ((y 1).val / 128) = j := Fin.ext (by
    have := j.isLt; show _ / 128 % 4 = j.val; rw [h1]; omega)
  rw [ej]
  refine congrArg (A j) (Shape.idx_ext₂ h0 ?_)
  show (y 1).val % 128 = d.val
  rw [h1]; omega

theorem head_lane (h : Fin 8) (k : Fin 64) : headAt (pairIx h) (lane h k) = h := by
  revert h k; decide

/-- The result array. -/
theorem result_eq [Cert.Pre_finite_scores.Facts]
    (hpre : Cert.Pre_finite_scores.fn (F := Ideal) (m ((c : Thread nD τ).loc main_arg0)) (m ((c : Thread nD τ).loc main_arg1)) (m ((c : Thread nD τ).loc main_arg2)) = fun _ => 1#1) :
    (dats m 0 c).arrAt 4 (cfg0 (F := Ideal)).N = Cert.ReferenceIdeal.Read.val_main_v38 (F := Ideal)
      (m ((c : Thread nD τ).loc main_arg0)) (m ((c : Thread nD τ).loc main_arg1)) (m ((c : Thread nD τ).loc main_arg2)) := by
  obtain ⟨f0, f1⟩ := real_of_pre _ _ _ hpre
  refine (dats m 0 c).arrAt_eq_of_covers 4 _ (by decide +kernel) fun t hf y => ?_
  blk_simp
  rw [after_4]
  have hi : (grid0.coords t 0).val < 66 := (grid0.coords t 0).isLt
  have hy0 : (y 0).val < 256 := (y 0).isLt
  have hy1 : (y 1).val < 512 := (y 1).isLt
  obtain ⟨h, k, hk⟩ : ∃ (h : Fin 8) (k : Fin 64), (y 1).val = 64 * h.val + k.val :=
    ⟨⟨(y 1).val / 64, by omega⟩, ⟨(y 1).val % 64, by omega⟩, by show _ = 64 * ((y 1).val / 64) + (y 1).val % 64; omega⟩
  have hh := h.isLt
  have hkk := k.isLt
  have er : ((win0_4.blk t).view.emb y) = ix2 (⟨256 * (grid0.coords t 0).val + (y 0).val, by omega⟩ : Fin 16896) (⟨64 * h.val + k.val, by omega⟩ : Fin 512) := by
    funext a
    refine Fin.ext ?_
    fin_cases a
    · blk_simp [index4 t]; simp [ix2]; omega
    · blk_simp [index4 t]; simp [ix2]; omega
  rw [er, Cert.ReferenceIdeal.SB.result_apply _ _ _ (fun j R d => (m ((c : Thread nD τ).loc main_arg0) (ix3 j R d) : EReal).toReal)
    (fun j n d k => (m ((c : Thread nD τ).loc main_arg1) (ix4 j n d k) : EReal).toReal) (fun j R d => f0 _) (fun j n d k => f1 _) h _ k]
  unfold outAtPoint
  rw [outBlock_apply _ (pairIx h) (⟨(y 0).val, hy0⟩ : Fin 256) (lane h k) y rfl (by
      show (y 1).val = 128 * (h.val / 2) + (64 * (h.val % 2) + k.val); omega)]
  refine (final_eq (fun j R d => (m ((c : Thread nD τ).loc main_arg0) (ix3 j R d) : EReal).toReal)
      (fun j n d k => (m ((c : Thread nD τ).loc main_arg1) (ix4 j n d k) : EReal).toReal) (grid0.coords t) _ _ _ _
      (fun j r d => (block0 m c t j r d).trans (f0 _)) (fun j n d k => (block1 m c t j n d k).trans (f1 _)) (block3 m c t)
      (pairIx h) _ (lane h k)).trans ((Finset.sum_range (M := EReal) _).trans ?_)
  refine Finset.sum_congr rfl fun C _ => ?_
  unfold share
  rw [head_lane, block2]
  have eC : Fin.ofNat 16896 C.val = C := Fin.ext (Nat.mod_eq_of_lt C.isLt)
  rw [eC]

theorem algebraic [Cert.Pre_finite_scores.Facts] : Cert.algebraic_KernelIdeal_ReferenceIdeal_pre_finite_scores (hKernelIdeal := Cert.KernelIdeal.Gen.facts)
    (hReferenceIdeal := Cert.ReferenceIdeal.Gen.facts) := fun m g m' g' hpre hargs =>
  ⟨fun c => (dats m 0 c).arrAt 4 (cfg0 (F := Ideal)).N, run_blocks m g, (θ_run _ _ _).mono (fun _ h c => ⟨by
    rw [(h c).1, Cert.ReferenceIdeal.Read.val_main_v38_eq, (hargs c).1, (hargs c).2.1, (hargs c).2.2]
    exact (result_eq m c (hpre c)).symm, (h c).2⟩) (Cert.ReferenceIdeal.Value.run m' g')⟩

end Cert.KernelIdeal.SB

end
-- ==== Proof.Layer.Norm.lean ====
/-
  A row of the layer at the extended reals: its root-mean-square norm, read off the 256 rows that a call holds at a time.
-/
module

public import Idealize.ShloMosaic.PureOps
public import Idealize.ShloMosaic.PureOps.Ideal.Laws
public import Idealize.ShloMosaic.Lib.ValueIdx
public import Idealize.ShloMosaic.Lib.MatmulPlain
public import Idealize.ShloMosaic.Lib.Pipeline.Value
public import Idealize.ShloMosaic.Lib.StableHlo

@[expose] public section

set_option maxRecDepth 16384

noncomputable section

namespace Cert.Layer

open Idealize.ShloMosaic Idealize.ShloMosaic.ValueIdx

/-- 256 rows of the model's width. -/
abbrev Rows : Shape := ⟨2, ![256, 1024]⟩

/-- A row over its root mean square, times a gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- 256 rows, each over its root mean square, times the gains. -/
def normed (v : FVec Ideal Rows .f32) (g : FVec Ideal ⟨2, ![1, 1024]⟩ .f32) : FVec Ideal Rows .f32 :=
  mulf (mulf v (broadcastTo Rows (rsqrt (addf (divf (shapeCast ⟨2, ![256, 1]⟩
      (multiReduction .add [1] ⟨1, ![256]⟩ (mulf v v) 0x00000000#32 (by decide) (.inl rfl) rfl) (by decide))
      (broadcast ⟨2, ![256, 1]⟩ (Scalar.ofBits .f32 0x44800000#32))) (broadcast ⟨2, ![256, 1]⟩ (Scalar.ofBits .f32 0x358637BD#32))))
    (by decide))) (broadcastTo Rows g (by decide))

theorem square_sum (v : FVec Ideal Rows .f32) (h : Rows.Reduces [1] ⟨1, ![256]⟩) (hφ : FKind.Formats .f32) (hacc) (hc) (r : Fin 256) :
    shapeCast (⟨2, ![256, 1]⟩ : Shape) (multiReduction .add [1] ⟨1, ![256]⟩ (mulf v v) 0x00000000#32 h hφ hacc) hc (ix2 r (0 : Fin 1))
      = ∑ k : Fin 1024, (v (ix2 r k) : EReal) * v (ix2 r k) := by
  refine (shapeCast_apply _ _ (ix2 r (0 : Fin 1)) (ix1 r) ?_).trans ((Ideal.multiReduction_add_single _ _ h hφ hacc _).trans ?_)
  · rw [Shape.rowMajor_val_two, Shape.rowMajor_val_one]
    show r.val = r.val * 1 + 0
    omega
  · refine Finset.sum_congr rfl fun k _ => ?_
    have e : h.lift (ix1 r) k = ix2 r k := by
      funext a
      fin_cases a <;> rfl
    rw [e]
    rfl

theorem normed_apply (v : FVec Ideal Rows .f32) (g : FVec Ideal ⟨2, ![1, 1024]⟩ .f32) (r : Fin 256) (d : Fin 1024) :
    normed v g (ix2 r d) = rms (fun k => v (ix2 r k)) (fun k => g (ix2 (0 : Fin 1) k)) d := by
  unfold normed rms
  show (v (ix2 r d) : EReal) * broadcastTo Rows _ _ (ix2 r d) * broadcastTo Rows g _ (ix2 r d) = _
  rw [broadcastTo_apply _ _ _ (ix2 r (0 : Fin 1)) (by intro a; fin_cases a <;> rfl),
    broadcastTo_apply g _ _ (ix2 (0 : Fin 1) d) (by intro a; fin_cases a <;> rfl), ← square_sum v (by decide) (.inl rfl) rfl (by decide) r]
  rfl

/-- All the rows. -/
abbrev All : Shape := ⟨2, ![16896, 1024]⟩

/-- Every row over its root mean square, times the gains, as the host takes it. -/
def hostNormed (v : FVec Ideal All .f32) (g : FVec Ideal ⟨2, ![1, 1024]⟩ .f32) : FVec Ideal All .f32 :=
  mulf (mulf v (broadcastInDim All ![0, 1] (by decide) (Host.rsqrt (addf (Host.divf
      (broadcastInDim ⟨2, ![16896, 1]⟩ ![0] (by decide) (Host.reduceAdd (t := ⟨1, ![16896]⟩) (mulf v v) (constant ⟨0, ![]⟩ .f32 0x00000000#32)
        (by decide : All.ReducesTo [1] ⟨1, ![16896]⟩) (by decide)))
      (broadcastInDim ⟨2, ![16896, 1]⟩ ![] (by decide) (constant ⟨0, ![]⟩ .f32 0x44800000#32)))
      (broadcastInDim ⟨2, ![16896, 1]⟩ ![] (by decide) (constant ⟨0, ![]⟩ .f32 0x358637BD#32))))))
    (broadcastInDim All ![0, 1] (by decide) (broadcastInDim ⟨2, ![1, 1024]⟩ ![1] (by decide) (shapeCast ⟨1, ![1024]⟩ g (by decide))))

theorem hostNormed_apply (v : FVec Ideal All .f32) (g : FVec Ideal ⟨2, ![1, 1024]⟩ .f32) (r : Fin 16896) (d : Fin 1024) :
    hostNormed v g (ix2 r d) = rms (fun k => v (ix2 r k)) (fun k => g (ix2 (0 : Fin 1) k)) d := by
  unfold hostNormed rms
  have sum : ∀ h h', Host.reduceAdd (t := ⟨1, ![16896]⟩) (mulf v v) (constant ⟨0, ![]⟩ .f32 0x00000000#32) (h : All.ReducesTo [1] ⟨1, ![16896]⟩) h' (ix1 r)
      = ∑ k : Fin 1024, (v (ix2 r k) : EReal) * v (ix2 r k) := fun h h' => by
    refine (Ideal.hostReduceAdd_single h (by decide) _ _ (ix1 r)).trans ?_
    show Ideal.ofBits .f32 0x00000000#32 + _ = _
    rw [Ideal.ofBits_zero_f32, zero_add]
    refine Finset.sum_congr rfl fun k _ => ?_
    have e : (by decide : All.Reduces [1] ⟨1, ![16896]⟩).lift (ix1 r) k = ix2 r k := by
      funext a
      fin_cases a <;> rfl
    exact congrArg (fun i => (v i : EReal) * v i) e
  have gain : shapeCast (⟨1, ![1024]⟩ : Shape) g (by decide) (ix1 d) = g (ix2 (0 : Fin 1) d) :=
    shapeCast_apply _ _ _ _ (by
      rw [Shape.rowMajor_val_two, Shape.rowMajor_val_one]
      show 0 * 1024 + d.val = d.val
      omega)
  simp only [mulf_apply]
  rw [broadcastInDim_apply ![0, 1] _ _ (ix2 r d) (ix2 r (0 : Fin 1)) (by intro a; fin_cases a <;> rfl),
    broadcastInDim_apply ![0, 1] _ _ (ix2 r d) (ix2 (0 : Fin 1) d) (by intro a; fin_cases a <;> rfl),
    broadcastInDim_apply ![1] _ _ (ix2 (0 : Fin 1) d) (ix1 d) (by intro a; fin_cases a; rfl), gain]
  refine congrArg (fun s : EReal => (v (ix2 r d) : EReal) * Ideal.rsqrt (Ideal.div s (Ideal.ofBits .f32 0x44800000#32) + Ideal.ofBits .f32 0x358637BD#32)
    * g (ix2 (0 : Fin 1) d)) ?_
  rw [broadcastInDim_apply ![0] _ _ (ix2 r (0 : Fin 1)) (ix1 r) (by intro a; fin_cases a; rfl)]
  exact sum _ _

/-- A product onto zero. -/
theorem product_apply {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c)
      = ∑ k : Fin K, (a (ix2 r k) : EReal) * b (ix2 k c) := by
  refine (Ideal.matmul_plain_apply none a b _ r c).trans ?_
  show Ideal.ofBits .f32 0x00000000#32 + _ = _
  rw [Ideal.ofBits_zero_f32, zero_add]

/-- A one-member stack of matrices read as its matrix. -/
theorem unstack_apply {K N : ℕ} (x : FVec Ideal ⟨3, ![1, K, N]⟩ .f32) (h) (a : Fin K) (b : Fin N) :
    shapeCast (⟨2, ![K, N]⟩ : Shape) x h (ix2 a b) = x (ix3 (0 : Fin 1) a b) :=
  shapeCast_apply _ _ _ _ (by
    rw [Shape.rowMajor_val_three, Shape.rowMajor_val_two]
    show (0 * K + a.val) * N + b.val = a.val * N + b.val
    rw [Nat.zero_mul, Nat.zero_add])

end Cert.Layer

end
-- ==== Proof.Layer.Mlp.lean ====
/-
  The MLP call against its reference at the extended reals.
-/
module

public import proofs.«01_k».proof.Defs
public import proofs.«01_k».proof.Proof.Layer.Norm
public import proofs.«01_k».proof.Proof.Gen.Kernel2Ideal.Value
public import proofs.«01_k».proof.Proof.Gen.Reference2Ideal.Read
public import Idealize.ShloMosaic.Lib.Pipeline.ValueKit.Geometry
public import Idealize.ShloMosaic.Lib.Pipeline.ValueKit.Tiles
public import Idealize.ShloMosaic.Lib.StackMember

@[expose] public section

set_option maxRecDepth 16384

noncomputable section

namespace Cert.Layer

open Idealize.ShloMosaic Idealize.ShloMosaic.ValueIdx

/-- A hidden unit: the larger of the normed row's product with the unit's weights and zero. -/
def unit (x g : Fin 1024 → EReal) (w : Fin 1024 → Fin 4096 → EReal) (k : Fin 4096) : EReal := max (∑ j, rms x g j * w j k) 0

/-- A row through the MLP: itself plus the norm of the squared hidden units' product with the second weights. -/
def mlp (x g : Fin 1024 → EReal) (w : Fin 1024 → Fin 4096 → EReal) (w' : Fin 4096 → Fin 1024 → EReal) (g' : Fin 1024 → EReal) (d : Fin 1024) : EReal :=
  x d + rms (fun d => ∑ k, unit x g w k * unit x g w k * w' k d) g' d

/-- The hidden units, in four groups of 1024. -/
def col (n : Fin 4) (k : Fin 1024) : Fin 4096 := ⟨1024 * n.val + k.val, by omega⟩

theorem sum_col (f : Fin 4096 → EReal) :
    ∑ k, f k = ∑ k, f (col 0 k) + ∑ k, f (col 1 k) + ∑ k, f (col 2 k) + ∑ k, f (col 3 k) := by
  rw [← Equiv.sum_comp (finProdFinEquiv (m := 4) (n := 1024)) f, Fintype.sum_prod_type, Fin.sum_univ_four]
  have e : ∀ n k, (finProdFinEquiv (m := 4) (n := 1024)) (n, k) = col n k := fun n k => Fin.ext (Nat.add_comm _ _)
  simp only [e]

end Cert.Layer

namespace Cert.Kernel2Ideal.Layer

open Cert.Kernel2Ideal Cert.Kernel2Ideal.Gen Cert.Layer
open Idealize.ShloMosaic Idealize.ShloMosaic.TcCoe Idealize.SL.Sem
open Idealize.ShloMosaic.ValueIdx
open Idealize.ShloMosaic.Pipeline (Dat)

/-! ### The body -/

/-- A group of hidden units before squaring. -/
def group (a : FVec Ideal S256x1024 .bf16) (b : FVec Ideal S1024x1024 .bf16) : FVec Ideal S256x1024 .f32 :=
  maximumf (matmul (DotDims.plain 256 1024 1024) none a b (constant S256x1024 .f32 0x00000000#32)) (broadcast S256x1024 (Scalar.ofBits .f32 0x00000000#32))

/-- A group's part of the second product. -/
def part (a : FVec Ideal S256x1024 .bf16) (b b' : FVec Ideal S1024x1024 .bf16) : FVec Ideal S256x1024 .f32 :=
  matmul (DotDims.plain 256 1024 1024) none (truncf .bf16 (mulf (group a b) (group a b)) bitsLt_bf16_f32) b' (constant S256x1024 .f32 0x00000000#32)

theorem part_apply (a : FVec Ideal S256x1024 .bf16) (b b' : FVec Ideal S1024x1024 .bf16) (r : Fin 256) (d : Fin 1024) :
    part a b b' (ix2 r d) = ∑ k : Fin 1024, max (∑ j : Fin 1024, (a (ix2 r j) : EReal) * b (ix2 j k)) 0 * max (∑ j : Fin 1024, (a (ix2 r j) : EReal) * b (ix2 j k)) 0
      * (b' (ix2 k d) : EReal) := by
  unfold part
  rw [product_apply]
  have e : ∀ k : Fin 1024, group a b (ix2 r k) = max (∑ j : Fin 1024, (a (ix2 r j) : EReal) * b (ix2 j k)) 0 := fun k => by
    unfold group
    rw [maximumf_apply, product_apply]
    exact congrArg _ Ideal.ofBits_zero_f32
  refine Finset.sum_congr rfl fun k _ => ?_
  rw [truncf_apply, mulf_apply, e]

theorem pay2_eq (v : FVec Ideal S256x1024 .f32) (g : FVec Ideal S1x1024 .f32) : k0_pay2 v g = truncf .bf16 (normed v g) bitsLt_bf16_f32 := rfl

theorem pay3_eq (v : FVec Ideal S256x1024 .f32) (g : FVec Ideal S1x1024 .f32) (b0 b0' b1 b1' : FVec Ideal S1024x1024 .bf16) :
    k0_pay3 v g b0 b0' b1 b1' = addf (part (k0_pay2 v g) b0 b0') (part (k0_pay2 v g) b1 b1') := by
  unfold k0_pay3
  simp only [shapeCast_self]
  rfl

theorem pay1_eq (v : FVec Ideal S256x1024 .f32) (a : FVec Ideal S256x1024 .bf16) (s : FVec Ideal S256x1024 .f32)
    (b2 b2' b3 b3' : FVec Ideal S1024x1024 .bf16) (g : FVec Ideal S1x1024 .f32) :
    k0_pay1 v a s b2 b2' b3 b3' g = addf v (normed (addf (addf s (part a b2 b2')) (part a b3 b3')) g) := by
  unfold k0_pay1
  simp only [shapeCast_self]
  rfl

theorem out_apply (x0 : FVec Ideal S256x1024 .f32) (x1 : FVec Ideal S1x1024 .f32) (x2 : FVec Ideal S1024x4096 .bf16) (x3 : FVec Ideal S4096x1024 .bf16)
    (x4 : FVec Ideal S1x1024 .f32) (r : Fin 256) (d : Fin 1024) :
    out0_5 (F := Ideal) x0 x1 x2 x3 x4 (ix2 r d) = mlp (fun k => x0 (ix2 r k)) (fun k => x1 (ix2 (0 : Fin 1) k)) (fun j k => x2 (ix2 j k)) (fun k d => x3 (ix2 k d))
      (fun k => x4 (ix2 (0 : Fin 1) k)) d := by
  have z : (![0, 0] : Fin 2 → ℕ) = fun _ => 0 := by funext a; fin_cases a <;> rfl
  have w : ∀ (n : Fin 4) (o) (ho : o = (![0, 1024 * n.val] : Fin 2 → ℕ)) (inb) (j k : Fin 1024),
      View.ld (Val := Elt Ideal) (e' := .bf16) x2 (Rect.unit (s := S1024x4096) o S1024x1024.size inb) (ix2 j k) = x2 (ix2 j (col n k)) := by
    rintro n _ rfl inb j k
    exact View.ld_unit_apply_of _ _ _ _ _ _ (by intro a; fin_cases a <;> simp [ix2, col])
  have w' : ∀ (n : Fin 4) (o) (ho : o = (![1024 * n.val, 0] : Fin 2 → ℕ)) (inb) (k d : Fin 1024),
      View.ld (Val := Elt Ideal) (e' := .bf16) x3 (Rect.unit (s := S4096x1024) o S1024x1024.size inb) (ix2 k d) = x3 (ix2 (col n k) d) := by
    rintro n _ rfl inb k d
    exact View.ld_unit_apply_of _ _ _ _ _ _ (by intro a; fin_cases a <;> simp [ix2, col])
  unfold out0_5
  rw [View.canon_unit_zero z, View.ld_unit_zero z, View.ld_unit_zero z, View.ld_unit_zero z, pay1_eq, pay3_eq, addf_apply, normed_apply]
  unfold mlp
  refine congrArg (fun s => (x0 (ix2 r d) : EReal) + rms s (fun k => x4 (ix2 (0 : Fin 1) k)) d) (funext fun d => ?_)
  simp only [addf_apply, part_apply]
  rw [sum_col]
  have h : ∀ j : Fin 1024, k0_pay2 (F := Ideal) x0 x1 (ix2 r j) = rms (fun k => x0 (ix2 r k)) (fun k => x1 (ix2 (0 : Fin 1) k)) j := fun j => by
    rw [pay2_eq, truncf_apply, normed_apply]
  simp only [h, w 0 ![0, 0] rfl, w 1 ![0, 1024] rfl, w 2 ![0, 2048] rfl, w 3 ![0, 3072] rfl,
    w' 0 ![0, 0] rfl, w' 1 ![1024, 0] rfl, w' 2 ![2048, 0] rfl, w' 3 ![3072, 0] rfl]
  rfl

/-! ### The blocks -/

variable (m : (ℓ : Loc nD τ sig) → Buf (Elt Ideal) ℓ) (c : Dev nD)

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![(grid0.coords t 0).val, 0] := by decide +kernel

theorem block0 (t : Fin cfg0.N) (r : Fin 256) (d : Fin 1024) :
    iblk m c 0 t (ix2 r d) = m ((c : Thread nD τ).loc main_arg0) (ix2 (Fin.ofNat 16896 (256 * (grid0.coords t 0).val + r.val)) d) := by
  have hi : (grid0.coords t 0).val < 66 := (grid0.coords t 0).isLt
  rw [← V_main_arg0 m c]
  refine congrArg (V m c main_arg0) (funext fun a => Fin.ext ?_)
  have := r.isLt
  fin_cases a
  · blk_simp [index0 t]; simp [ix2]; omega
  · blk_simp [index0 t]; try simp [ix2]

theorem block1 (t : Fin cfg0.N) : iblk m c 1 t = m ((c : Thread nD τ).loc main_arg1) := by
  rw [← V_main_arg1 m c]
  funext y
  refine congrArg (V m c main_arg1) (funext fun a => Fin.ext ?_)
  fin_cases a <;> blk_simp [index1 t] <;> simp

theorem block2 (t : Fin cfg0.N) (j : Fin 1024) (k : Fin 4096) :
    iblk m c 2 t (ix2 j k) = m ((c : Thread nD τ).loc main_arg2) (ix3 (0 : Fin 1) j k) := by
  have e : V m c main_v1 = (truncf .bf16 (shapeCast _ (m ((c : Thread nD τ).loc main_arg2)) shapeCasts_S1x1024x4096_S1024x4096 : FVec Ideal S1024x4096 .f32)
      bitsLt_bf16_f32 : FVec Ideal S1024x4096 .bf16) := by
    unfold V hostOps0
    after_results
    rfl
  refine Eq.trans (congrArg (V m c main_v1) (?_ : _ = ix2 j k)) ?_
  · funext a
    refine Fin.ext ?_
    fin_cases a <;> blk_simp [index2 t] <;> simp [ix2]
  · rw [e]
    exact unstack_apply _ _ j k

theorem block3 (t : Fin cfg0.N) (k : Fin 4096) (d : Fin 1024) :
    iblk m c 3 t (ix2 k d) = m ((c : Thread nD τ).loc main_arg3) (ix3 (0 : Fin 1) k d) := by
  have e : V m c main_v3 = (truncf .bf16 (shapeCast _ (m ((c : Thread nD τ).loc main_arg3)) shapeCasts_S1x4096x1024_S4096x1024 : FVec Ideal S4096x1024 .f32)
      bitsLt_bf16_f32 : FVec Ideal S4096x1024 .bf16) := by
    unfold V hostOps0
    after_results
    rfl
  refine Eq.trans (congrArg (V m c main_v3) (?_ : _ = ix2 k d)) ?_
  · funext a
    refine Fin.ext ?_
    fin_cases a <;> blk_simp [index3 t] <;> simp [ix2]
  · rw [e]
    exact unstack_apply _ _ k d

theorem block4 (t : Fin cfg0.N) : iblk m c 4 t = m ((c : Thread nD τ).loc main_arg4) := by
  rw [← V_main_arg4 m c]
  funext y
  refine congrArg (V m c main_arg4) (funext fun a => Fin.ext ?_)
  fin_cases a <;> blk_simp [index4 t] <;> simp

/-! ### The reference -/

open Cert.Reference2Ideal.Read in
theorem reference_apply (x0 : FVec Ideal S16896x1024 .f32) (x1 : FVec Ideal S1x1024 .f32) (x2 : FVec Ideal S1x1024x4096 .f32) (x3 : FVec Ideal S1x4096x1024 .f32)
    (x4 : FVec Ideal S1x1024 .f32) (r : Fin 16896) (d : Fin 1024) :
    val_main_v34 (F := Ideal) x0 x1 x2 x3 x4 (ix2 r d) = mlp (fun k => x0 (ix2 r k)) (fun k => x1 (ix2 (0 : Fin 1) k)) (fun j k => x2 (ix3 (0 : Fin 1) j k))
      (fun k d => x3 (ix3 (0 : Fin 1) k d)) (fun k => x4 (ix2 (0 : Fin 1) k)) d := by
  have e : val_main_v34 (F := Ideal) x0 x1 x2 x3 x4 = addf x0 (hostNormed (val_main_v19 (F := Ideal) x0 x1 x2 x3) x4) := rfl
  have e13 : val_main_v13 (F := Ideal) x0 x1 = hostNormed x0 x1 := rfl
  have hidden : ∀ k : Fin 4096, val_main_v16 (F := Ideal) x0 x1 x2 (ix2 r k) = unit (fun k => x0 (ix2 r k)) (fun k => x1 (ix2 (0 : Fin 1) k)) (fun j k => x2 (ix3 (0 : Fin 1) j k)) k := fun k => by
    unfold val_main_v16 val_main_v15 unit
    rw [maximumf_apply, e13]
    refine congrArg₂ max ((StackMember.dotGeneral_plain_apply none (hostNormed x0 x1) (val_main_v14 (F := Ideal) x2) r k).trans ?_) Ideal.ofBits_zero_f32
    refine Finset.sum_congr rfl fun j _ => ?_
    rw [hostNormed_apply]
    exact congrArg _ (unstack_apply x2 _ j k)
  have product : ∀ d : Fin 1024, val_main_v19 (F := Ideal) x0 x1 x2 x3 (ix2 r d) = ∑ k : Fin 4096, (val_main_v17 (F := Ideal) x0 x1 x2 (ix2 r k) : EReal)
      * (x3 (ix3 (0 : Fin 1) k d) : EReal) := fun d => by
    unfold val_main_v19
    refine (StackMember.dotGeneral_plain_apply none (val_main_v17 (F := Ideal) x0 x1 x2) (val_main_v18 (F := Ideal) x3) r d).trans ?_
    exact Finset.sum_congr rfl fun k _ => congrArg _ (unstack_apply x3 _ k d)
  rw [e, addf_apply, hostNormed_apply]
  unfold mlp
  refine congrArg (fun s => (x0 (ix2 r d) : EReal) + rms s (fun k => x4 (ix2 (0 : Fin 1) k)) d) (funext fun d => (product d).trans ?_)
  refine Finset.sum_congr rfl fun k _ => ?_
  unfold val_main_v17
  rw [mulf_apply, hidden]

/-! ### The claim -/

/-- The result array. -/
theorem result_eq : (dats m 0 c).arrAt 5 cfg0.N = Cert.Reference2Ideal.Read.val_main_v34 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  have hi : (grid0.coords t 0).val < 66 := (grid0.coords t 0).isLt
  have hy0 : (y 0).val < 256 := (y 0).isLt
  have hy1 : (y 1).val < 1024 := (y 1).isLt
  have er : ((win0_5.blk t).view.emb y) = ix2 (Fin.ofNat 16896 (256 * (grid0.coords t 0).val + (y 0).val)) (⟨(y 1).val, hy1⟩ : Fin 1024) := by
    funext a
    refine Fin.ext ?_
    fin_cases a
    · blk_simp [index5 t]; simp [ix2]; omega
    · blk_simp [index5 t]; simp [ix2]
  have ey : y = ix2 (⟨(y 0).val, hy0⟩ : Fin 256) (⟨(y 1).val, hy1⟩ : Fin 1024) := Shape.idx_ext₂ rfl rfl
  rw [er, reference_apply]
  refine (congrArg (out0_5 (F := Ideal) _ _ _ _ _) ey).trans ((out_apply _ _ _ _ _ _ _).trans ?_)
  simp only [block0, block1, block2, block3, block4]

theorem algebraic : Cert.algebraic_Kernel2Ideal_Reference2Ideal (hKernel2Ideal := Cert.Kernel2Ideal.Gen.facts)
    (hReference2Ideal := Cert.Reference2Ideal.Gen.facts) := fun m g m' g' _ hargs =>
  ⟨fun c => (dats m 0 c).arrAt 5 cfg0.N, Value.run_blocks m g, (θ_run _ _ _).mono (fun _ h c => ⟨by
    rw [(h c).1, Cert.Reference2Ideal.Read.val_main_v34_eq, (hargs c).1, (hargs c).2.1, (hargs c).2.2.1, (hargs c).2.2.2.1, (hargs c).2.2.2.2]
    exact (result_eq m c).symm, (h c).2⟩) (Cert.Reference2Ideal.Value.run m' g')⟩

end Cert.Kernel2Ideal.Layer

end
-- ==== Proof.Layer.Merge.lean ====
/-
  The merge call against its reference at the extended reals.
-/
module

public import proofs.«01_k».proof.Defs
public import proofs.«01_k».proof.Proof.Layer.Norm
public import proofs.«01_k».proof.Proof.Gen.Kernel3Ideal.Value
public import proofs.«01_k».proof.Proof.Gen.Reference3Ideal.Read
public import Idealize.ShloMosaic.Lib.Pipeline.ValueKit.Geometry
public import Idealize.ShloMosaic.Lib.StackMember

@[expose] public section

set_option maxRecDepth 16384

noncomputable section

namespace Cert.Layer

/-- A row's two attentions, each through its own weights, gated and added. -/
def gated (p q : Fin 512 → EReal) (gate : Fin 2048 → EReal) (w w' : Fin 512 → Fin 1024 → EReal) (d : Fin 1024) : EReal :=
  gate (Fin.castLE (by decide) d) * ∑ k, p k * w k d + gate (Fin.natAdd 1024 d) * ∑ k, q k * w' k d

/-- A row of the merge: the residual row plus the norm of the gated sum's product with the last weights. -/
def merge (p q : Fin 512 → EReal) (gate : Fin 2048 → EReal) (x : Fin 1024 → EReal) (w w' : Fin 512 → Fin 1024 → EReal)
    (o : Fin 1024 → Fin 1024 → EReal) (g : Fin 1024 → EReal) (d : Fin 1024) : EReal :=
  x d + rms (fun d => ∑ k, gated p q gate w w' k * o k d) g d

end Cert.Layer

namespace Cert.Kernel3Ideal.Layer

open Cert.Kernel3Ideal Cert.Kernel3Ideal.Gen Cert.Layer
open Idealize.ShloMosaic Idealize.ShloMosaic.TcCoe Idealize.SL.Sem
open Idealize.ShloMosaic.ValueIdx
open Idealize.ShloMosaic.Pipeline (Dat)

/-! ### The body -/

/-- The gated sum of 256 rows. -/
def gate (p q : FVec Ideal S256x512 .bf16) (v : FVec Ideal S256x2048 .bf16) (b b' : FVec Ideal S512x1024 .bf16) : FVec Ideal S256x1024 .bf16 :=
  truncf .bf16 (addf
    (mulf (extractStridedSlice S256x1024 ![0, 0] (extf .f32 v bitsLt_bf16_f32) slices_S256x2048_o0_0_S256x1024)
      (matmul (DotDims.plain 256 512 1024) none p b (constant S256x1024 .f32 0x00000000#32)))
    (mulf (extractStridedSlice S256x1024 ![0, 1024] (extf .f32 v bitsLt_bf16_f32) slices_S256x2048_o0_1024_S256x1024)
      (matmul (DotDims.plain 256 512 1024) none q b' (constant S256x1024 .f32 0x00000000#32)))) bitsLt_bf16_f32

theorem gate_apply (p q : FVec Ideal S256x512 .bf16) (v : FVec Ideal S256x2048 .bf16) (b b' : FVec Ideal S512x1024 .bf16) (r : Fin 256) (d : Fin 1024) :
    gate p q v b b' (ix2 r d) = gated (fun k => p (ix2 r k)) (fun k => q (ix2 r k)) (fun k => v (ix2 r k)) (fun k d => b (ix2 k d)) (fun k d => b' (ix2 k d)) d := by
  unfold gate gated
  rw [truncf_apply, addf_apply, mulf_apply, mulf_apply, product_apply, product_apply]
  refine congrArg₂ (fun s s' : EReal => s * _ + s' * _) ?_ ?_
  · exact congrArg v (Shape.idx_ext₂ (Nat.zero_add _) (Nat.zero_add _))
  · exact congrArg v (Shape.idx_ext₂ (Nat.zero_add _) rfl)

theorem pay1_eq (v : FVec Ideal S256x2048 .bf16) (p : FVec Ideal S256x512 .bf16) (b : FVec Ideal S512x1024 .bf16) (q : FVec Ideal S256x512 .bf16)
    (b' : FVec Ideal S512x1024 .bf16) (o : FVec Ideal S1024x1024 .bf16) (x : FVec Ideal S256x1024 .f32) (g : FVec Ideal S1x1024 .f32) :
    k0_pay1 v p b q b' o x g
      = addf x (normed (matmul (DotDims.plain 256 1024 1024) none (gate p q v b b') o (constant S256x1024 .f32 0x00000000#32)) g) := by
  unfold k0_pay1
  simp only [shapeCast_self]
  rfl

theorem out_apply (x0 x1 : FVec Ideal S256x512 .bf16) (x2 : FVec Ideal S256x2048 .bf16) (x3 : FVec Ideal S256x1024 .f32) (x4 x5 : FVec Ideal S512x1024 .bf16)
    (x6 : FVec Ideal S1024x1024 .bf16) (x7 : FVec Ideal S1x1024 .f32) (r : Fin 256) (d : Fin 1024) :
    out0_8 (F := Ideal) x0 x1 x2 x3 x4 x5 x6 x7 (ix2 r d) = merge (fun k => x0 (ix2 r k)) (fun k => x1 (ix2 r k)) (fun k => x2 (ix2 r k)) (fun k => x3 (ix2 r k))
      (fun k d => x4 (ix2 k d)) (fun k d => x5 (ix2 k d)) (fun k d => x6 (ix2 k d)) (fun k => x7 (ix2 (0 : Fin 1) k)) d := by
  have z : (![0, 0] : Fin 2 → ℕ) = fun _ => 0 := by funext a; fin_cases a <;> rfl
  unfold out0_8
  rw [View.canon_unit_zero z]
  iterate 8 rw [View.ld_unit_zero z]
  rw [pay1_eq, addf_apply, normed_apply]
  unfold merge
  simp only [product_apply, gate_apply]

/-! ### The blocks -/

variable (m : (ℓ : Loc nD τ sig) → Buf (Elt Ideal) ℓ) (c : Dev nD)

theorem index0 : ∀ t : Fin grid0.N, win0_0.index t = ![(grid0.coords t 0).val, 0] := by decide +kernel
theorem index1 : ∀ t : Fin grid0.N, win0_1.index t = ![(grid0.coords t 0).val, 0] := by decide +kernel
theorem index2 : ∀ t : Fin grid0.N, win0_2.index t = ![(grid0.coords t 0).val, 0] := by decide +kernel
theorem index3 : ∀ t : Fin grid0.N, win0_3.index t = ![(grid0.coords t 0).val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![(grid0.coords t 0).val, 0] := by decide +kernel

/-- The row of the whole that a block's row is. -/
abbrev rowAt (t : Fin cfg0.N) (r : Fin 256) : Fin 16896 := Fin.ofNat 16896 (256 * (grid0.coords t 0).val + r.val)

theorem rowAt_val (t : Fin cfg0.N) (r : Fin 256) : (rowAt t r).val = 256 * (grid0.coords t 0).val + r.val := by
  have hi : (grid0.coords t 0).val < 66 := (grid0.coords t 0).isLt
  exact Nat.mod_eq_of_lt (by omega)

theorem block0 (t : Fin cfg0.N) (r : Fin 256) (d : Fin 512) : iblk m c 0 t (ix2 r d) = m ((c : Thread nD τ).loc main_arg0) (ix2 (rowAt t r) d) := by
  rw [← V_main_arg0 m c]
  refine congrArg (V m c main_arg0) (funext fun a => Fin.ext ?_)
  fin_cases a
  · refine Eq.trans ?_ (rowAt_val t r).symm; blk_simp [index0 t]; simp [ix2]; omega
  · blk_simp [index0 t]; try simp [ix2]

theorem block1 (t : Fin cfg0.N) (r : Fin 256) (d : Fin 512) : iblk m c 1 t (ix2 r d) = m ((c : Thread nD τ).loc main_arg1) (ix2 (rowAt t r) d) := by
  rw [← V_main_arg1 m c]
  refine congrArg (V m c main_arg1) (funext fun a => Fin.ext ?_)
  fin_cases a
  · refine Eq.trans ?_ (rowAt_val t r).symm; blk_simp [index1 t]; simp [ix2]; omega
  · blk_simp [index1 t]; try simp [ix2]

theorem block2 (t : Fin cfg0.N) (r : Fin 256) (d : Fin 2048) : iblk m c 2 t (ix2 r d) = m ((c : Thread nD τ).loc main_arg2) (ix2 (rowAt t r) d) := by
  rw [← V_main_arg2 m c]
  refine congrArg (V m c main_arg2) (funext fun a => Fin.ext ?_)
  fin_cases a
  · refine Eq.trans ?_ (rowAt_val t r).symm; blk_simp [index2 t]; simp [ix2]; omega
  · blk_simp [index2 t]; try simp [ix2]

theorem block3 (t : Fin cfg0.N) (r : Fin 256) (d : Fin 1024) : iblk m c 3 t (ix2 r d) = m ((c : Thread nD τ).loc main_arg3) (ix2 (rowAt t r) d) := by
  rw [← V_main_arg3 m c]
  refine congrArg (V m c main_arg3) (funext fun a => Fin.ext ?_)
  fin_cases a
  · refine Eq.trans ?_ (rowAt_val t r).symm; blk_simp [index3 t]; simp [ix2]; omega
  · blk_simp [index3 t]; try simp [ix2]

theorem block4 (t : Fin cfg0.N) (k : Fin 512) (d : Fin 1024) : iblk m c 4 t (ix2 k d) = m ((c : Thread nD τ).loc main_arg4) (ix3 (0 : Fin 1) k d) := by
  have e : V m c main_v1 = (truncf .bf16 (shapeCast _ (m ((c : Thread nD τ).loc main_arg4)) shapeCasts_S1x512x1024_S512x1024 : FVec Ideal S512x1024 .f32)
      bitsLt_bf16_f32 : FVec Ideal S512x1024 .bf16) := by
    unfold V hostOps0
    after_results
    rfl
  refine Eq.trans (congrArg (V m c main_v1) (?_ : _ = ix2 k d)) ?_
  · funext a
    refine Fin.ext ?_
    fin_cases a <;> blk_simp [index4 t] <;> simp [ix2]
  · rw [e]
    exact unstack_apply _ _ k d

theorem block5 (t : Fin cfg0.N) (k : Fin 512) (d : Fin 1024) : iblk m c 5 t (ix2 k d) = m ((c : Thread nD τ).loc main_arg5) (ix3 (0 : Fin 1) k d) := by
  have e : V m c main_v3 = (truncf .bf16 (shapeCast _ (m ((c : Thread nD τ).loc main_arg5)) shapeCasts_S1x512x1024_S512x1024 : FVec Ideal S512x1024 .f32)
      bitsLt_bf16_f32 : FVec Ideal S512x1024 .bf16) := by
    unfold V hostOps0
    after_results
    rfl
  refine Eq.trans (congrArg (V m c main_v3) (?_ : _ = ix2 k d)) ?_
  · funext a
    refine Fin.ext ?_
    fin_cases a <;> blk_simp [index5 t] <;> simp [ix2]
  · rw [e]
    exact unstack_apply _ _ k d

theorem block6 (t : Fin cfg0.N) (k d : Fin 1024) : iblk m c 6 t (ix2 k d) = m ((c : Thread nD τ).loc main_arg6) (ix3 (0 : Fin 1) k d) := by
  have e : V m c main_v5 = (truncf .bf16 (shapeCast _ (m ((c : Thread nD τ).loc main_arg6)) shapeCasts_S1x1024x1024_S1024x1024 : FVec Ideal S1024x1024 .f32)
      bitsLt_bf16_f32 : FVec Ideal S1024x1024 .bf16) := by
    unfold V hostOps0
    after_results
    rfl
  refine Eq.trans (congrArg (V m c main_v5) (?_ : _ = ix2 k d)) ?_
  · funext a
    refine Fin.ext ?_
    fin_cases a <;> blk_simp [index6 t] <;> simp [ix2]
  · rw [e]
    exact unstack_apply _ _ k d

theorem block7 (t : Fin cfg0.N) : iblk m c 7 t = m ((c : Thread nD τ).loc main_arg7) := by
  rw [← V_main_arg7 m c]
  funext y
  refine congrArg (V m c main_arg7) (funext fun a => Fin.ext ?_)
  fin_cases a <;> blk_simp [index7 t] <;> simp

/-! ### The reference -/

open Cert.Reference3Ideal.Read in
theorem reference_apply (x0 x1 : FVec Ideal S16896x512 .bf16) (x2 : FVec Ideal S16896x2048 .bf16) (x3 : FVec Ideal S16896x1024 .f32)
    (x4 x5 : FVec Ideal S1x512x1024 .f32) (x6 : FVec Ideal S1x1024x1024 .f32) (x7 : FVec Ideal S1x1024 .f32) (r : Fin 16896) (d : Fin 1024) :
    val_main_v28 (F := Ideal) x0 x1 x2 x3 x4 x5 x6 x7 (ix2 r d) = merge (fun k => x0 (ix2 r k)) (fun k => x1 (ix2 r k)) (fun k => x2 (ix2 r k))
      (fun k => x3 (ix2 r k)) (fun k d => x4 (ix3 (0 : Fin 1) k d)) (fun k d => x5 (ix3 (0 : Fin 1) k d)) (fun k d => x6 (ix3 (0 : Fin 1) k d))
      (fun k => x7 (ix2 (0 : Fin 1) k)) d := by
  have e : val_main_v28 (F := Ideal) x0 x1 x2 x3 x4 x5 x6 x7 = addf x3 (hostNormed (val_main_v13 (F := Ideal) x0 x1 x2 x4 x5 x6) x7) := rfl
  have through : ∀ (p : FVec Ideal S16896x512 .f32) (w : FVec Ideal S1x512x1024 .f32) (h) (d : Fin 1024),
      Host.dotGeneral (DotDims.plain 16896 512 1024) none p (shapeCast (⟨2, ![512, 1024]⟩ : Shape) w h : FVec Ideal ⟨2, ![512, 1024]⟩ .f32) (ix2 r d)
        = ∑ k : Fin 512, (p (ix2 r k) : EReal) * (w (ix3 (0 : Fin 1) k d) : EReal) := fun p w h d =>
    (StackMember.dotGeneral_plain_apply none p _ r d).trans (Finset.sum_congr rfl fun k _ => congrArg _ (unstack_apply w h k d))
  have sum : ∀ d : Fin 1024, val_main_v11 (F := Ideal) x0 x1 x2 x4 x5 (ix2 r d) = gated (fun k => x0 (ix2 r k)) (fun k => x1 (ix2 r k)) (fun k => x2 (ix2 r k))
      (fun k d => x4 (ix3 (0 : Fin 1) k d)) (fun k d => x5 (ix3 (0 : Fin 1) k d)) d := fun d => by
    unfold val_main_v11 val_main_v5 val_main_v10 gated
    rw [addf_apply, mulf_apply, mulf_apply]
    refine congrArg₂ (· + ·) (congrArg₂ (· * ·) ?_ (through (val_main_v2 (F := Ideal) x0) x4 _ d)) (congrArg₂ (· * ·) ?_ (through (val_main_v7 (F := Ideal) x1) x5 _ d))
    · exact congrArg x2 (Shape.idx_ext₂ (Nat.zero_add _) (Nat.zero_add _))
    · exact congrArg x2 (Shape.idx_ext₂ (Nat.zero_add _) rfl)
  rw [e, addf_apply, hostNormed_apply]
  unfold merge
  refine congrArg (fun s => (x3 (ix2 r d) : EReal) + rms s (fun k => x7 (ix2 (0 : Fin 1) k)) d) (funext fun d => ?_)
  unfold val_main_v13
  refine (StackMember.dotGeneral_plain_apply none (val_main_v11 (F := Ideal) x0 x1 x2 x4 x5) (val_main_v12 (F := Ideal) x6) r d).trans ?_
  refine Finset.sum_congr rfl fun k _ => ?_
  rw [sum]
  exact congrArg _ (unstack_apply x6 _ k d)

/-! ### The claim -/

/-- The result array. -/
theorem result_eq : (dats m 0 c).arrAt 8 cfg0.N = Cert.Reference3Ideal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  refine (dats m 0 c).arrAt_eq_of_covers 8 _ (by decide +kernel) fun t hf y => ?_
  blk_simp
  rw [after0_8]
  have hy0 : (y 0).val < 256 := (y 0).isLt
  have hy1 : (y 1).val < 1024 := (y 1).isLt
  have er : ((win0_8.blk t).view.emb y) = ix2 (rowAt t ⟨(y 0).val, hy0⟩) (⟨(y 1).val, hy1⟩ : Fin 1024) := by
    funext a
    refine Fin.ext ?_
    fin_cases a
    · refine Eq.trans ?_ (rowAt_val t _).symm; blk_simp [index8 t]; simp; omega
    · blk_simp [index8 t]; simp [ix2]
  have ey : y = ix2 (⟨(y 0).val, hy0⟩ : Fin 256) (⟨(y 1).val, hy1⟩ : Fin 1024) := Shape.idx_ext₂ rfl rfl
  rw [er, reference_apply]
  refine (congrArg (out0_8 (F := Ideal) _ _ _ _ _ _ _ _) ey).trans ((out_apply _ _ _ _ _ _ _ _ _ _).trans ?_)
  simp only [block0, block1, block2, block3, block4, block5, block6, block7]

theorem algebraic : Cert.algebraic_Kernel3Ideal_Reference3Ideal (hKernel3Ideal := Cert.Kernel3Ideal.Gen.facts)
    (hReference3Ideal := Cert.Reference3Ideal.Gen.facts) := fun m g m' g' _ hargs =>
  ⟨fun c => (dats m 0 c).arrAt 8 cfg0.N, Value.run_blocks m g, (θ_run _ _ _).mono (fun _ h c => ⟨by
    obtain ⟨h0, h1, h2, h3, h4, h5, h6, h7⟩ := hargs c
    rw [(h c).1, Cert.Reference3Ideal.Read.val_main_v28_eq, h0, h1, h2, h3, h4, h5, h6, h7]
    exact (result_eq m c).symm, (h c).2⟩) (Cert.Reference3Ideal.Value.run m' g')⟩

end Cert.Kernel3Ideal.Layer

end
-- ==== Proof.Layer.Lanes.lean ====
/-
  Columns of head-by-head arrays read at an index: the partial rotation's pieces, its rotated columns, a row of lanes repeated head by head.
-/
module

public import proofs.«01_k».proof.Proof.Layer.Norm
public import Idealize.ShloMosaic.Lib.Routing.OpsSet

@[expose] public section

set_option maxRecDepth 16384

noncomputable section

namespace Cert.Layer

open Idealize.ShloMosaic Idealize.ShloMosaic.ValueIdx

/-! ### The partial rotation -/

/-- Entry `d` of a head of which the first `2 * H` entries are rotated, `cos` and `sin` of the angles given. -/
def turned (H : ℕ) (cos sin y : ℕ → EReal) (d : ℕ) : EReal :=
  if d < H then y d * cos d - y (d + H) * sin d
  else if d < 2 * H then y d * cos (d - H) + y (d - H) * sin (d - H)
  else y d

/-- Entry `d` of the head that, times the sines, the rotation adds. -/
def half (H : ℕ) (y : ℕ → EReal) (d : ℕ) : EReal :=
  if d < H then -y (d + H) else if d < 2 * H then y (d - H) else 0

/-- The angles' values on a head's lanes: the same for both halves of the rotated entries, `rest` on the others. -/
def lanes (H : ℕ) (x : ℕ → EReal) (rest : EReal) (d : ℕ) : EReal :=
  if d < H then x d else if d < 2 * H then x (d - H) else rest

theorem sum_real {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- A row against the rotated columns is the rotated product. -/
theorem sum_half {K : ℕ} (H : ℕ) (x : Fin K → EReal) (u : Fin K → ℕ → EReal) (hx : ∀ k, ∃ r : ℝ, x k = r) (hu : ∀ k j, ∃ r : ℝ, u k j = r) (d : ℕ) :
    ∑ k, x k * half H (u k) d = half H (fun j => ∑ k, x k * u k j) d := by
  choose x' hx using hx
  choose u' hu using hu
  unfold half
  split_ifs
  · simp only [hx, hu, ← EReal.coe_neg, ← EReal.coe_mul, sum_real, mul_neg, Finset.sum_neg_distrib]
  · rfl
  · simp only [mul_zero, Finset.sum_const_zero]

/-- The product times the cosines plus the rotated product times the sines is the rotation of the product. -/
theorem turned_eq (H : ℕ) (cos sin y : ℕ → EReal) (d : ℕ) :
    y d * lanes H cos 1 d + half H y d * lanes H sin 0 d = turned H cos sin y d := by
  unfold lanes half turned
  split_ifs
  · rw [EReal.neg_mul, sub_eq_add_neg]
  · rfl
  · rw [mul_one, mul_zero, add_zero]

/-- The rotation takes a scale out. -/
theorem turned_scale (H : ℕ) (cos sin y : ℕ → EReal) (c : ℝ) (hc : 0 ≤ c) (d : ℕ) :
    turned H cos sin (fun j => y j * c) d = turned H cos sin y d * c := by
  have h0 : (0 : EReal) ≤ c := EReal.coe_nonneg.2 hc
  unfold turned
  split_ifs
  · rw [sub_eq_add_neg, sub_eq_add_neg, EReal.right_distrib_of_nonneg_of_ne_top h0 (EReal.coe_ne_top c), EReal.neg_mul, mul_right_comm (y d),
      mul_right_comm (y (d + H))]
  · rw [EReal.right_distrib_of_nonneg_of_ne_top h0 (EReal.coe_ne_top c), mul_right_comm (y d), mul_right_comm (y (d - H))]
  · rfl

/-- The rotation of an entry reads the head's entries alone. -/
theorem turned_congr (H : ℕ) (cos sin y y' : ℕ → EReal) (n : ℕ) (hn : 2 * H ≤ n) (h : ∀ i, i < n → y i = y' i) (d : ℕ) (hd : d < n) :
    turned H cos sin y d = turned H cos sin y' d := by
  unfold turned
  split_ifs
  · rw [h d hd, h (d + H) (by omega)]
  · rw [h d hd, h (d - H) (by omega)]
  · exact h d hd

/-- A sum takes a scale out. -/
theorem sum_scale {K : ℕ} (x w : Fin K → EReal) (c : ℝ) (hc : 0 ≤ c) : ∑ k, x k * (w k * c) = (∑ k, x k * w k) * c := by
  have h0 : (0 : EReal) ≤ c := EReal.coe_nonneg.2 hc
  have : ∀ s : Finset (Fin K), ∑ k ∈ s, x k * (w k * c) = (∑ k ∈ s, x k * w k) * c := fun s => by
    induction s using Finset.induction_on with
    | empty => simp
    | insert a s ha ih =>
      rw [Finset.sum_insert ha, Finset.sum_insert ha, ih, EReal.right_distrib_of_nonneg_of_ne_top h0 (EReal.coe_ne_top c), mul_assoc]
  exact this Finset.univ

/-- The norm of a row of numbers is a number. -/
theorem rms_real (x g : Fin 1024 → EReal) (hx : ∀ k, ∃ r : ℝ, x k = r) (hg : ∀ k, ∃ r : ℝ, g k = r) (d : Fin 1024) : ∃ r : ℝ, rms x g d = r := by
  choose x' hx using hx
  choose g' hg using hg
  unfold rms
  have h1 : (Ideal.ofBits .f32 0x44800000#32 : EReal) = ((1024 : ℝ) : EReal) := by
    simp [Ideal.ofBits, Ideal.ieee, -EReal.coe_mul]; norm_num
  obtain ⟨ε, hε, h2⟩ : ∃ ε : ℝ, 0 < ε ∧ (Ideal.ofBits .f32 0x358637BD#32 : EReal) = ε := by
    refine ⟨_, ?_, by simp [Ideal.ofBits, Ideal.ieee, -EReal.coe_mul]; rfl⟩
    positivity
  have hs : (0 : ℝ) < (∑ k, x' k * x' k) * (1 / 1024) + ε :=
    add_pos_of_nonneg_of_pos (mul_nonneg (Finset.sum_nonneg fun k _ => mul_self_nonneg _) (by norm_num)) hε
  refine ⟨x' d * (Real.sqrt ((∑ k, x' k * x' k) * (1 / 1024) + ε))⁻¹ * g' d, ?_⟩
  rw [h1, h2, Ideal.div_coe (by norm_num)]
  simp only [hx, hg, ← EReal.coe_mul, sum_real, ← EReal.coe_add]
  rw [Ideal.rsqrt_coe, if_neg (not_lt.2 hs.le), if_neg hs.ne']
  rfl

/-! ### Layouts -/

section Layout

variable {α : Type}

/-- Three arrays side by side along the last of two axes. -/
theorem three_apply₂ {T H R D : ℕ} (p q : (⟨2, ![T, H]⟩ : Shape).Idx → α) (z : (⟨2, ![T, R]⟩ : Shape).Idx → α)
    (h : Shape.Concatenates [⟨2, ![T, H]⟩, ⟨2, ![T, H]⟩, ⟨2, ![T, R]⟩] ⟨2, ![T, D]⟩ 1) (t : Fin T) (d : Fin D) (hD : D = H + H + R) :
    concatenate ⟨2, ![T, D]⟩ 1 [⟨⟨2, ![T, H]⟩, p⟩, ⟨⟨2, ![T, H]⟩, q⟩, ⟨⟨2, ![T, R]⟩, z⟩] h (ix2 t d)
      = if h1 : d.val < H then p (ix2 t ⟨d.val, h1⟩) else if h2 : d.val < 2 * H then q (ix2 t ⟨d.val - H, by omega⟩)
        else z (ix2 t ⟨d.val - 2 * H, by have := d.isLt; omega⟩) := by
  have off : ∀ b : Fin 2, b ≠ 1 → b = 0 := by decide
  split_ifs with h1 h2
  · refine concatenate_apply_piece 1 [⟨⟨2, ![T, H]⟩, p⟩, ⟨⟨2, ![T, H]⟩, q⟩, ⟨⟨2, ![T, R]⟩, z⟩] h (ix2 t d) 0 (Nat.lt_of_sub_eq_succ rfl) _ p rfl rfl 0 rfl (ix2 t ⟨d.val, h1⟩) ?_ (Nat.zero_add _)
    intro b hb; obtain rfl := off b hb; rfl
  · refine concatenate_apply_piece 1 [⟨⟨2, ![T, H]⟩, p⟩, ⟨⟨2, ![T, H]⟩, q⟩, ⟨⟨2, ![T, R]⟩, z⟩] h (ix2 t d) 1 (Nat.lt_of_sub_eq_succ rfl) _ q rfl rfl H (Nat.add_zero _) (ix2 t ⟨d.val - H, by omega⟩) ?_ ?_
    · intro b hb; obtain rfl := off b hb; rfl
    · show H + (d.val - H) = d.val; omega
  · refine concatenate_apply_piece 1 [⟨⟨2, ![T, H]⟩, p⟩, ⟨⟨2, ![T, H]⟩, q⟩, ⟨⟨2, ![T, R]⟩, z⟩] h (ix2 t d) 2 (Nat.lt_of_sub_eq_succ rfl) _ z rfl rfl (2 * H) ?_ (ix2 t ⟨d.val - 2 * H, by have := d.isLt; omega⟩) ?_ ?_
    · show H + (H + 0) = 2 * H; omega
    · intro b hb; obtain rfl := off b hb; rfl
    · show 2 * H + (d.val - 2 * H) = d.val; omega

/-- Three arrays side by side along the last of three axes. -/
theorem three_apply₃ {T N H R D : ℕ} (p q : (⟨3, ![T, N, H]⟩ : Shape).Idx → α) (z : (⟨3, ![T, N, R]⟩ : Shape).Idx → α)
    (h : Shape.Concatenates [⟨3, ![T, N, H]⟩, ⟨3, ![T, N, H]⟩, ⟨3, ![T, N, R]⟩] ⟨3, ![T, N, D]⟩ 2) (t : Fin T) (n : Fin N) (d : Fin D) (hD : D = H + H + R) :
    concatenate ⟨3, ![T, N, D]⟩ 2 [⟨⟨3, ![T, N, H]⟩, p⟩, ⟨⟨3, ![T, N, H]⟩, q⟩, ⟨⟨3, ![T, N, R]⟩, z⟩] h (ix3 t n d)
      = if h1 : d.val < H then p (ix3 t n ⟨d.val, h1⟩) else if h2 : d.val < 2 * H then q (ix3 t n ⟨d.val - H, by omega⟩)
        else z (ix3 t n ⟨d.val - 2 * H, by have := d.isLt; omega⟩) := by
  have off : ∀ b : Fin 3, b ≠ 2 → b = 0 ∨ b = 1 := by decide
  split_ifs with h1 h2
  · refine concatenate_apply_piece 2 [⟨⟨3, ![T, N, H]⟩, p⟩, ⟨⟨3, ![T, N, H]⟩, q⟩, ⟨⟨3, ![T, N, R]⟩, z⟩] h (ix3 t n d) 0 (Nat.lt_of_sub_eq_succ rfl) _ p rfl rfl 0 rfl (ix3 t n ⟨d.val, h1⟩) ?_ (Nat.zero_add _)
    intro b hb; obtain rfl | rfl := off b hb <;> rfl
  · refine concatenate_apply_piece 2 [⟨⟨3, ![T, N, H]⟩, p⟩, ⟨⟨3, ![T, N, H]⟩, q⟩, ⟨⟨3, ![T, N, R]⟩, z⟩] h (ix3 t n d) 1 (Nat.lt_of_sub_eq_succ rfl) _ q rfl rfl H (Nat.add_zero _) (ix3 t n ⟨d.val - H, by omega⟩) ?_ ?_
    · intro b hb; obtain rfl | rfl := off b hb <;> rfl
    · show H + (d.val - H) = d.val; omega
  · refine concatenate_apply_piece 2 [⟨⟨3, ![T, N, H]⟩, p⟩, ⟨⟨3, ![T, N, H]⟩, q⟩, ⟨⟨3, ![T, N, R]⟩, z⟩] h (ix3 t n d) 2 (Nat.lt_of_sub_eq_succ rfl) _ z rfl rfl (2 * H) ?_ (ix3 t n ⟨d.val - 2 * H, by have := d.isLt; omega⟩) ?_ ?_
    · show H + (H + 0) = 2 * H; omega
    · intro b hb; obtain rfl | rfl := off b hb <;> rfl
    · show 2 * H + (d.val - 2 * H) = d.val; omega

/-- Columns from `o` on. -/
theorem from_apply {T L M : ℕ} (y : (⟨2, ![T, L]⟩ : Shape).Idx → α) (o : ℕ) (h : (⟨2, ![T, L]⟩ : Shape).Slices ![0, o] ⟨2, ![T, M]⟩) (t : Fin T) (e : Fin M)
    (d : Fin L) (hd : d.val = o + e.val) : extractStridedSlice (⟨2, ![T, M]⟩ : Shape) ![0, o] y h (ix2 t e) = y (ix2 t d) :=
  extractStridedSlice_apply _ _ h _ _ (by
    intro a
    fin_cases a
    · exact (Nat.zero_add _).symm
    · exact hd)

/-- Entries from `o` on of every head. -/
theorem entries_apply {T N L M : ℕ} (y : (⟨3, ![T, N, L]⟩ : Shape).Idx → α) (o : ℕ) (h : (⟨3, ![T, N, L]⟩ : Shape).Slices ![0, 0, o] ⟨3, ![T, N, M]⟩)
    (t : Fin T) (n : Fin N) (e : Fin M) (d : Fin L) (hd : d.val = o + e.val) :
    extractStridedSlice (⟨3, ![T, N, M]⟩ : Shape) ![0, 0, o] y h (ix3 t n e) = y (ix3 t n d) :=
  extractStridedSlice_apply _ _ h _ _ (by
    intro a
    fin_cases a
    · exact (Nat.zero_add _).symm
    · exact (Nat.zero_add _).symm
    · exact hd)

/-- A row's lanes repeated. -/
theorem tile_apply {T N D L : ℕ} (x : (⟨2, ![T, D]⟩ : Shape).Idx → α) (h1 : (⟨2, ![T, D]⟩ : Shape).ShapeCasts ⟨4, ![1, T, 1, D]⟩)
    (hb : (⟨4, ![1, T, 1, D]⟩ : Shape).BroadcastsInDim ⟨4, ![1, T, N, D]⟩ ![0, 1, 2, 3])
    (h2 : (⟨4, ![1, T, N, D]⟩ : Shape).ShapeCasts ⟨2, ![T, L]⟩) (hL : L = N * D) (hT : T ≠ 1) (hD : 1 < D) (t : Fin T) (l : Fin L) :
    shapeCast (⟨2, ![T, L]⟩ : Shape) (broadcastInDim ⟨4, ![1, T, N, D]⟩ ![0, 1, 2, 3] hb (shapeCast (⟨4, ![1, T, 1, D]⟩ : Shape) x h1)) h2 (ix2 t l)
      = x (ix2 t ⟨l.val % D, Nat.mod_lt _ (by omega)⟩) := by
  subst hL
  have hl := l.isLt
  have hn : l.val / D < N := Nat.div_lt_of_lt_mul (hl.trans_eq (Nat.mul_comm N D))
  have hm : l.val % D < D := Nat.mod_lt _ (by omega)
  have split := Nat.div_add_mod l.val D
  refine (shapeCast_apply _ h2 (ix2 t l) (ix4 (0 : Fin 1) t ⟨l.val / D, hn⟩ ⟨l.val % D, hm⟩) ?_).trans
    ((broadcastInDim_apply ![0, 1, 2, 3] hb _ _ (ix4 (0 : Fin 1) t (0 : Fin 1) ⟨l.val % D, hm⟩) ?_).trans
      (shapeCast_apply x h1 _ (ix2 t ⟨l.val % D, hm⟩) ?_))
  · rw [Shape.rowMajor_val_four, Shape.rowMajor_val_two]
    show ((0 * T + t.val) * N + l.val / D) * D + l.val % D = t.val * (N * D) + l.val
    rw [Nat.zero_mul, Nat.zero_add, Nat.add_mul, Nat.mul_assoc, Nat.mul_comm (l.val / D) D]
    omega
  · intro a
    fin_cases a
    · rfl
    · exact (if_neg hT).symm
    · rfl
    · exact (if_neg (by omega : D ≠ 1)).symm
  · rw [Shape.rowMajor_val_four, Shape.rowMajor_val_two]
    show t.val * D + l.val % D = ((0 * T + t.val) * 1 + 0) * D + l.val % D
    rw [Nat.zero_mul, Nat.zero_add, Nat.mul_one, Nat.add_zero]

/-- A matrix's columns taken head by head. -/
theorem heads_apply {A N D L : ℕ} (x : (⟨2, ![A, L]⟩ : Shape).Idx → α) (h : (⟨2, ![A, L]⟩ : Shape).ShapeCasts ⟨3, ![A, N, D]⟩) (hL : L = N * D)
    (a : Fin A) (n : Fin N) (e : Fin D) (c : Fin L) (hc : c.val = D * n.val + e.val) :
    shapeCast (⟨3, ![A, N, D]⟩ : Shape) x h (ix3 a n e) = x (ix2 a c) :=
  shapeCast_apply _ _ _ _ (by
    subst hL
    rw [Shape.rowMajor_val_three, Shape.rowMajor_val_two]
    show a.val * (N * D) + c.val = (a.val * N + n.val) * D + e.val
    rw [hc, Nat.add_mul, Nat.mul_assoc, Nat.mul_comm n.val D]
    omega)

/-- The heads side by side again. -/
theorem unheads_apply {A N D L : ℕ} (x : (⟨3, ![A, N, D]⟩ : Shape).Idx → α) (h : (⟨3, ![A, N, D]⟩ : Shape).ShapeCasts ⟨2, ![A, L]⟩) (hL : L = N * D)
    (a : Fin A) (n : Fin N) (e : Fin D) (c : Fin L) (hc : c.val = D * n.val + e.val) :
    shapeCast (⟨2, ![A, L]⟩ : Shape) x h (ix2 a c) = x (ix3 a n e) :=
  shapeCast_apply _ _ _ _ (by
    subst hL
    rw [Shape.rowMajor_val_three, Shape.rowMajor_val_two]
    show (a.val * N + n.val) * D + e.val = a.val * (N * D) + c.val
    rw [hc, Nat.add_mul, Nat.mul_assoc, Nat.mul_comm n.val D]
    omega)

/-- Lanes `k` to `k + H` of every head set. -/
theorem set_apply {A N D H : ℕ} (s : ScatterDims ⟨3, ![A, N, D]⟩ ⟨1, ![1]⟩ ⟨3, ![A, N, H]⟩) (hw : s.updateWindowDims = [0, 1, 2])
    (hi : s.insertedWindowDims = []) (hs : s.scatterDimsToOperandDims = [2]) (x : (⟨3, ![A, N, D]⟩ : Shape).Idx → α) (idx : IVec ⟨1, ![1]⟩ 32)
    (u : (⟨3, ![A, N, H]⟩ : Shape).Idx → α) (k : ℕ) (hk : (idx (ix1 (0 : Fin 1))).toInt = (k : Int)) (a : Fin A) (n : Fin N) (e : Fin D) (hD : k + H ≤ D) :
    Host.scatter s (fun _ b => b) x idx u (ix3 a n e)
      = if h : k ≤ e.val ∧ e.val < k + H then u (ix3 a n ⟨e.val - k, by omega⟩) else x (ix3 a n e) := by
  have hkept : s.sKept = [0, 1, 2] := by
    show (⟨3, ![A, N, D]⟩ : Shape).kept s.insertedWindowDims = _
    rw [hi]; rfl
  have hwin : ∀ (j : (⟨3, ![A, N, H]⟩ : Shape).Idx) (b : Fin 3), s.window j b = (j b).val := by
    intro j b
    obtain ⟨uw, iw, sd, iv, wf⟩ := s
    dsimp only at hw hi hs
    subst hw hi hs
    fin_cases b <;> rfl
  have hst : ∀ (j : (⟨3, ![A, N, H]⟩ : Shape).Idx) (b : Fin 3), s.start j idx b = if b = 2 then (k : Int) else 0 := by
    intro j b
    unfold ScatterDims.start
    by_cases hb : b = 2
    · rw [dif_pos (by rw [hs]; exact List.mem_singleton.2 hb), if_pos hb, ← hk]
      refine congrArg (fun i => (idx i).toInt) (funext fun z => ?_)
      match z with
      | ⟨0, _⟩ => exact Subsingleton.elim (α := Fin 1) _ _
    · rw [dif_neg (by rw [hs]; exact fun h => hb (List.mem_singleton.1 h)), if_neg hb]
  have lands : ∀ j : (⟨3, ![A, N, H]⟩ : Shape).Idx, s.resultIdx? j idx = some (ix3 a n e) ↔
      (j 0).val = a.val ∧ (j 1).val = n.val ∧ k + (j 2).val = e.val := by
    intro j
    have b0 : (j 0).val < A := (j 0).isLt
    have b1 : (j 1).val < N := (j 1).isLt
    have b2 : (j 2).val < H := (j 2).isLt
    have inside : ∀ b, 0 ≤ s.start j idx b + s.window j b ∧ s.start j idx b + s.window j b < (⟨3, ![A, N, D]⟩ : Shape).size b := by
      intro b
      rw [hst, hwin]
      fin_cases b
      · show (0 : Int) ≤ 0 + ((j 0).val : Int) ∧ 0 + ((j 0).val : Int) < (A : Int); omega
      · show (0 : Int) ≤ 0 + ((j 1).val : Int) ∧ 0 + ((j 1).val : Int) < (N : Int); omega
      · show (0 : Int) ≤ k + ((j 2).val : Int) ∧ k + ((j 2).val : Int) < (D : Int); omega
    unfold ScatterDims.resultIdx?
    rw [dif_pos inside, Option.some_inj]
    constructor
    · intro h
      have v : ∀ b, (s.start j idx b + s.window j b).toNat = (ix3 a n e b).val := fun b => congrArg (fun i => (i b).val) h
      have v0 : ((0 : Int) + ((j 0).val : Int)).toNat = a.val := by have := v 0; rwa [hst, hwin] at this
      have v1 : ((0 : Int) + ((j 1).val : Int)).toNat = n.val := by have := v 1; rwa [hst, hwin] at this
      have v2 : ((k : Int) + ((j 2).val : Int)).toNat = e.val := by have := v 2; rwa [hst, hwin] at this
      omega
    · rintro ⟨v0, v1, v2⟩
      refine funext fun b => Fin.ext ?_
      show (s.start j idx b + s.window j b).toNat = _
      rw [hst, hwin]
      fin_cases b
      · show ((0 : Int) + ((j 0).val : Int)).toNat = a.val; omega
      · show ((0 : Int) + ((j 1).val : Int)).toNat = n.val; omega
      · show ((k : Int) + ((j 2).val : Int)).toNat = e.val; omega
  split_ifs with h
  · refine Routing.scatter_set_hit s x idx u _ _ (fun j hj => ?_) (ix3 a n ⟨e.val - k, by omega⟩) ((lands _).2 ⟨rfl, rfl, ?_⟩)
    · obtain ⟨v0, v1, v2⟩ := (lands j).1 hj
      refine congrArg u (funext fun b => Fin.ext ?_)
      fin_cases b
      · exact v0
      · exact v1
      · show (j 2).val = e.val - k; omega
    · show k + (e.val - k) = e.val; omega
  · refine Routing.scatter_set_miss s x idx u _ fun j hj => h ?_
    obtain ⟨v0, v1, v2⟩ := (lands j).1 hj
    have b2 : (j 2).val < H := (j 2).isLt
    omega

end Layout

/-- The columns that a head's rotation takes, as the host writes them: the second rotated half negated, then the first. -/
theorem rotate_apply {A N D L H : ℕ} (s : ScatterDims ⟨3, ![A, N, D]⟩ ⟨1, ![1]⟩ ⟨3, ![A, N, H]⟩) (hw : s.updateWindowDims = [0, 1, 2])
    (hi : s.insertedWindowDims = []) (hs : s.scatterDimsToOperandDims = [2]) (x : FVec Ideal ⟨2, ![A, L]⟩ .f32)
    (hx : (⟨2, ![A, L]⟩ : Shape).ShapeCasts ⟨3, ![A, N, D]⟩) (ho : (⟨3, ![A, N, D]⟩ : Shape).ShapeCasts ⟨2, ![A, L]⟩)
    (z : FVec Ideal ⟨3, ![A, N, D]⟩ .f32) (hz : ∀ i, (z i : EReal) = 0) (p q : IVec ⟨1, ![1]⟩ 32) (hp : (p (ix1 (0 : Fin 1))).toInt = ((0 : ℕ) : Int))
    (hq : (q (ix1 (0 : Fin 1))).toInt = (H : Int)) (h0 : (⟨3, ![A, N, D]⟩ : Shape).Slices ![0, 0, 0] ⟨3, ![A, N, H]⟩)
    (hH : (⟨3, ![A, N, D]⟩ : Shape).Slices ![0, 0, H] ⟨3, ![A, N, H]⟩) (hL : L = N * D) (hD : 2 * H ≤ D) (a : Fin A) (n : Fin N) (e : Fin D) (c : Fin L)
    (hc : c.val = D * n.val + e.val) (w : ℕ → EReal) (hxw : ∀ c : Fin L, x (ix2 a c) = w c.val) :
    shapeCast (⟨2, ![A, L]⟩ : Shape) (Host.scatter s (fun _ b => b) (Host.scatter s (fun _ b => b) z p
        (Host.negf (extractStridedSlice ⟨3, ![A, N, H]⟩ ![0, 0, H] (shapeCast ⟨3, ![A, N, D]⟩ x hx) hH : FVec Ideal ⟨3, ![A, N, H]⟩ .f32))) q
        (extractStridedSlice ⟨3, ![A, N, H]⟩ ![0, 0, 0] (shapeCast ⟨3, ![A, N, D]⟩ x hx) h0)) ho (ix2 a c)
      = half H (fun j => w (D * n.val + j)) e.val := by
  have taken : ∀ (o : ℕ) (h : (⟨3, ![A, N, D]⟩ : Shape).Slices ![0, 0, o] ⟨3, ![A, N, H]⟩) (b : Fin H) (hb : o + b.val < D),
      extractStridedSlice (⟨3, ![A, N, H]⟩ : Shape) ![0, 0, o] (shapeCast ⟨3, ![A, N, D]⟩ x hx) h (ix3 a n b) = w (D * n.val + (o + b.val)) := by
    intro o h b hb
    refine (extractStridedSlice_apply _ _ h _ (ix3 a n ⟨o + b.val, hb⟩) ?_).trans ?_
    · intro i
      fin_cases i
      · exact (Nat.zero_add _).symm
      · exact (Nat.zero_add _).symm
      · rfl
    · have hcL : D * n.val + (o + b.val) < L := by
        have h1 : D * (n.val + 1) ≤ D * N := Nat.mul_le_mul_left _ n.isLt
        rw [hL, Nat.mul_comm N D]
        rw [Nat.mul_add] at h1
        omega
      exact (heads_apply x hx hL a n _ ⟨_, hcL⟩ rfl).trans (hxw _)
  rw [unheads_apply _ ho hL a n e c hc, set_apply s hw hi hs _ q _ H hq a n e (by omega), set_apply s hw hi hs z p _ 0 hp a n e (by omega)]
  unfold half
  split_ifs with h1 h2 h3 h4 h5 h6 <;> try omega
  · refine (taken 0 h0 _ ?_).trans (congrArg w ?_)
    · show 0 + (e.val - H) < D; omega
    · show D * n.val + (0 + (e.val - H)) = _; omega
  · refine congrArg (fun y : EReal => -y) ((taken H hH _ ?_).trans (congrArg w ?_))
    · show H + (e.val - 0) < D; omega
    · show D * n.val + (H + (e.val - 0)) = _; omega
  · exact hz _

end Cert.Layer

end
-- ==== Proof.Layer.ProjRef.lean ====
/-
  The row projections' reference, read at an index.
-/
module

public import proofs.«01_k».proof.Defs
public import proofs.«01_k».proof.Proof.Layer.Norm
public import proofs.«01_k».proof.Proof.Layer.Lanes
public import proofs.«01_k».proof.Proof.Gen.Reference4Ideal.Read
public import Idealize.ShloMosaic.Lib.IdealHost
public import Idealize.ShloMosaic.Lib.StackMember

@[expose] public section

set_option maxRecDepth 16384

noncomputable section

namespace Cert.Reference4Ideal.Layer

open Cert.Reference4Ideal Cert.Reference4Ideal.Gen Cert.Reference4Ideal.Read Cert.Layer
open Idealize.ShloMosaic Idealize.ShloMosaic.TcCoe Idealize.SL.Sem
open Idealize.ShloMosaic.ValueIdx

/-- The rotation of every head's first entries. -/
theorem turned_apply {T N H R D : ℕ} (y : FVec Ideal ⟨3, ![T, N, D]⟩ .f32) (C S C' S' : FVec Ideal ⟨3, ![T, N, H]⟩ .f32) (o : ℕ) (ho : o = 2 * H)
    (h0 : (⟨3, ![T, N, D]⟩ : Shape).Slices ![0, 0, 0] ⟨3, ![T, N, H]⟩) (h1 : (⟨3, ![T, N, D]⟩ : Shape).Slices ![0, 0, H] ⟨3, ![T, N, H]⟩)
    (h2 : (⟨3, ![T, N, D]⟩ : Shape).Slices ![0, 0, o] ⟨3, ![T, N, R]⟩) (h : Shape.Concatenates [⟨3, ![T, N, H]⟩, ⟨3, ![T, N, H]⟩, ⟨3, ![T, N, R]⟩] ⟨3, ![T, N, D]⟩ 2)
    (hD : D = H + H + R) (t : Fin T) (n : Fin N) (d : Fin D) (cos sin v : ℕ → EReal) (hC : ∀ j : Fin H, C (ix3 t n j) = cos j.val) (hS : ∀ j : Fin H, S (ix3 t n j) = sin j.val)
    (hC' : ∀ j : Fin H, C' (ix3 t n j) = cos j.val) (hS' : ∀ j : Fin H, S' (ix3 t n j) = sin j.val) (hy : ∀ j : Fin D, y (ix3 t n j) = v j.val) :
    concatenate ⟨3, ![T, N, D]⟩ 2
      [⟨⟨3, ![T, N, H]⟩, subf (mulf (extractStridedSlice ⟨3, ![T, N, H]⟩ ![0, 0, 0] y h0) C) (mulf (extractStridedSlice ⟨3, ![T, N, H]⟩ ![0, 0, H] y h1) S)⟩,
        ⟨⟨3, ![T, N, H]⟩, addf (mulf (extractStridedSlice ⟨3, ![T, N, H]⟩ ![0, 0, H] y h1) C') (mulf (extractStridedSlice ⟨3, ![T, N, H]⟩ ![0, 0, 0] y h0) S')⟩,
        ⟨⟨3, ![T, N, R]⟩, extractStridedSlice ⟨3, ![T, N, R]⟩ ![0, 0, o] y h2⟩] h (ix3 t n d)
      = turned H cos sin v d.val := by
  have hd := d.isLt
  rw [three_apply₃ _ _ _ h t n d hD]
  unfold turned
  split_ifs with p q
  · rw [subf_apply, mulf_apply, mulf_apply, entries_apply _ _ h0 t n _ d (Nat.zero_add _).symm, entries_apply _ _ h1 t n _ ⟨d.val + H, by omega⟩ (Nat.add_comm _ _), hC, hS, hy, hy]
  · rw [addf_apply, mulf_apply, mulf_apply, entries_apply _ _ h1 t n _ d (by show d.val = H + (d.val - H); omega),
      entries_apply _ _ h0 t n _ ⟨d.val - H, by omega⟩ (by show d.val - H = 0 + (d.val - H); omega), hC', hS', hy, hy]
  · rw [entries_apply _ _ h2 t n _ d (by show d.val = o + (d.val - 2 * H); omega), hy]

/-- Head pairs apart: columns 128 at a time, one slab over another. -/
theorem pairs_apply (a : FVec Ideal S16896x512 .f32) (h : S16896x512.ShapeCasts S16896x4x128) (h' : S16896x4x128.Transposes [1, 0, 2] S4x16896x128) (j : Fin 4) (r : Fin 16896)
    (l : Fin 128) (d : Fin 512) (hd : d.val = 128 * j.val + l.val) :
    transpose S4x16896x128 [1, 0, 2] (shapeCast S16896x4x128 a h) h' (ix3 j r l) = a (ix2 r d) :=
  (transpose_apply [1, 0, 2] _ h' (ix3 j r l) (ix3 r j l) (by intro b; fin_cases b <;> rfl)).trans (heads_apply a h rfl r j l d hd)

/-- Column `j` of the weights. -/
def column (w : FVec Ideal S1x1024x5416 .f32) (k : Fin 1024) (j : ℕ) : EReal := w (ix3 (0 : Fin 1) k (Fin.ofNat 5416 j))

/-- Row `r` of the norm against column `j` of the weights. -/
def entry (x : FVec Ideal S16896x1024 .f32) (g : FVec Ideal S1x1024 .f32) (w : FVec Ideal S1x1024x5416 .f32) (r : Fin 16896) (j : ℕ) : EReal :=
  ∑ k : Fin 1024, rms (fun k => x (ix2 r k)) (fun k => g (ix2 (0 : Fin 1) k)) k * column w k j

variable (x0 : FVec Ideal S16896x1024 .f32) (x1 : FVec Ideal S1x1024x5416 .f32) (x2 : FVec Ideal S1x2048 .f32) (x3 : FVec Ideal S1x1024 .f32)

theorem product_apply (r : Fin 16896) (d : Fin 5416) : val_main_v15 (F := Ideal) x0 x1 x3 (ix2 r d) = entry x0 x3 x1 r d.val := by
  have e : val_main_v13 (F := Ideal) x0 x3 = hostNormed x0 x3 := rfl
  unfold val_main_v15 entry
  rw [e]
  refine (StackMember.dotGeneral_plain_apply none (hostNormed x0 x3) (val_main_v14 (F := Ideal) x1) r d).trans (Finset.sum_congr rfl fun k _ => ?_)
  rw [hostNormed_apply]
  refine congrArg _ ((unstack_apply x1 _ k d).trans ?_)
  exact congrArg (fun d => x1 (ix3 (0 : Fin 1) k d)) (Fin.ext (Nat.mod_eq_of_lt d.isLt).symm)

theorem slice_apply {M : ℕ} (o : ℕ) (ho : o + M ≤ 5416) (h : S16896x5416.Slices ![0, o] ⟨2, ![16896, M]⟩) (r : Fin 16896) (d : Fin M) :
    extractStridedSlice (⟨2, ![16896, M]⟩ : Shape) ![0, o] (val_main_v15 (F := Ideal) x0 x1 x3) h (ix2 r d) = entry x0 x3 x1 r (o + d.val) :=
  (from_apply _ o h r d ⟨o + d.val, by have := d.isLt; omega⟩ rfl).trans (product_apply x0 x1 x3 r _)

theorem q_sb_apply (j : Fin 4) (r : Fin 16896) (l : Fin 128) :
    val_main_v92 (F := Ideal) x0 x1 x3 (ix3 j r l) = entry x0 x3 x1 r (0 + (128 * j.val + l.val)) * Ideal.ofBits .f32 0x3E38AA3B#32 := by
  have hj := j.isLt
  have hl := l.isLt
  unfold val_main_v92 val_main_v91 val_main_v90
  rw [truncf_apply, pairs_apply _ _ _ j r l ⟨128 * j.val + l.val, by omega⟩ rfl]
  unfold val_main_v89
  rw [mulf_apply]
  exact congrArg (· * Ideal.ofBits .f32 0x3E38AA3B#32) (slice_apply x0 x1 x3 0 (by decide) _ r _)

theorem v_sb_apply (j : Fin 4) (r : Fin 16896) (l : Fin 128) :
    val_main_v95 (F := Ideal) x0 x1 x3 (ix3 j r l) = entry x0 x3 x1 r (1024 + (128 * j.val + l.val)) := by
  have hj := j.isLt
  have hl := l.isLt
  unfold val_main_v95 val_main_v94 val_main_v93
  rw [truncf_apply, pairs_apply _ _ _ j r l ⟨128 * j.val + l.val, by omega⟩ rfl]
  exact slice_apply x0 x1 x3 1024 (by decide) _ r _

theorem v_ds_apply (j : Fin 4) (r : Fin 16896) (l : Fin 128) :
    val_main_v98 (F := Ideal) x0 x1 x3 (ix3 j r l) = entry x0 x3 x1 r (2560 + (128 * j.val + l.val)) := by
  have hj := j.isLt
  have hl := l.isLt
  unfold val_main_v98 val_main_v97 val_main_v96
  rw [truncf_apply, pairs_apply _ _ _ j r l ⟨128 * j.val + l.val, by omega⟩ rfl]
  exact slice_apply x0 x1 x3 2560 (by decide) _ r _

/-- The cosines of the queries' angles at a row. -/
abbrev cosQ (r : Fin 16896) (j : ℕ) : EReal := val_main_v40 (F := Ideal) (ix2 r (Fin.ofNat 8 j))
abbrev sinQ (r : Fin 16896) (j : ℕ) : EReal := val_main_v42 (F := Ideal) (ix2 r (Fin.ofNat 8 j))
/-- The cosines of the indexer key's angles at a row. -/
abbrev cosK (r : Fin 16896) (j : ℕ) : EReal := val_main_v73 (F := Ideal) (ix2 r (Fin.ofNat 4 j))
abbrev sinK (r : Fin 16896) (j : ℕ) : EReal := val_main_v75 (F := Ideal) (ix2 r (Fin.ofNat 4 j))

theorem ofNat_val {n : ℕ} [NeZero n] (j : Fin n) : j = Fin.ofNat n j.val := Fin.ext (Nat.mod_eq_of_lt j.isLt).symm

theorem cosQ_at (r : Fin 16896) (n j : Fin 8) : val_main_v46 (F := Ideal) (ix3 r n j) = cosQ r j.val := by
  rw [val_main_v46_apply, val_main_v41_apply]
  exact congrArg (val_main_v40 (F := Ideal)) (Shape.idx_ext₂ rfl (congrArg Fin.val (ofNat_val j)))

theorem sinQ_at (r : Fin 16896) (n j : Fin 8) : val_main_v48 (F := Ideal) (ix3 r n j) = sinQ r j.val := by
  rw [val_main_v48_apply, val_main_v43_apply]
  exact congrArg (val_main_v42 (F := Ideal)) (Shape.idx_ext₂ rfl (congrArg Fin.val (ofNat_val j)))

theorem cosK_at (r : Fin 16896) (n : Fin 1) (j : Fin 4) : val_main_v74 (F := Ideal) (ix3 r n j) = cosK r j.val := by
  rw [val_main_v74_apply]
  exact congrArg (val_main_v73 (F := Ideal)) (Shape.idx_ext₂ rfl (congrArg Fin.val (ofNat_val j)))

theorem sinK_at (r : Fin 16896) (n : Fin 1) (j : Fin 4) : val_main_v76 (F := Ideal) (ix3 r n j) = sinK r j.val := by
  rw [val_main_v76_apply]
  exact congrArg (val_main_v75 (F := Ideal)) (Shape.idx_ext₂ rfl (congrArg Fin.val (ofNat_val j)))

theorem heads_at (r : Fin 16896) (n : Fin 8) (e : Fin 64) : val_main_v27 (F := Ideal) x0 x1 x3 (ix3 r n e) = entry x0 x3 x1 r (1536 + (64 * n.val + e.val)) := by
  have hn := n.isLt
  have he := e.isLt
  unfold val_main_v27
  exact (heads_apply (val_main_v19 (F := Ideal) x0 x1 x3) _ rfl r n e ⟨64 * n.val + e.val, by omega⟩ rfl).trans (slice_apply x0 x1 x3 1536 (by decide) _ r _)

theorem key_at (r : Fin 16896) (n : Fin 1) (e : Fin 32) : val_main_v60 (F := Ideal) x0 x1 x3 (ix3 r n e) = entry x0 x3 x1 r (3328 + e.val) := by
  unfold val_main_v60
  exact (heads_apply (val_main_v23 (F := Ideal) x0 x1 x3) _ rfl r n e e (by omega)).trans (slice_apply x0 x1 x3 3328 (by decide) _ r _)

theorem q_ds_apply (j : Fin 4) (r : Fin 16896) (l : Fin 128) :
    val_main_v101 (F := Ideal) x0 x1 x3 (ix3 j r l)
      = turned 8 (cosQ r) (sinQ r) (fun e => entry x0 x3 x1 r (1536 + (64 * ((128 * j.val + l.val) / 64) + e))) ((128 * j.val + l.val) % 64) * Ideal.ofBits .f32 0x3E000000#32 := by
  have hj := j.isLt
  have hl := l.isLt
  unfold val_main_v101 val_main_v100 val_main_v99
  rw [truncf_apply, transpose_apply [1, 0, 2] _ _ (ix3 j r l) (ix3 r j l) (by intro b; fin_cases b <;> rfl),
    shapeCast_apply _ _ _ (ix3 r (⟨(128 * j.val + l.val) / 64, by omega⟩ : Fin 8) (⟨(128 * j.val + l.val) % 64, by omega⟩ : Fin 64)) (by
      rw [Shape.rowMajor_val_three, Shape.rowMajor_val_three]
      show (r.val * 8 + (128 * j.val + l.val) / 64) * 64 + (128 * j.val + l.val) % 64 = (r.val * 4 + j.val) * 128 + l.val
      omega)]
  unfold val_main_v59
  rw [mulf_apply]
  refine congrArg (· * Ideal.ofBits .f32 0x3E000000#32) ?_
  unfold val_main_v57 val_main_v50 val_main_v55 val_main_v47 val_main_v49 val_main_v52 val_main_v54 val_main_v56 val_main_v44 val_main_v45
  exact turned_apply (val_main_v27 (F := Ideal) x0 x1 x3) _ _ _ _ 16 rfl _ _ _ _ rfl r _ _ (cosQ r) (sinQ r) _ (cosQ_at r _) (sinQ_at r _) (cosQ_at r _) (sinQ_at r _) (heads_at x0 x1 x3 r _)

theorem k_turned_apply (r : Fin 16896) (e : Fin 32) :
    val_main_v87 (F := Ideal) x0 x1 x3 (ix2 r e) = turned 4 (cosK r) (sinK r) (fun e => entry x0 x3 x1 r (3328 + e)) e.val := by
  unfold val_main_v87
  rw [unheads_apply (N := 1) (D := 32) _ _ rfl r (0 : Fin 1) e e (by omega)]
  unfold val_main_v86 val_main_v81 val_main_v84 val_main_v79 val_main_v80 val_main_v82 val_main_v83 val_main_v85 val_main_v77 val_main_v78
  exact turned_apply (val_main_v60 (F := Ideal) x0 x1 x3) _ _ _ _ 8 rfl _ _ _ _ rfl r _ _ (cosK r) (sinK r) _ (cosK_at r _) (sinK_at r _) (cosK_at r _) (sinK_at r _) (key_at x0 x1 x3 r _)

/-- Four copies side by side. -/
theorem copies_apply {α : Type} {T D L : ℕ} [NeZero D] (y : (⟨2, ![T, D]⟩ : Shape).Idx → α)
    (h : Shape.Concatenates [⟨2, ![T, D]⟩, ⟨2, ![T, D]⟩, ⟨2, ![T, D]⟩, ⟨2, ![T, D]⟩] ⟨2, ![T, L]⟩ 1) (hL : L = 4 * D) (t : Fin T) (l : Fin L) :
    concatenate ⟨2, ![T, L]⟩ 1 [⟨⟨2, ![T, D]⟩, y⟩, ⟨⟨2, ![T, D]⟩, y⟩, ⟨⟨2, ![T, D]⟩, y⟩, ⟨⟨2, ![T, D]⟩, y⟩] h (ix2 t l) = y (ix2 t (Fin.ofNat D l.val)) := by
  have hD : 0 < D := Nat.pos_of_ne_zero (NeZero.ne D)
  have hq : l.val / D < 4 := Nat.div_lt_of_lt_mul (by have := l.isLt; omega)
  have hs : D * (l.val / D) + l.val % D = l.val := Nat.div_add_mod _ _
  have off : ∀ b : Fin 2, b ≠ 1 → b = 0 := by decide
  have side : ∀ b : Fin 2, b ≠ 1 → ((ix2 t (Fin.ofNat D l.val) : (⟨2, ![T, D]⟩ : Shape).Idx) b).val = ((ix2 t l : (⟨2, ![T, L]⟩ : Shape).Idx) b).val := by
    intro b hb; obtain rfl := off b hb; rfl
  generalize l.val / D = q at hq hs
  obtain rfl | rfl | rfl | rfl : q = 0 ∨ q = 1 ∨ q = 2 ∨ q = 3 := by omega
  · exact concatenate_apply_piece 1 [⟨⟨2, ![T, D]⟩, y⟩, ⟨⟨2, ![T, D]⟩, y⟩, ⟨⟨2, ![T, D]⟩, y⟩, ⟨⟨2, ![T, D]⟩, y⟩] h (ix2 t l) 0 (Nat.lt_of_sub_eq_succ rfl) _ y rfl rfl _ rfl _ side hs
  · exact concatenate_apply_piece 1 [⟨⟨2, ![T, D]⟩, y⟩, ⟨⟨2, ![T, D]⟩, y⟩, ⟨⟨2, ![T, D]⟩, y⟩, ⟨⟨2, ![T, D]⟩, y⟩] h (ix2 t l) 1 (Nat.lt_of_sub_eq_succ rfl) _ y rfl rfl _ (by show D + 0 = D * 1; omega) _ side hs
  · exact concatenate_apply_piece 1 [⟨⟨2, ![T, D]⟩, y⟩, ⟨⟨2, ![T, D]⟩, y⟩, ⟨⟨2, ![T, D]⟩, y⟩, ⟨⟨2, ![T, D]⟩, y⟩] h (ix2 t l) 2 (Nat.lt_of_sub_eq_succ rfl) _ y rfl rfl _ (by show D + (D + 0) = D * 2; omega) _ side hs
  · exact concatenate_apply_piece 1 [⟨⟨2, ![T, D]⟩, y⟩, ⟨⟨2, ![T, D]⟩, y⟩, ⟨⟨2, ![T, D]⟩, y⟩, ⟨⟨2, ![T, D]⟩, y⟩] h (ix2 t l) 3 (Nat.lt_of_sub_eq_succ rfl) _ y rfl rfl _ (by show D + (D + (D + 0)) = D * 3; omega) _ side hs

theorem k_apply (r : Fin 16896) (l : Fin 128) :
    val_main_v103 (F := Ideal) x0 x1 x3 (ix2 r l) = turned 4 (cosK r) (sinK r) (fun e => entry x0 x3 x1 r (3328 + e)) (l.val % 32) := by
  unfold val_main_v103 val_main_v102
  rw [truncf_apply]
  exact (copies_apply (val_main_v87 (F := Ideal) x0 x1 x3) _ rfl r l).trans (k_turned_apply x0 x1 x3 r _)

theorem gates_apply (r : Fin 16896) (d : Fin 2048) :
    val_main_v114 (F := Ideal) x0 x1 x2 x3 (ix2 r d) = Ideal.logistic (entry x0 x3 x1 r (3368 + d.val) + (x2 (ix2 (0 : Fin 1) d) : EReal)) := by
  have sum : val_main_v107 (F := Ideal) x0 x1 x2 x3 (ix2 r d) = entry x0 x3 x1 r (3368 + d.val) + (x2 (ix2 (0 : Fin 1) d) : EReal) := by
    unfold val_main_v107
    rw [addf_apply, val_main_v106_apply, val_main_v105_apply, val_main_v104_apply]
    refine congrArg₂ (· + ·) (slice_apply x0 x1 x3 3368 (by decide) _ r d) (congrArg x2 (Shape.idx_ext₂ ?_ ?_))
    · rfl
    · simp [idx_main_v104, idx_main_v105, idx_main_v106, ix2]
  rw [← sum]
  show Ideal.div (Ideal.ofBits .f32 0x3F800000#32) (Ideal.ofBits .f32 0x3F800000#32 + Ideal.exp (-(val_main_v107 (F := Ideal) x0 x1 x2 x3 (ix2 r d)))) = _
  rw [Ideal.ofBits_one_f32]
  rfl

end Cert.Reference4Ideal.Layer

end
-- ==== Proof.Layer.ProjHost.lean ====
/-
  The arrays the host prepares for the row projections' call: their weights, scaled, repeated and rotated, and the rotation's tables.
-/
module

public import proofs.«01_k».proof.Defs
public import proofs.«01_k».proof.Proof.Layer.ProjRef
public import proofs.«01_k».proof.Proof.Gen.Kernel4Ideal.Value

@[expose] public section

set_option maxRecDepth 16384

noncomputable section

namespace Cert.Kernel4Ideal.Layer

open Cert.Kernel4Ideal Cert.Kernel4Ideal.Gen Cert.Layer
open Cert.Reference4Ideal.Layer (column)
open Idealize.ShloMosaic Idealize.ShloMosaic.TcCoe Idealize.SL.Sem
open Idealize.ShloMosaic.ValueIdx

variable (m : (ℓ : Loc nD τ sig) → Buf (Elt Ideal) ℓ) (c : Dev nD)

/-- The weights as a matrix. -/
abbrev weights (w : FVec Ideal S1x1024x5416 .f32) : FVec Ideal S1024x5416 .f32 := shapeCast _ w shapeCasts_S1x1024x5416_S1024x5416

/-- A table of a head's lanes, two heads side by side. -/
abbrev lanes64 (x : FVec Ideal S16896x8 .f32) (rest : BitVec 32) : FVec Ideal S16896x128 .f32 :=
  shapeCast _ (broadcastInDim S1x16896x2x64 ![0, 1, 2, 3] bcast_S1x16896x1x64_S1x16896x2x64_0_1_2_3 (shapeCast S1x16896x1x64
    (concatenate S16896x64 1 [⟨S16896x8, x⟩, ⟨S16896x8, x⟩, ⟨S16896x48, broadcastInDim S16896x48 ![] bcast_S_S16896x48 (constant S_ .f32 rest : FVec Ideal S_ .f32)⟩]
      concatenates_S16896x8_S16896x8_S16896x48_S16896x64_d1) shapeCasts_S16896x64_S1x16896x1x64)) shapeCasts_S1x16896x2x64_S16896x128

/-- A table of an indexer head's lanes, four side by side. -/
abbrev lanes32 (x : FVec Ideal S16896x4 .f32) (rest : BitVec 32) : FVec Ideal S16896x128 .f32 :=
  shapeCast _ (broadcastInDim S1x16896x4x32 ![0, 1, 2, 3] bcast_S1x16896x1x32_S1x16896x4x32_0_1_2_3 (shapeCast S1x16896x1x32
    (concatenate S16896x32 1 [⟨S16896x4, x⟩, ⟨S16896x4, x⟩, ⟨S16896x24, broadcastInDim S16896x24 ![] bcast_S_S16896x24 (constant S_ .f32 rest : FVec Ideal S_ .f32)⟩]
      concatenates_S16896x4_S16896x4_S16896x24_S16896x32_d1) shapeCasts_S16896x32_S1x16896x1x32)) shapeCasts_S1x16896x4x32_S16896x128

/-- The two tables side by side. -/
abbrev table (x : FVec Ideal S16896x8 .f32) (y : FVec Ideal S16896x4 .f32) (rest : BitVec 32) : FVec Ideal S16896x256 .f32 :=
  concatenate S16896x256 1 [⟨S16896x128, lanes64 x rest⟩, ⟨S16896x128, lanes32 y rest⟩] concatenates_S16896x128_S16896x128_S16896x256_d1

open Cert.Reference4Ideal.Read (val_main_v40 val_main_v42 val_main_v73 val_main_v75) in
theorem cosines : V m c main_v64 = table (val_main_v40 (F := Ideal)) (val_main_v73 (F := Ideal)) 0x3F800000#32 := by
  unfold V hostOps0
  after_results
  rfl

open Cert.Reference4Ideal.Read (val_main_v40 val_main_v42 val_main_v73 val_main_v75) in
theorem sines : V m c main_v65 = table (val_main_v42 (F := Ideal)) (val_main_v75 (F := Ideal)) 0x00000000#32 := by
  unfold V hostOps0
  after_results
  rfl

/-- Columns `o` to `o + 512` times a scale. -/
abbrev scaled (w : FVec Ideal S1x1024x5416 .f32) (o : ℕ) (h : S1024x5416.Slices ![0, o] S1024x512) (b : BitVec 32) : FVec Ideal S1024x512 .f32 :=
  mulf (extractStridedSlice S1024x512 ![0, o] (weights w) h) (broadcastInDim S1024x512 ![] bcast_S_S1024x512 (constant S_ .f32 b : FVec Ideal S_ .f32))

/-- The indexer key's columns four times over. -/
abbrev keys (w : FVec Ideal S1x1024x5416 .f32) : FVec Ideal S1024x128 .f32 :=
  shapeCast _ (broadcastInDim S1x1024x4x32 ![0, 1, 2, 3] bcast_S1x1024x1x32_S1x1024x4x32_0_1_2_3 (shapeCast S1x1024x1x32
    (extractStridedSlice S1024x32 ![0, 3328] (weights w) slices_S1024x5416_S1024x32_0_3328) shapeCasts_S1024x32_S1x1024x1x32)) shapeCasts_S1x1024x4x32_S1024x128

/-- The rotated columns of the queries' weights. -/
abbrev rotated64 (x : FVec Ideal S1024x512 .f32) : FVec Ideal S1024x512 .f32 :=
  shapeCast _ (Host.scatter scatter_S1024x8x64_S1_S1024x8x8_012_n_2_0 (fun _ b => b)
    (Host.scatter scatter_S1024x8x64_S1_S1024x8x8_012_n_2_0 (fun _ b => b)
      (broadcastInDim S1024x8x64 ![] bcast_S_S1024x8x64 (constant S_ .f32 0x00000000#32 : FVec Ideal S_ .f32)) (broadcastInDim S1 ![] bcast_S_S1 (constantI S_ 32 0#32))
      (Host.negf (extractStridedSlice S1024x8x8 ![0, 0, 8] (shapeCast _ x shapeCasts_S1024x512_S1024x8x64) slices_S1024x8x64_S1024x8x8_0_0_8 : FVec Ideal S1024x8x8 .f32)))
    (broadcastInDim S1 ![] bcast_S_S1 (constantI S_ 32 8#32))
    (extractStridedSlice S1024x8x8 ![0, 0, 0] (shapeCast _ x shapeCasts_S1024x512_S1024x8x64) slices_S1024x8x64_S1024x8x8_0_0_0)) shapeCasts_S1024x8x64_S1024x512

/-- The rotated columns of the indexer key's weights. -/
abbrev rotated32 (x : FVec Ideal S1024x128 .f32) : FVec Ideal S1024x128 .f32 :=
  shapeCast _ (Host.scatter scatter_S1024x4x32_S1_S1024x4x4_012_n_2_0 (fun _ b => b)
    (Host.scatter scatter_S1024x4x32_S1_S1024x4x4_012_n_2_0 (fun _ b => b)
      (broadcastInDim S1024x4x32 ![] bcast_S_S1024x4x32 (constant S_ .f32 0x00000000#32 : FVec Ideal S_ .f32)) (broadcastInDim S1 ![] bcast_S_S1 (constantI S_ 32 0#32))
      (Host.negf (extractStridedSlice S1024x4x4 ![0, 0, 4] (shapeCast _ x shapeCasts_S1024x128_S1024x4x32) slices_S1024x4x32_S1024x4x4_0_0_4 : FVec Ideal S1024x4x4 .f32)))
    (broadcastInDim S1 ![] bcast_S_S1 (constantI S_ 32 4#32))
    (extractStridedSlice S1024x4x4 ![0, 0, 0] (shapeCast _ x shapeCasts_S1024x128_S1024x4x32) slices_S1024x4x32_S1024x4x4_0_0_0)) shapeCasts_S1024x4x32_S1024x128

theorem plain : V m c main_v67 = (truncf .bf16 (concatenate S1024x1536 1 [⟨S1024x512, scaled (m ((c : Thread nD τ).loc main_arg1)) 0 slices_S1024x5416_S1024x512_0_0 0x3E38AA3B#32⟩,
    ⟨S1024x512, extractStridedSlice S1024x512 ![0, 1024] (weights (m ((c : Thread nD τ).loc main_arg1))) slices_S1024x5416_S1024x512_0_1024⟩,
    ⟨S1024x512, extractStridedSlice S1024x512 ![0, 2560] (weights (m ((c : Thread nD τ).loc main_arg1))) slices_S1024x5416_S1024x512_0_2560⟩]
    concatenates_S1024x512_S1024x512_S1024x512_S1024x1536_d1 : FVec Ideal S1024x1536 .f32) bitsLt_bf16_f32 : FVec Ideal S1024x1536 .bf16) := by
  unfold V hostOps0
  after_results
  rfl

theorem turning : V m c main_v90 = (truncf .bf16 (concatenate S1024x640 1 [⟨S1024x512, scaled (m ((c : Thread nD τ).loc main_arg1)) 1536 slices_S1024x5416_S1024x512_0_1536 0x3E000000#32⟩,
    ⟨S1024x128, keys (m ((c : Thread nD τ).loc main_arg1))⟩] concatenates_S1024x512_S1024x128_S1024x640_d1 : FVec Ideal S1024x640 .f32) bitsLt_bf16_f32 : FVec Ideal S1024x640 .bf16) := by
  unfold V hostOps0
  after_results
  rfl

theorem rotated : V m c main_v91 = (truncf .bf16 (concatenate S1024x640 1 [⟨S1024x512, rotated64 (scaled (m ((c : Thread nD τ).loc main_arg1)) 1536 slices_S1024x5416_S1024x512_0_1536 0x3E000000#32)⟩,
    ⟨S1024x128, rotated32 (keys (m ((c : Thread nD τ).loc main_arg1)))⟩] concatenates_S1024x512_S1024x128_S1024x640_d1 : FVec Ideal S1024x640 .f32) bitsLt_bf16_f32 : FVec Ideal S1024x640 .bf16) := by
  unfold V hostOps0
  after_results
  rfl

theorem gating : V m c main_v92 = (truncf .bf16 (extractStridedSlice S1024x2048 ![0, 3368] (weights (m ((c : Thread nD τ).loc main_arg1))) slices_S1024x5416_S1024x2048_0_3368
    : FVec Ideal S1024x2048 .f32) bitsLt_bf16_f32 : FVec Ideal S1024x2048 .bf16) := by
  unfold V hostOps0
  after_results
  rfl

/-! ### Read at an index -/

theorem weights_slice {N : ℕ} (w : FVec Ideal S1x1024x5416 .f32) (o : ℕ) (h : S1024x5416.Slices ![0, o] ⟨2, ![1024, N]⟩) (k : Fin 1024) (d : Fin N) :
    extractStridedSlice (⟨2, ![1024, N]⟩ : Shape) ![0, o] (weights w) h (ix2 k d) = column w k (o + d.val) := by
  have hb : o + d.val < 5416 := by have := h.2 1; have hd := d.isLt; have e : o + N ≤ 5416 := this; omega
  refine (extractStridedSlice_apply _ _ h _ (ix2 k (⟨o + d.val, hb⟩ : Fin 5416)) ?_).trans ((unstack_apply _ _ k _).trans ?_)
  · intro a
    fin_cases a
    · exact (Nat.zero_add _).symm
    · rfl
  · unfold column
    exact congrArg (fun j => w (ix3 (0 : Fin 1) k j)) (Fin.ext (Nat.mod_eq_of_lt hb).symm)

theorem scaled_apply (w : FVec Ideal S1x1024x5416 .f32) (o : ℕ) (h : S1024x5416.Slices ![0, o] S1024x512) (b : BitVec 32) (k : Fin 1024) (d : Fin 512) :
    scaled w o h b (ix2 k d) = column w k (o + d.val) * Ideal.ofBits .f32 b := by
  unfold scaled
  rw [mulf_apply, weights_slice]
  rfl

theorem keys_apply (w : FVec Ideal S1x1024x5416 .f32) (k : Fin 1024) (d : Fin 128) :
    keys w (ix2 k d) = column w k (3328 + d.val % 32) := by
  unfold keys
  rw [tile_apply (T := 1024) (N := 4) (D := 32) (L := 128) _ _ _ _ rfl (by decide) (by decide) k d]
  exact weights_slice w 3328 _ k _

theorem lanes64_apply (x : FVec Ideal S16896x8 .f32) (rest : BitVec 32) (t : Fin 16896) (l : Fin 128) :
    lanes64 x rest (ix2 t l) = lanes 8 (fun j => x (ix2 t (Fin.ofNat 8 j))) (Ideal.ofBits .f32 rest) (l.val % 64) := by
  unfold lanes64 lanes
  rw [tile_apply (T := 16896) (N := 2) (D := 64) (L := 128) _ _ _ _ rfl (by decide) (by decide) t l,
    three_apply₂ (T := 16896) (H := 8) (R := 48) (D := 64) _ _ _ _ t _ rfl]
  split_ifs with h1 h2
  · exact congrArg (fun j => x (ix2 t j)) (Fin.ext (Nat.mod_eq_of_lt h1).symm)
  · exact congrArg (fun j => x (ix2 t j)) (Fin.ext (Nat.mod_eq_of_lt (by show l.val % 64 - 8 < 8; have : l.val % 64 < 2 * 8 := h2; omega)).symm)
  · rfl

theorem lanes32_apply (x : FVec Ideal S16896x4 .f32) (rest : BitVec 32) (t : Fin 16896) (l : Fin 128) :
    lanes32 x rest (ix2 t l) = lanes 4 (fun j => x (ix2 t (Fin.ofNat 4 j))) (Ideal.ofBits .f32 rest) (l.val % 32) := by
  unfold lanes32 lanes
  rw [tile_apply (T := 16896) (N := 4) (D := 32) (L := 128) _ _ _ _ rfl (by decide) (by decide) t l,
    three_apply₂ (T := 16896) (H := 4) (R := 24) (D := 32) _ _ _ _ t _ rfl]
  split_ifs with h1 h2
  · exact congrArg (fun j => x (ix2 t j)) (Fin.ext (Nat.mod_eq_of_lt h1).symm)
  · exact congrArg (fun j => x (ix2 t j)) (Fin.ext (Nat.mod_eq_of_lt (by show l.val % 32 - 4 < 4; have : l.val % 32 < 2 * 4 := h2; omega)).symm)
  · rfl

/-- The weights of the results that are not rotated. -/
theorem plain_apply (k : Fin 1024) (d : Fin 512) (e : Fin 1536) :
    (e.val = d.val → V m c main_v67 (ix2 k e) = column (m ((c : Thread nD τ).loc main_arg1)) k (0 + d.val) * Ideal.ofBits .f32 0x3E38AA3B#32)
    ∧ (e.val = 512 + d.val → V m c main_v67 (ix2 k e) = column (m ((c : Thread nD τ).loc main_arg1)) k (1024 + d.val))
    ∧ (e.val = 1024 + d.val → V m c main_v67 (ix2 k e) = column (m ((c : Thread nD τ).loc main_arg1)) k (2560 + d.val)) := by
  have hd := d.isLt
  rw [plain, truncf_apply, three_apply₂ (T := 1024) (H := 512) (R := 512) (D := 1536) _ _ _ _ k e rfl]
  refine ⟨fun he => ?_, fun he => ?_, fun he => ?_⟩
  · rw [dif_pos (by omega), scaled_apply]
    exact congrArg (fun j => column _ k (0 + j) * _) he
  · rw [dif_neg (by omega), dif_pos (by omega), weights_slice]
    exact congrArg (fun j => column _ k (1024 + j)) (by show e.val - 512 = _; omega)
  · rw [dif_neg (by omega), dif_neg (by omega), weights_slice]
    exact congrArg (fun j => column _ k (2560 + j)) (by show e.val - 2 * 512 = _; omega)

/-- Two arrays of columns side by side, read on the left. -/
theorem beside_left {T A B D : ℕ} {α : Type} (p : (⟨2, ![T, A]⟩ : Shape).Idx → α) (q : (⟨2, ![T, B]⟩ : Shape).Idx → α) (h) (t : Fin T) (d : Fin A) (e : Fin D)
    (he : e.val = d.val) : concatenate ⟨2, ![T, D]⟩ 1 [⟨⟨2, ![T, A]⟩, p⟩, ⟨⟨2, ![T, B]⟩, q⟩] h (ix2 t e) = p (ix2 t d) :=
  concatenate_pair_apply_left 1 p q h (ix2 t e) rfl (ix2 t d) (by intro b; fin_cases b; exacts [rfl, he.symm])

/-- And on the right. -/
theorem beside_right {T A B D : ℕ} {α : Type} (p : (⟨2, ![T, A]⟩ : Shape).Idx → α) (q : (⟨2, ![T, B]⟩ : Shape).Idx → α) (h) (t : Fin T) (d : Fin B) (e : Fin D)
    (he : e.val = A + d.val) : concatenate ⟨2, ![T, D]⟩ 1 [⟨⟨2, ![T, A]⟩, p⟩, ⟨⟨2, ![T, B]⟩, q⟩] h (ix2 t e) = q (ix2 t d) :=
  concatenate_pair_apply_right 1 p q h (ix2 t e) rfl rfl (ix2 t d) (by
    intro b hb
    fin_cases b
    · rfl
    · exact absurd rfl hb) (by show d.val + A = e.val; omega)

theorem turning_left (k : Fin 1024) (d : Fin 512) (e : Fin 640) (he : e.val = d.val) :
    V m c main_v90 (ix2 k e) = column (m ((c : Thread nD τ).loc main_arg1)) k (1536 + d.val) * Ideal.ofBits .f32 0x3E000000#32 := by
  rw [turning, truncf_apply, beside_left _ _ _ k d e he, scaled_apply]

theorem turning_right (k : Fin 1024) (d : Fin 128) (e : Fin 640) (he : e.val = 512 + d.val) :
    V m c main_v90 (ix2 k e) = column (m ((c : Thread nD τ).loc main_arg1)) k (3328 + d.val % 32) := by
  rw [turning, truncf_apply, beside_right _ _ _ k d e he, keys_apply]

theorem rotated_left (k : Fin 1024) (d : Fin 512) (e : Fin 640) (he : e.val = d.val) :
    V m c main_v91 (ix2 k e)
      = half 8 (fun j => column (m ((c : Thread nD τ).loc main_arg1)) k (1536 + (64 * (d.val / 64) + j)) * Ideal.ofBits .f32 0x3E000000#32) (d.val % 64) := by
  have hd := d.isLt
  rw [rotated, truncf_apply, beside_left _ _ _ k d e he]
  exact rotate_apply (A := 1024) (N := 8) (D := 64) (L := 512) (H := 8) _ rfl rfl rfl _ _ _ _ (fun _ => Ideal.ofBits_zero_f32) _ _ rfl rfl _ _ rfl (by decide) k
    ⟨d.val / 64, by omega⟩ ⟨d.val % 64, by omega⟩ d (Nat.div_add_mod _ _).symm
    (fun j => column (m ((c : Thread nD τ).loc main_arg1)) k (1536 + j) * Ideal.ofBits .f32 0x3E000000#32) (fun x => scaled_apply _ _ _ _ k x)

theorem rotated_right (k : Fin 1024) (d : Fin 128) (e : Fin 640) (he : e.val = 512 + d.val) :
    V m c main_v91 (ix2 k e) = half 4 (fun j => column (m ((c : Thread nD τ).loc main_arg1)) k (3328 + (32 * (d.val / 32) + j) % 32)) (d.val % 32) := by
  have hd := d.isLt
  rw [rotated, truncf_apply, beside_right _ _ _ k d e he]
  exact rotate_apply (A := 1024) (N := 4) (D := 32) (L := 128) (H := 4) _ rfl rfl rfl _ _ _ _ (fun _ => Ideal.ofBits_zero_f32) _ _ rfl rfl _ _ rfl (by decide) k
    ⟨d.val / 32, by omega⟩ ⟨d.val % 32, by omega⟩ d (Nat.div_add_mod _ _).symm
    (fun j => column (m ((c : Thread nD τ).loc main_arg1)) k (3328 + j % 32)) (fun x => keys_apply _ k x)

theorem gating_apply (k : Fin 1024) (d : Fin 2048) : V m c main_v92 (ix2 k d) = column (m ((c : Thread nD τ).loc main_arg1)) k (3368 + d.val) := by
  rw [gating, truncf_apply, weights_slice]

theorem table_left (x : FVec Ideal S16896x8 .f32) (y : FVec Ideal S16896x4 .f32) (rest : BitVec 32) (t : Fin 16896) (l : Fin 128) (e : Fin 256) (he : e.val = l.val) :
    table x y rest (ix2 t e) = lanes 8 (fun j => x (ix2 t (Fin.ofNat 8 j))) (Ideal.ofBits .f32 rest) (l.val % 64) := by
  unfold table
  rw [beside_left _ _ _ t l e he, lanes64_apply]

theorem table_right (x : FVec Ideal S16896x8 .f32) (y : FVec Ideal S16896x4 .f32) (rest : BitVec 32) (t : Fin 16896) (l : Fin 128) (e : Fin 256) (he : e.val = 128 + l.val) :
    table x y rest (ix2 t e) = lanes 4 (fun j => y (ix2 t (Fin.ofNat 4 j))) (Ideal.ofBits .f32 rest) (l.val % 32) := by
  unfold table
  rw [beside_right _ _ _ t l e he, lanes32_apply]

open Cert.Reference4Ideal.Read (val_main_v40 val_main_v42 val_main_v73 val_main_v75)

theorem cosines_left (t : Fin 16896) (l : Fin 128) (e : Fin 256) (he : e.val = l.val) :
    V m c main_v64 (ix2 t e) = lanes 8 (fun j => val_main_v40 (F := Ideal) (ix2 t (Fin.ofNat 8 j))) 1 (l.val % 64) := by
  rw [cosines, table_left _ _ _ t l e he, Ideal.ofBits_one_f32]

theorem cosines_right (t : Fin 16896) (l : Fin 128) (e : Fin 256) (he : e.val = 128 + l.val) :
    V m c main_v64 (ix2 t e) = lanes 4 (fun j => val_main_v73 (F := Ideal) (ix2 t (Fin.ofNat 4 j))) 1 (l.val % 32) := by
  rw [cosines, table_right _ _ _ t l e he, Ideal.ofBits_one_f32]

theorem sines_left (t : Fin 16896) (l : Fin 128) (e : Fin 256) (he : e.val = l.val) :
    V m c main_v65 (ix2 t e) = lanes 8 (fun j => val_main_v42 (F := Ideal) (ix2 t (Fin.ofNat 8 j))) 0 (l.val % 64) := by
  rw [sines, table_left _ _ _ t l e he, Ideal.ofBits_zero_f32]

theorem sines_right (t : Fin 16896) (l : Fin 128) (e : Fin 256) (he : e.val = 128 + l.val) :
    V m c main_v65 (ix2 t e) = lanes 4 (fun j => val_main_v75 (F := Ideal) (ix2 t (Fin.ofNat 4 j))) 0 (l.val % 32) := by
  rw [sines, table_right _ _ _ t l e he, Ideal.ofBits_zero_f32]

end Cert.Kernel4Ideal.Layer

end
-- ==== Proof.Layer.ProjBody.lean ====
/-
  What one block of the row projections' call computes, read at an index.
-/
module

public import proofs.«01_k».proof.Defs
public import proofs.«01_k».proof.Proof.Layer.Norm
public import proofs.«01_k».proof.Proof.Layer.Lanes
public import proofs.«01_k».proof.Proof.Gen.Kernel4Ideal.Value
public import Idealize.ShloMosaic.Lib.Pipeline.ValueKit.Geometry

@[expose] public section

set_option maxRecDepth 16384

noncomputable section

namespace Cert.Kernel4Ideal.Layer

open Cert.Kernel4Ideal Cert.Kernel4Ideal.Gen Cert.Layer
open Idealize.ShloMosaic Idealize.ShloMosaic.TcCoe Idealize.SL.Sem
open Idealize.ShloMosaic.ValueIdx

/-- The norm of 256 rows against the columns of a matrix. -/
abbrev through {N : ℕ} (x0 : FVec Ideal S256x1024 .f32) (g : FVec Ideal S1x1024 .f32) (w : FVec Ideal ⟨2, ![1024, N]⟩ .bf16) : FVec Ideal ⟨2, ![256, N]⟩ .f32 :=
  matmul (DotDims.plain 256 1024 N) none (truncf .bf16 (normed x0 g) bitsLt_bf16_f32) w (constant ⟨2, ![256, N]⟩ .f32 0x00000000#32)

theorem through_apply {N : ℕ} (x0 : FVec Ideal S256x1024 .f32) (g : FVec Ideal S1x1024 .f32) (w : FVec Ideal ⟨2, ![1024, N]⟩ .bf16) (r : Fin 256) (d : Fin N) :
    through x0 g w (ix2 r d) = ∑ k : Fin 1024, rms (fun k => x0 (ix2 r k)) (fun k => g (ix2 (0 : Fin 1) k)) k * (w (ix2 k d) : EReal) := by
  unfold through
  rw [product_apply]
  simp only [truncf_apply, normed_apply]

theorem slices_at {N : ℕ} (o : ℕ) (ho : o + 512 ≤ N) (j : Fin 4) : (⟨2, ![256, N]⟩ : Shape).Slices ![0, o + 128 * j.val] S256x128 := ⟨rfl, fun a => by
  fin_cases a
  · exact Nat.le_refl 256
  · show o + 128 * j.val + 128 ≤ N
    have := j.isLt
    omega⟩

/-- A head pair's slab. -/
abbrev slab (y : FVec Ideal S256x128 .f32) : FVec Ideal S1x256x128 .bf16 := shapeCast S1x256x128 (truncf .bf16 y bitsLt_bf16_f32) shapeCasts_S256x128_S1x256x128

/-- The four head pairs' slabs, one over another. -/
abbrev slabs (A : Fin 4 → FVec Ideal S256x128 .f32) : Vec Ideal S4x256x128 .bf16 :=
  View.canon [⟨r0_6, slab (A 3)⟩, ⟨r0_5, slab (A 2)⟩, ⟨r0_4, slab (A 1)⟩, ⟨r0_3, slab (A 0)⟩]

theorem slabs_apply (A : Fin 4 → FVec Ideal S256x128 .f32) (j : Fin 4) (r : Fin 256) (l : Fin 128) : slabs A (ix3 j r l) = A j (ix2 r l) := by
  let G : S4x256x128.Idx → EReal := fun y => A (y 0) (ix2 (y 1) (y 2))
  have piece : ∀ (j : Fin 4) (o) (ho : o = (![j.val, 0, 0] : Fin 3 → ℕ)) (inb) (x : (Rect.unit (s := S4x256x128) o S1x256x128.size inb).shape.Idx),
      slab (A j) x = G ((Rect.unit (s := S4x256x128) o S1x256x128.size inb).emb x) := by
    rintro j _ rfl inb x
    have h0 : (x 0).val < 1 := (x 0).isLt
    have e : ((Rect.unit (s := S4x256x128) ![j.val, 0, 0] S1x256x128.size inb).emb x) = ix3 j (x 1) (x 2) := by
      refine funext fun a => Fin.ext ?_
      fin_cases a
      · show j.val + 1 * (x 0).val = j.val; omega
      · show 0 + 1 * (x 1).val = (x 1).val; omega
      · show 0 + 1 * (x 2).val = (x 2).val; omega
    rw [e]
    refine shapeCast_apply _ _ _ (ix2 (x 1) (x 2)) ?_
    rw [Shape.rowMajor_val_three, Shape.rowMajor_val_two]
    show (x 1).val * 128 + (x 2).val = ((x 0).val * 256 + (x 1).val) * 128 + (x 2).val
    omega
  have inside : ∀ (o) (ho : o = (![j.val, 0, 0] : Fin 3 → ℕ)) (inb), ix3 j r l ∈ (Rect.unit (s := S4x256x128) o S1x256x128.size inb).set := by
    rintro _ rfl inb
    have e : ix3 j r l = (Rect.unit (s := S4x256x128) ![j.val, 0, 0] S1x256x128.size inb).emb (ix3 (0 : Fin 1) r l) := by
      refine funext fun a => Fin.ext ?_
      fin_cases a
      · show j.val = j.val + 1 * 0; omega
      · show r.val = 0 + 1 * r.val; omega
      · show l.val = 0 + 1 * l.val; omega
    rw [e]; exact LoadRect.idx_mem _ _
  refine (View.canon_apply_of_pieces (Val := Elt Ideal) (e := .bf16) G _ ?_ (ix3 j r l) ?_).trans rfl
  · intro p hp
    rcases List.mem_cons.1 hp with rfl | hp
    · exact piece 3 ![3, 0, 0] rfl inb_S4x256x128_S1x256x128_3_0_0
    rcases List.mem_cons.1 hp with rfl | hp
    · exact piece 2 ![2, 0, 0] rfl inb_S4x256x128_S1x256x128_2_0_0
    rcases List.mem_cons.1 hp with rfl | hp
    · exact piece 1 ![1, 0, 0] rfl inb_S4x256x128_S1x256x128_1_0_0
    obtain rfl := List.mem_singleton.1 hp
    exact piece 0 ![0, 0, 0] rfl inb_S4x256x128_S1x256x128_0_0_0
  · fin_cases j
    · exact ⟨_, List.mem_cons_of_mem _ (List.mem_cons_of_mem _ (List.mem_cons_of_mem _ List.mem_cons_self)), inside ![0, 0, 0] rfl inb_S4x256x128_S1x256x128_0_0_0⟩
    · exact ⟨_, List.mem_cons_of_mem _ (List.mem_cons_of_mem _ List.mem_cons_self), inside ![1, 0, 0] rfl inb_S4x256x128_S1x256x128_1_0_0⟩
    · exact ⟨_, List.mem_cons_of_mem _ List.mem_cons_self, inside ![2, 0, 0] rfl inb_S4x256x128_S1x256x128_2_0_0⟩
    · exact ⟨_, List.mem_cons_self, inside ![3, 0, 0] rfl inb_S4x256x128_S1x256x128_3_0_0⟩

variable (x0 : FVec Ideal S256x1024 .f32) (x1 : FVec Ideal S1024x1536 .bf16) (x2 x3 : FVec Ideal S1024x640 .bf16) (x4 x5 : FVec Ideal S256x256 .f32)
  (x6 : FVec Ideal S1024x2048 .bf16) (x7 : FVec Ideal S1x2048 .f32) (x8 : FVec Ideal S1x1024 .f32)

theorem slabs_of (A : Fin 4 → FVec Ideal S256x128 .f32) {p0 p1 p2 p3 : FVec Ideal S1x256x128 .bf16} (h0 : p0 = slab (A 0)) (h1 : p1 = slab (A 1)) (h2 : p2 = slab (A 2))
    (h3 : p3 = slab (A 3)) : (View.canon [⟨r0_6, p3⟩, ⟨r0_5, p2⟩, ⟨r0_4, p1⟩, ⟨r0_3, p0⟩] : Vec Ideal S4x256x128 .bf16) = slabs A := by
  subst h0 h1 h2 h3
  rfl

theorem whole : (![0, 0] : Fin 2 → ℕ) = fun _ => 0 := by funext a; fin_cases a <;> rfl

theorem norm_eq (v0 : FVec Ideal S256x1024 .f32) (v1 : FVec Ideal S1x1024 .f32) : k0_pay1 (F := Ideal) v0 v1 = truncf .bf16 (normed v0 v1) bitsLt_bf16_f32 := by
  unfold k0_pay1
  rfl

theorem norm_at : k0_pay32 (F := Ideal) x0 x1 x2 x3 x4 x5 x6 x7 x8 = truncf .bf16 (normed x0 x8) bitsLt_bf16_f32 := by
  unfold k0_pay32
  iterate 2 rw [View.ld_unit_zero whole]
  rw [norm_eq]

theorem plain_of : k0_pay2 (F := Ideal) x0 x8 x1 = through x0 x8 x1 := by
  unfold k0_pay2
  rw [norm_eq]
  simp only [shapeCast_self]
  rfl

theorem plain_at : k0_pay33 (F := Ideal) x0 x1 x2 x3 x4 x5 x6 x7 x8 = through x0 x8 x1 := by
  unfold k0_pay33
  iterate 3 rw [View.ld_unit_zero whole]
  rw [plain_of]

theorem turning_of (w : FVec Ideal S1024x640 .bf16) : k0_pay17 (F := Ideal) (k0_pay32 x0 x1 x2 x3 x4 x5 x6 x7 x8) w = through x0 x8 w := by
  rw [norm_at]
  unfold k0_pay17
  simp only [shapeCast_self]
  rfl

theorem rotated_of (w : FVec Ideal S1024x640 .bf16) : k0_pay18 (F := Ideal) (k0_pay32 x0 x1 x2 x3 x4 x5 x6 x7 x8) w = through x0 x8 w := by
  rw [norm_at]
  unfold k0_pay18
  simp only [shapeCast_self]
  rfl

theorem turning_at : k0_pay34 (F := Ideal) x0 x1 x2 x3 x4 x5 x6 x7 x8 = through x0 x8 x2 := by
  unfold k0_pay34
  rw [View.ld_unit_zero whole, turning_of]

theorem rotated_at : k0_pay35 (F := Ideal) x0 x1 x2 x3 x4 x5 x6 x7 x8 = through x0 x8 x3 := by
  unfold k0_pay35
  rw [View.ld_unit_zero whole, rotated_of]

/-- The lanes `o` to `o + 128` of a block of cosines or sines. -/
abbrev lane (x : FVec Ideal S256x256 .f32) (o : ℕ) (h : S256x256.Slices ![0, o] S256x128) : FVec Ideal S256x128 .f32 := extractStridedSlice S256x128 ![0, o] x h

theorem cos_of : k0_pay21 (F := Ideal) x4 = lane x4 0 slices_S256x256_o0_0_S256x128 := by
  unfold k0_pay21 k0_pay19
  rw [shapeCast_self]

theorem sin_of : k0_pay22 (F := Ideal) x5 = lane x5 0 slices_S256x256_o0_0_S256x128 := by
  unfold k0_pay22 k0_pay20
  rw [shapeCast_self]

theorem cos_at : k0_pay36 (F := Ideal) x0 x1 x2 x3 x4 x5 x6 x7 x8 = lane x4 0 slices_S256x256_o0_0_S256x128 := by
  unfold k0_pay36
  rw [View.ld_unit_zero whole, cos_of]

theorem sin_at : k0_pay37 (F := Ideal) x0 x1 x2 x3 x4 x5 x6 x7 x8 = lane x5 0 slices_S256x256_o0_0_S256x128 := by
  unfold k0_pay37
  rw [View.ld_unit_zero whole, sin_of]

/-- 128 columns of the plain product, cut at a base. -/
abbrev cut (y : FVec Ideal S256x1536 .f32) (o : ℕ) (ho : o + 512 ≤ 1536) (j : Fin 4) : FVec Ideal S256x128 .f32 :=
  extractStridedSlice S256x128 ![0, o + 128 * j.val] y (slices_at o ho j)

theorem out9_apply (j : Fin 4) (r : Fin 256) (l : Fin 128) (d : Fin 1536) (hd : d.val = 0 + 128 * j.val + l.val) :
    out0_9 (F := Ideal) x0 x1 x2 x3 x4 x5 x6 x7 x8 (ix3 j r l) = through x0 x8 x1 (ix2 r d) := by
  unfold out0_9
  repeat rw [View.ld_unit_zero whole]
  rw [slabs_of (cut (through x0 x8 x1) 0 (by decide)) (by unfold k0_pay3; rw [plain_of]; rfl) (by unfold k0_pay4; rw [plain_of]; rfl)
    (by unfold k0_pay5; rw [plain_of]; rfl) (by unfold k0_pay7 k0_pay6; rw [plain_of]; rfl), slabs_apply]
  exact from_apply _ _ _ r l d hd

theorem out10_apply (j : Fin 4) (r : Fin 256) (l : Fin 128) (d : Fin 1536) (hd : d.val = 512 + 128 * j.val + l.val) :
    out0_10 (F := Ideal) x0 x1 x2 x3 x4 x5 x6 x7 x8 (ix3 j r l) = through x0 x8 x1 (ix2 r d) := by
  unfold out0_10
  rw [plain_at, slabs_of (cut (through x0 x8 x1) 512 (by decide)) (by unfold k0_pay8; rfl) (by unfold k0_pay9; rfl) (by unfold k0_pay10; rfl) (by unfold k0_pay11; rfl),
    slabs_apply]
  exact from_apply _ _ _ r l d hd

theorem out11_apply (j : Fin 4) (r : Fin 256) (l : Fin 128) (d : Fin 1536) (hd : d.val = 1024 + 128 * j.val + l.val) :
    out0_11 (F := Ideal) x0 x1 x2 x3 x4 x5 x6 x7 x8 (ix3 j r l) = through x0 x8 x1 (ix2 r d) := by
  unfold out0_11
  rw [plain_at, slabs_of (cut (through x0 x8 x1) 1024 (by decide)) (by unfold k0_pay12; rfl) (by unfold k0_pay13; rfl) (by unfold k0_pay15 k0_pay14; rfl) (by unfold k0_pay16; rfl),
    slabs_apply]
  exact from_apply _ _ _ r l d hd

/-- The rotated queries' 128 columns `o` to `o + 128`. -/
abbrev turn (y y' : FVec Ideal S256x640 .f32) (o : ℕ) (h : S256x640.Slices ![0, o] S256x128) (C S : FVec Ideal S256x128 .f32) : FVec Ideal S256x128 .f32 :=
  addf (mulf (extractStridedSlice S256x128 ![0, o] y h) C) (mulf (extractStridedSlice S256x128 ![0, o] y' h) S)

theorem turn_apply (y y' : FVec Ideal S256x640 .f32) (o : ℕ) (h) (x4 x5 : FVec Ideal S256x256 .f32) (o' : ℕ) (h') (r : Fin 256) (l : Fin 128) (d : Fin 640) (hd : d.val = o + l.val)
    (e : Fin 256) (he : e.val = o' + l.val) :
    turn y y' o h (lane x4 o' h') (lane x5 o' h') (ix2 r l) = y (ix2 r d) * (x4 (ix2 r e) : EReal) + y' (ix2 r d) * (x5 (ix2 r e) : EReal) :=
  congrArg₂ (· + ·) (congrArg₂ (· * ·) (from_apply y o h r l d hd) (from_apply x4 o' h' r l e he)) (congrArg₂ (· * ·) (from_apply y' o h r l d hd) (from_apply x5 o' h' r l e he))

theorem out12_apply (j : Fin 4) (r : Fin 256) (l : Fin 128) (d : Fin 640) (hd : d.val = 0 + 128 * j.val + l.val) (e : Fin 256) (he : e.val = 0 + l.val) :
    out0_12 (F := Ideal) x0 x1 x2 x3 x4 x5 x6 x7 x8 (ix3 j r l)
      = through x0 x8 x2 (ix2 r d) * (x4 (ix2 r e) : EReal) + through x0 x8 x3 (ix2 r d) * (x5 (ix2 r e) : EReal) := by
  unfold out0_12
  rw [turning_at, rotated_at, cos_at, sin_at]
  repeat rw [View.ld_unit_zero whole]
  rw [slabs_of (fun j => turn (through x0 x8 x2) (through x0 x8 x3) (0 + 128 * j.val) (slices_at 0 (by decide) j) (lane x4 0 slices_S256x256_o0_0_S256x128) (lane x5 0 slices_S256x256_o0_0_S256x128))
    (by unfold k0_pay25; rw [turning_of, rotated_of, cos_of, sin_of]; rfl) (by unfold k0_pay27 k0_pay26; rw [turning_of, rotated_of, cos_of, sin_of]; rfl)
    (by unfold k0_pay28; rfl) (by unfold k0_pay29; rfl), slabs_apply]
  exact turn_apply _ _ _ _ x4 x5 _ _ r l d hd e he

theorem out13_apply (r : Fin 256) (l : Fin 128) (d : Fin 640) (hd : d.val = 512 + l.val) (e : Fin 256) (he : e.val = 128 + l.val) :
    out0_13 (F := Ideal) x0 x1 x2 x3 x4 x5 x6 x7 x8 (ix2 r l)
      = through x0 x8 x2 (ix2 r d) * (x4 (ix2 r e) : EReal) + through x0 x8 x3 (ix2 r d) * (x5 (ix2 r e) : EReal) := by
  unfold out0_13
  rw [View.canon_unit_zero whole, turning_at, rotated_at]
  repeat rw [View.ld_unit_zero whole]
  unfold k0_pay30 k0_pay23 k0_pay24 k0_pay19 k0_pay20
  simp only [shapeCast_self]
  exact turn_apply _ _ _ _ x4 x5 _ _ r l d hd e he

theorem out14_apply (r : Fin 256) (d : Fin 2048) :
    out0_14 (F := Ideal) x0 x1 x2 x3 x4 x5 x6 x7 x8 (ix2 r d) = Ideal.logistic (through x0 x8 x6 (ix2 r d) + (x7 (ix2 (0 : Fin 1) d) : EReal)) := by
  unfold out0_14
  rw [View.canon_unit_zero whole, norm_at]
  repeat rw [View.ld_unit_zero whole]
  unfold k0_pay31
  simp only [shapeCast_self]
  show Ideal.logistic (_ + broadcastTo S256x2048 x7 _ (ix2 r d)) = _
  refine congrArg (fun b => Ideal.logistic (_ + b)) ?_
  exact broadcastTo_apply _ _ _ (ix2 (0 : Fin 1) d) (by intro a; fin_cases a <;> rfl)

end Cert.Kernel4Ideal.Layer

end
-- ==== Proof.Layer.Proj.lean ====
/-
  A block of the row projections' results, entry by entry, in terms of the arguments.
-/
module

public import proofs.«01_k».proof.Proof.Layer.ProjHost
public import proofs.«01_k».proof.Proof.Layer.ProjBody

@[expose] public section

set_option maxRecDepth 16384

noncomputable section

namespace Cert.Kernel4Ideal.Layer

open Cert.Kernel4Ideal Cert.Kernel4Ideal.Gen Cert.Layer
open Cert.Reference4Ideal.Layer (column entry cosQ sinQ cosK sinK)
open Idealize.ShloMosaic Idealize.ShloMosaic.TcCoe Idealize.SL.Sem
open Idealize.ShloMosaic.ValueIdx

/-! ### The constants -/

theorem scale_sb : ∃ s : ℝ, 0 ≤ s ∧ Ideal.ofBits .f32 0x3E38AA3B#32 = (s : EReal) := by
  refine ⟨_, ?_, by simp [Ideal.ofBits, Ideal.ieee, -EReal.coe_mul]; rfl⟩
  positivity

theorem scale_ds : ∃ s : ℝ, 0 ≤ s ∧ Ideal.ofBits .f32 0x3E000000#32 = (s : EReal) := by
  refine ⟨_, ?_, by simp [Ideal.ofBits, Ideal.ieee, -EReal.coe_mul]; rfl⟩
  positivity

/-! ### The blocks -/

variable (m : (ℓ : Loc nD τ sig) → Buf (Elt Ideal) ℓ) (c : Dev nD)

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![(grid0.coords t 0).val, 0] := by decide +kernel
theorem index5 : ∀ t : Fin grid0.N, win0_5.index t = ![(grid0.coords t 0).val, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, (grid0.coords t 0).val, 0] := by decide +kernel
theorem index10 : ∀ t : Fin grid0.N, win0_10.index t = ![0, (grid0.coords t 0).val, 0] := by decide +kernel
theorem index11 : ∀ t : Fin grid0.N, win0_11.index t = ![0, (grid0.coords t 0).val, 0] := by decide +kernel
theorem index12 : ∀ t : Fin grid0.N, win0_12.index t = ![0, (grid0.coords t 0).val, 0] := by decide +kernel
theorem index13 : ∀ t : Fin grid0.N, win0_13.index t = ![(grid0.coords t 0).val, 0] := by decide +kernel
theorem index14 : ∀ t : Fin grid0.N, win0_14.index t = ![(grid0.coords t 0).val, 0] := by decide +kernel

/-- The row of the whole that a block's row is. -/
abbrev rowAt (t : Fin cfg0.N) (r : Fin 256) : Fin 16896 := Fin.ofNat 16896 (256 * (grid0.coords t 0).val + r.val)

theorem rowAt_val (t : Fin cfg0.N) (r : Fin 256) : (rowAt t r).val = 256 * (grid0.coords t 0).val + r.val := by
  have hi : (grid0.coords t 0).val < 66 := (grid0.coords t 0).isLt
  exact Nat.mod_eq_of_lt (by omega)

theorem block0 (t : Fin cfg0.N) (r : Fin 256) (d : Fin 1024) : iblk m c 0 t (ix2 r d) = m ((c : Thread nD τ).loc main_arg0) (ix2 (rowAt t r) d) := by
  rw [← V_main_arg0 m c]
  refine congrArg (V m c main_arg0) (funext fun a => Fin.ext ?_)
  fin_cases a
  · refine Eq.trans ?_ (rowAt_val t r).symm; blk_simp [index0 t]; simp [ix2]; omega
  · blk_simp [index0 t]; try simp [ix2]

theorem block1 (t : Fin cfg0.N) : iblk m c 1 t = V m c main_v67 := by
  funext y
  refine congrArg (V m c main_v67) (funext fun a => Fin.ext ?_)
  fin_cases a <;> blk_simp [index1 t] <;> simp

theorem block2 (t : Fin cfg0.N) : iblk m c 2 t = V m c main_v90 := by
  funext y
  refine congrArg (V m c main_v90) (funext fun a => Fin.ext ?_)
  fin_cases a <;> blk_simp [index2 t] <;> simp

theorem block3 (t : Fin cfg0.N) : iblk m c 3 t = V m c main_v91 := by
  funext y
  refine congrArg (V m c main_v91) (funext fun a => Fin.ext ?_)
  fin_cases a <;> blk_simp [index3 t] <;> simp

theorem block4 (t : Fin cfg0.N) (r : Fin 256) (d : Fin 256) : iblk m c 4 t (ix2 r d) = V m c main_v64 (ix2 (rowAt t r) d) := by
  refine congrArg (V m c main_v64) (funext fun a => Fin.ext ?_)
  fin_cases a
  · refine Eq.trans ?_ (rowAt_val t r).symm; blk_simp [index4 t]; simp [ix2]; omega
  · blk_simp [index4 t]; try simp [ix2]

theorem block5 (t : Fin cfg0.N) (r : Fin 256) (d : Fin 256) : iblk m c 5 t (ix2 r d) = V m c main_v65 (ix2 (rowAt t r) d) := by
  refine congrArg (V m c main_v65) (funext fun a => Fin.ext ?_)
  fin_cases a
  · refine Eq.trans ?_ (rowAt_val t r).symm; blk_simp [index5 t]; simp [ix2]; omega
  · blk_simp [index5 t]; try simp [ix2]

theorem block6 (t : Fin cfg0.N) : iblk m c 6 t = V m c main_v92 := by
  funext y
  refine congrArg (V m c main_v92) (funext fun a => Fin.ext ?_)
  fin_cases a <;> blk_simp [index6 t] <;> simp

theorem block7 (t : Fin cfg0.N) : iblk m c 7 t = m ((c : Thread nD τ).loc main_arg2) := by
  rw [← V_main_arg2 m c]
  funext y
  refine congrArg (V m c main_arg2) (funext fun a => Fin.ext ?_)
  fin_cases a <;> blk_simp [index7 t] <;> simp

theorem block8 (t : Fin cfg0.N) : iblk m c 8 t = m ((c : Thread nD τ).loc main_arg3) := by
  rw [← V_main_arg3 m c]
  funext y
  refine congrArg (V m c main_arg3) (funext fun a => Fin.ext ?_)
  fin_cases a <;> blk_simp [index8 t] <;> simp

/-- The norm of a row. -/
abbrev normedRow (R : Fin 16896) (k : Fin 1024) : EReal :=
  rms (fun k => m ((c : Thread nD τ).loc main_arg0) (ix2 R k)) (fun k => m ((c : Thread nD τ).loc main_arg3) (ix2 (0 : Fin 1) k)) k

/-- The reference's product, of this call's arguments. -/
abbrev entryAt (R : Fin 16896) (j : ℕ) : EReal :=
  entry (m ((c : Thread nD τ).loc main_arg0)) (m ((c : Thread nD τ).loc main_arg3)) (m ((c : Thread nD τ).loc main_arg1)) R j

theorem through_at {N : ℕ} (t : Fin cfg0.N) (r : Fin 256) (w : FVec Ideal ⟨2, ![1024, N]⟩ .bf16) (d : Fin N) (v : Fin 1024 → EReal) (hv : ∀ k, w (ix2 k d) = v k) :
    through (iblk m c 0 t) (iblk m c 8 t) w (ix2 r d) = ∑ k : Fin 1024, normedRow m c (rowAt t r) k * v k := by
  rw [through_apply]
  simp only [block0, block8, hv]

/-! ### A block's entries -/

/-- The products' columns, and the rotated queries' and key's. -/
theorem q_sb_at (t : Fin cfg0.N) (j : Fin 4) (r : Fin 256) (l : Fin 128) :
    out0_9 (F := Ideal) (iblk m c 0 t) (iblk m c 1 t) (iblk m c 2 t) (iblk m c 3 t) (iblk m c 4 t) (iblk m c 5 t) (iblk m c 6 t) (iblk m c 7 t) (iblk m c 8 t) (ix3 j r l)
      = entryAt m c (rowAt t r) (0 + (128 * j.val + l.val)) * Ideal.ofBits .f32 0x3E38AA3B#32 := by
  have hj := j.isLt
  have hl := l.isLt
  obtain ⟨s, hs, e⟩ := scale_sb
  rw [out9_apply _ _ _ _ _ _ _ _ _ j r l ⟨128 * j.val + l.val, by omega⟩ (by show 128 * j.val + l.val = 0 + 128 * j.val + l.val; omega), block1,
    through_at m c t r _ _ _ fun k => (plain_apply m c k ⟨128 * j.val + l.val, by omega⟩ _).1 rfl, e]
  exact sum_scale _ _ s hs

theorem v_sb_at (t : Fin cfg0.N) (j : Fin 4) (r : Fin 256) (l : Fin 128) :
    out0_10 (F := Ideal) (iblk m c 0 t) (iblk m c 1 t) (iblk m c 2 t) (iblk m c 3 t) (iblk m c 4 t) (iblk m c 5 t) (iblk m c 6 t) (iblk m c 7 t) (iblk m c 8 t) (ix3 j r l)
      = entryAt m c (rowAt t r) (1024 + (128 * j.val + l.val)) := by
  have hj := j.isLt
  have hl := l.isLt
  rw [out10_apply _ _ _ _ _ _ _ _ _ j r l ⟨512 + (128 * j.val + l.val), by omega⟩ (by show 512 + (128 * j.val + l.val) = 512 + 128 * j.val + l.val; omega), block1,
    through_at m c t r _ _ _ fun k => (plain_apply m c k ⟨128 * j.val + l.val, by omega⟩ _).2.1 rfl]
  rfl

theorem v_ds_at (t : Fin cfg0.N) (j : Fin 4) (r : Fin 256) (l : Fin 128) :
    out0_11 (F := Ideal) (iblk m c 0 t) (iblk m c 1 t) (iblk m c 2 t) (iblk m c 3 t) (iblk m c 4 t) (iblk m c 5 t) (iblk m c 6 t) (iblk m c 7 t) (iblk m c 8 t) (ix3 j r l)
      = entryAt m c (rowAt t r) (2560 + (128 * j.val + l.val)) := by
  have hj := j.isLt
  have hl := l.isLt
  rw [out11_apply _ _ _ _ _ _ _ _ _ j r l ⟨1024 + (128 * j.val + l.val), by omega⟩ (by show 1024 + (128 * j.val + l.val) = 1024 + 128 * j.val + l.val; omega), block1,
    through_at m c t r _ _ _ fun k => (plain_apply m c k ⟨128 * j.val + l.val, by omega⟩ _).2.2 rfl]
  rfl

variable (hx : ∀ i, ∃ r : ℝ, m ((c : Thread nD τ).loc main_arg0) i = (r : EReal)) (hw : ∀ i, ∃ r : ℝ, m ((c : Thread nD τ).loc main_arg1) i = (r : EReal))
  (hg : ∀ i, ∃ r : ℝ, m ((c : Thread nD τ).loc main_arg3) i = (r : EReal))

include hx hg in
theorem normedRow_real (R : Fin 16896) (k : Fin 1024) : ∃ r : ℝ, normedRow m c R k = r := rms_real _ _ (fun k => hx _) (fun k => hg _) k

include hx hw hg in
theorem q_ds_at (t : Fin cfg0.N) (j : Fin 4) (r : Fin 256) (l : Fin 128) :
    out0_12 (F := Ideal) (iblk m c 0 t) (iblk m c 1 t) (iblk m c 2 t) (iblk m c 3 t) (iblk m c 4 t) (iblk m c 5 t) (iblk m c 6 t) (iblk m c 7 t) (iblk m c 8 t) (ix3 j r l)
      = turned 8 (cosQ (rowAt t r)) (sinQ (rowAt t r)) (fun e => entryAt m c (rowAt t r) (1536 + (64 * ((128 * j.val + l.val) / 64) + e))) ((128 * j.val + l.val) % 64)
        * Ideal.ofBits .f32 0x3E000000#32 := by
  have hj := j.isLt
  have hl := l.isLt
  obtain ⟨s, hs, e⟩ := scale_ds
  have hm : l.val % 64 = (128 * j.val + l.val) % 64 := by omega
  have hd : 1536 + (128 * j.val + l.val) = 1536 + (64 * ((128 * j.val + l.val) / 64) + (128 * j.val + l.val) % 64) := by rw [Nat.div_add_mod]
  rw [out12_apply _ _ _ _ _ _ _ _ _ j r l ⟨128 * j.val + l.val, by omega⟩ (by show 128 * j.val + l.val = 0 + 128 * j.val + l.val; omega) ⟨l.val, by omega⟩ (Nat.zero_add _).symm,
    block2, block3, block4, block5, through_at m c t r _ _ _ fun k => turning_left m c k ⟨128 * j.val + l.val, by omega⟩ _ rfl,
    through_at m c t r _ _ _ fun k => rotated_left m c k ⟨128 * j.val + l.val, by omega⟩ _ rfl, cosines_left m c _ l _ rfl, sines_left m c _ l _ rfl, e,
    sum_half 8 _ _ (normedRow_real m c hx hg _) (fun k i => by obtain ⟨w, hw⟩ := hw (ix3 (0 : Fin 1) k (Fin.ofNat 5416 (1536 + (64 * ((128 * j.val + l.val) / 64) + i)))); exact ⟨w * s, by
      show column _ k _ * _ = _
      unfold column; rw [hw, EReal.coe_mul]⟩), ← turned_scale _ _ _ _ s hs, hm, hd]
  have y : (fun i => ∑ k, normedRow m c (rowAt t r) k * (column (m ((c : Thread nD τ).loc main_arg1)) k (1536 + (64 * ((128 * j.val + l.val) / 64) + i)) * (s : EReal)))
      = fun i => entryAt m c (rowAt t r) (1536 + (64 * ((128 * j.val + l.val) / 64) + i)) * (s : EReal) := funext fun i => sum_scale _ _ s hs
  rw [← y]
  exact turned_eq 8 (cosQ (rowAt t r)) (sinQ (rowAt t r))
    (fun i => ∑ k, normedRow m c (rowAt t r) k * (column (m ((c : Thread nD τ).loc main_arg1)) k (1536 + (64 * ((128 * j.val + l.val) / 64) + i)) * (s : EReal))) ((128 * j.val + l.val) % 64)

include hx hw hg in
theorem k_at (t : Fin cfg0.N) (r : Fin 256) (l : Fin 128) :
    out0_13 (F := Ideal) (iblk m c 0 t) (iblk m c 1 t) (iblk m c 2 t) (iblk m c 3 t) (iblk m c 4 t) (iblk m c 5 t) (iblk m c 6 t) (iblk m c 7 t) (iblk m c 8 t) (ix2 r l)
      = turned 4 (cosK (rowAt t r)) (sinK (rowAt t r)) (fun e => entryAt m c (rowAt t r) (3328 + e)) (l.val % 32) := by
  have hl := l.isLt
  have hd : 3328 + l.val % 32 = 3328 + (32 * (l.val / 32) + l.val % 32) % 32 := by rw [Nat.div_add_mod]
  rw [out13_apply _ _ _ _ _ _ _ _ _ r l ⟨512 + l.val, by omega⟩ rfl ⟨128 + l.val, by omega⟩ rfl,
    block2, block3, block4, block5, through_at m c t r _ _ _ fun k => turning_right m c k l _ rfl,
    through_at m c t r _ _ _ fun k => rotated_right m c k l _ rfl, cosines_right m c _ l _ rfl, sines_right m c _ l _ rfl,
    sum_half 4 _ (fun k i => column (m ((c : Thread nD τ).loc main_arg1)) k (3328 + (32 * (l.val / 32) + i) % 32)) (normedRow_real m c hx hg _) (fun k i => hw _), hd]
  refine (turned_eq 4 (cosK (rowAt t r)) (sinK (rowAt t r)) (fun i => ∑ k, normedRow m c (rowAt t r) k * column (m ((c : Thread nD τ).loc main_arg1)) k (3328 + (32 * (l.val / 32) + i) % 32)) (l.val % 32)).trans ?_
  refine turned_congr 4 _ _ _ _ 32 (by decide) (fun i hi => ?_) _ (Nat.mod_lt _ (by decide))
  show (∑ k, normedRow m c (rowAt t r) k * column (m ((c : Thread nD τ).loc main_arg1)) k (3328 + (32 * (l.val / 32) + i) % 32)) = _
  rw [Nat.mul_add_mod, Nat.mod_eq_of_lt hi]
  rfl

theorem gates_at (t : Fin cfg0.N) (r : Fin 256) (d : Fin 2048) :
    out0_14 (F := Ideal) (iblk m c 0 t) (iblk m c 1 t) (iblk m c 2 t) (iblk m c 3 t) (iblk m c 4 t) (iblk m c 5 t) (iblk m c 6 t) (iblk m c 7 t) (iblk m c 8 t) (ix2 r d)
      = Ideal.logistic (entryAt m c (rowAt t r) (3368 + d.val) + (m ((c : Thread nD τ).loc main_arg2) (ix2 (0 : Fin 1) d) : EReal)) := by
  rw [out14_apply, block6, block7, through_at m c t r _ _ _ fun k => gating_apply m c k d]
  rfl

end Cert.Kernel4Ideal.Layer

end
-- ==== Proof.Layer.ProjResult.lean ====
/-
  The row projections' call computes the reference's results.
-/
module

public import proofs.«01_k».proof.Proof.SB.Value
public import proofs.«01_k».proof.Proof.Layer.Proj
public import proofs.«01_k».proof.Proof.Gen.Reference4Ideal.Run

@[expose] public section

set_option maxRecDepth 16384

noncomputable section

namespace Cert.Kernel4Ideal.Layer

open Cert.Kernel4Ideal Cert.Kernel4Ideal.Gen Cert.Layer
open Idealize.ShloMosaic Idealize.ShloMosaic.TcCoe Idealize.SL.Sem
open Idealize.ShloMosaic.ValueIdx

variable (m : (ℓ : Loc nD τ sig) → Buf (Elt Ideal) ℓ) (c : Dev nD)
  (hx : ∀ i, ∃ r : ℝ, m ((c : Thread nD τ).loc main_arg0) i = (r : EReal)) (hw : ∀ i, ∃ r : ℝ, m ((c : Thread nD τ).loc main_arg1) i = (r : EReal))
  (hg : ∀ i, ∃ r : ℝ, m ((c : Thread nD τ).loc main_arg3) i = (r : EReal))

/-! ### The results -/

/-- An index of a block of rows, by its coordinates. -/
theorem rowsIx {A B : ℕ} (y : (⟨2, ![A, B]⟩ : Shape).Idx) : y = ix2 (y 0) (y 1) := Shape.idx_ext₂ rfl rfl

/-- An index of a block of slabs, by its coordinates. -/
theorem slabIx (y : S4x256x128.Idx) : y = ix3 (y 0) (y 1) (y 2) := funext fun a => by fin_cases a <;> rfl

theorem q_sb_eq : (dats m 0 c).arrAt 9 cfg0.N = Cert.Reference4Ideal.Read.val_main_v92 (F := Ideal)
    (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  rw [after0_9]
  have er : ((win0_9.blk t).view.emb y) = ix3 (y 0) (rowAt t (y 1)) (y 2) := by
    refine funext fun a => Fin.ext ?_
    fin_cases a
    · blk_simp [index9 t]; simp [ix3]
    · refine Eq.trans ?_ (rowAt_val t _).symm; blk_simp [index9 t]; simp; omega
    · blk_simp [index9 t]; simp [ix3]
  exact (congrArg (out0_9 (F := Ideal) _ _ _ _ _ _ _ _ _) (slabIx y)).trans ((q_sb_at m c t (y 0) (y 1) (y 2)).trans
    ((Cert.Reference4Ideal.Layer.q_sb_apply _ _ _ (y 0) (rowAt t (y 1)) (y 2)).symm.trans (congrArg (Cert.Reference4Ideal.Read.val_main_v92 (F := Ideal) _ _ _) er.symm)))

theorem v_sb_eq : (dats m 0 c).arrAt 10 cfg0.N = Cert.Reference4Ideal.Read.val_main_v95 (F := Ideal)
    (m ((c : Thread nD τ).loc main_arg0)) (m ((c : Thread nD τ).loc main_arg1)) (m ((c : Thread nD τ).loc main_arg3)) := by
  refine (dats m 0 c).arrAt_eq_of_covers 10 _ (by decide +kernel) fun t hf y => ?_
  blk_simp
  rw [after0_10]
  have er : ((win0_10.blk t).view.emb y) = ix3 (y 0) (rowAt t (y 1)) (y 2) := by
    refine funext fun a => Fin.ext ?_
    fin_cases a
    · blk_simp [index10 t]; simp [ix3]
    · refine Eq.trans ?_ (rowAt_val t _).symm; blk_simp [index10 t]; simp; omega
    · blk_simp [index10 t]; simp [ix3]
  exact (congrArg (out0_10 (F := Ideal) _ _ _ _ _ _ _ _ _) (slabIx y)).trans ((v_sb_at m c t (y 0) (y 1) (y 2)).trans
    ((Cert.Reference4Ideal.Layer.v_sb_apply _ _ _ (y 0) (rowAt t (y 1)) (y 2)).symm.trans (congrArg (Cert.Reference4Ideal.Read.val_main_v95 (F := Ideal) _ _ _) er.symm)))

theorem v_ds_eq : (dats m 0 c).arrAt 11 cfg0.N = Cert.Reference4Ideal.Read.val_main_v98 (F := Ideal)
    (m ((c : Thread nD τ).loc main_arg0)) (m ((c : Thread nD τ).loc main_arg1)) (m ((c : Thread nD τ).loc main_arg3)) := by
  refine (dats m 0 c).arrAt_eq_of_covers 11 _ (by decide +kernel) fun t hf y => ?_
  blk_simp
  rw [after0_11]
  have er : ((win0_11.blk t).view.emb y) = ix3 (y 0) (rowAt t (y 1)) (y 2) := by
    refine funext fun a => Fin.ext ?_
    fin_cases a
    · blk_simp [index11 t]; simp [ix3]
    · refine Eq.trans ?_ (rowAt_val t _).symm; blk_simp [index11 t]; simp; omega
    · blk_simp [index11 t]; simp [ix3]
  exact (congrArg (out0_11 (F := Ideal) _ _ _ _ _ _ _ _ _) (slabIx y)).trans ((v_ds_at m c t (y 0) (y 1) (y 2)).trans
    ((Cert.Reference4Ideal.Layer.v_ds_apply _ _ _ (y 0) (rowAt t (y 1)) (y 2)).symm.trans (congrArg (Cert.Reference4Ideal.Read.val_main_v98 (F := Ideal) _ _ _) er.symm)))

include hx hw hg in
theorem q_ds_eq : (dats m 0 c).arrAt 12 cfg0.N = Cert.Reference4Ideal.Read.val_main_v101 (F := Ideal)
    (m ((c : Thread nD τ).loc main_arg0)) (m ((c : Thread nD τ).loc main_arg1)) (m ((c : Thread nD τ).loc main_arg3)) := by
  refine (dats m 0 c).arrAt_eq_of_covers 12 _ (by decide +kernel) fun t hf y => ?_
  blk_simp
  rw [after0_12]
  have er : ((win0_12.blk t).view.emb y) = ix3 (y 0) (rowAt t (y 1)) (y 2) := by
    refine funext fun a => Fin.ext ?_
    fin_cases a
    · blk_simp [index12 t]; simp [ix3]
    · refine Eq.trans ?_ (rowAt_val t _).symm; blk_simp [index12 t]; simp; omega
    · blk_simp [index12 t]; simp [ix3]
  exact (congrArg (out0_12 (F := Ideal) _ _ _ _ _ _ _ _ _) (slabIx y)).trans ((q_ds_at m c hx hw hg t (y 0) (y 1) (y 2)).trans
    ((Cert.Reference4Ideal.Layer.q_ds_apply _ _ _ (y 0) (rowAt t (y 1)) (y 2)).symm.trans (congrArg (Cert.Reference4Ideal.Read.val_main_v101 (F := Ideal) _ _ _) er.symm)))

include hx hw hg in
theorem k_eq : (dats m 0 c).arrAt 13 cfg0.N = Cert.Reference4Ideal.Read.val_main_v103 (F := Ideal)
    (m ((c : Thread nD τ).loc main_arg0)) (m ((c : Thread nD τ).loc main_arg1)) (m ((c : Thread nD τ).loc main_arg3)) := by
  refine (dats m 0 c).arrAt_eq_of_covers 13 _ (by decide +kernel) fun t hf y => ?_
  blk_simp
  rw [after0_13]
  have er : ((win0_13.blk t).view.emb y) = ix2 (rowAt t (y 0)) (y 1) := by
    refine funext fun a => Fin.ext ?_
    fin_cases a
    · refine Eq.trans ?_ (rowAt_val t _).symm; blk_simp [index13 t]; simp; omega
    · blk_simp [index13 t]; simp [ix2]
  exact (congrArg (out0_13 (F := Ideal) _ _ _ _ _ _ _ _ _) (rowsIx (A := 256) (B := 128) y)).trans ((k_at m c hx hw hg t (y 0) (y 1)).trans
    ((Cert.Reference4Ideal.Layer.k_apply _ _ _ (rowAt t (y 0)) (y 1)).symm.trans (congrArg (Cert.Reference4Ideal.Read.val_main_v103 (F := Ideal) _ _ _) er.symm)))

theorem gates_eq : (dats m 0 c).arrAt 14 cfg0.N = Cert.Reference4Ideal.Read.val_main_v114 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  rw [after0_14]
  have er : ((win0_14.blk t).view.emb y) = ix2 (rowAt t (y 0)) (y 1) := by
    refine funext fun a => Fin.ext ?_
    fin_cases a
    · refine Eq.trans ?_ (rowAt_val t _).symm; blk_simp [index14 t]; simp; omega
    · blk_simp [index14 t]; simp [ix2]
  exact (congrArg (out0_14 (F := Ideal) _ _ _ _ _ _ _ _ _) (rowsIx (A := 256) (B := 2048) y)).trans ((gates_at m c t (y 0) (y 1)).trans
    ((Cert.Reference4Ideal.Layer.gates_apply _ _ _ _ (rowAt t (y 0)) (y 1)).symm.trans (congrArg (Cert.Reference4Ideal.Read.val_main_v114 (F := Ideal) _ _ _ _) er.symm)))

/-! ### The claim -/

theorem real_of_pre [Cert.Pre_finite_inputs.Facts] (x0 : FVec Ideal S16896x1024 .f32) (x1 : FVec Ideal S1x1024x5416 .f32) (x2 : FVec Ideal S1x2048 .f32)
    (x3 : FVec Ideal S1x1024 .f32) (h : Cert.Pre_finite_inputs.fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have e := congrFun h (fun a => a.elim0)
  obtain ⟨e01, e3⟩ := IntOp.andi_eq_one.1 e
  obtain ⟨e0, e1⟩ := IntOp.andi_eq_one.1 e01
  haveI : Subsingleton Cert.Pre_finite_inputs.S_.Idx := ⟨fun a b => funext fun k => k.elim0⟩
  exact ⟨fun i => ⟨_, Cert.KernelIdeal.SB.real_of_lt _ (Host.reduce_andi_all _ _ _ _ _ e0 i)⟩,
    fun i => ⟨_, Cert.KernelIdeal.SB.real_of_lt _ (Host.reduce_andi_all _ _ _ _ _ e1 i)⟩,
    fun i => ⟨_, Cert.KernelIdeal.SB.real_of_lt _ (Host.reduce_andi_all _ _ _ _ _ e3 i)⟩⟩

set_option maxHeartbeats 2000000 in
theorem algebraic [Cert.Pre_finite_inputs.Facts] : Cert.algebraic_Kernel4Ideal_Reference4Ideal_pre_finite_inputs (hKernel4Ideal := Cert.Kernel4Ideal.Gen.facts)
    (hReference4Ideal := Cert.Reference4Ideal.Gen.facts) := fun m g m' g' hpre hargs =>
  ⟨fun c => (dats m 0 c).arrAt 9 cfg0.N, fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, Value.run_blocks m g, (θ_run _ _ _).mono (fun _ h c => by
      obtain ⟨h0, h1, h2, h3⟩ := hargs c
      obtain ⟨hx, hw, hg⟩ := real_of_pre _ _ _ _ (hpre c)
      obtain ⟨r0, r1, r2, r3, r4, r5, kept⟩ := h c
      refine ⟨r0.trans ?_, r1.trans ?_, r2.trans ?_, r3.trans ?_, r4.trans ?_, r5.trans ?_, kept⟩
      · rw [Cert.Reference4Ideal.Read.val_main_v92_eq, h0, h1, h3]; exact (q_sb_eq m c).symm
      · rw [Cert.Reference4Ideal.Read.val_main_v95_eq, h0, h1, h3]; exact (v_sb_eq m c).symm
      · rw [Cert.Reference4Ideal.Read.val_main_v98_eq, h0, h1, h3]; exact (v_ds_eq m c).symm
      · rw [Cert.Reference4Ideal.Read.val_main_v101_eq, h0, h1, h3]; exact (q_ds_eq m c hx hw hg).symm
      · rw [Cert.Reference4Ideal.Read.val_main_v103_eq, h0, h1, h3]; exact (k_eq m c hx hw hg).symm
      · rw [Cert.Reference4Ideal.Read.val_main_v114_eq, h0, h1, h2, h3]; exact (gates_eq m c).symm)
    (Cert.Reference4Ideal.Value.run m' g')⟩

end Cert.Kernel4Ideal.Layer

end
-- ==== Proof.Layer.ColsHost.lean ====
/-
  The arrays the host prepares for the column projections' call: their weights, rotated, padded and transposed, and the rotation's tables transposed.
-/
module

public import proofs.«01_k».proof.Proof.Layer.ProjHost
public import proofs.«01_k».proof.Proof.Gen.Kernel5Ideal.Value

@[expose] public section

set_option maxRecDepth 16384

noncomputable section

namespace Cert.Kernel5Ideal.Layer

open Cert.Kernel5Ideal Cert.Kernel5Ideal.Gen Cert.Layer
open Cert.Reference4Ideal.Layer (column cosQ sinQ cosK sinK)
open Cert.Kernel4Ideal.Layer (weights weights_slice table table_left table_right rotated64 beside_left beside_right)
open Cert.Reference4Ideal.Read (val_main_v40 val_main_v42 val_main_v73 val_main_v75)
open Idealize.ShloMosaic Idealize.ShloMosaic.TcCoe Idealize.SL.Sem
open Idealize.ShloMosaic.ValueIdx

variable (m : (ℓ : Loc nD τ sig) → Buf (Elt Ideal) ℓ) (c : Dev nD) (w : FVec Ideal S1x1024x5416 .f32)

/-- The DSA keys' columns and the indexer queries'. -/
abbrev keysCols : FVec Ideal S1024x512 .f32 := extractStridedSlice S1024x512 ![0, 2048] (weights w) slices_S1024x5416_S1024x512_0_2048
abbrev queriesCols : FVec Ideal S1024x256 .f32 := extractStridedSlice S1024x256 ![0, 3072] (weights w) slices_S1024x5416_S1024x256_0_3072

/-- The rotated columns of the indexer queries' weights. -/
abbrev rotated32 (x : FVec Ideal S1024x256 .f32) : FVec Ideal S1024x256 .f32 :=
  shapeCast _ (Host.scatter scatter_S1024x8x32_S1_S1024x8x4_012_n_2_0 (fun _ b => b)
    (Host.scatter scatter_S1024x8x32_S1_S1024x8x4_012_n_2_0 (fun _ b => b)
      (broadcastInDim S1024x8x32 ![] bcast_S_S1024x8x32 (constant S_ .f32 0x00000000#32 : FVec Ideal S_ .f32)) (broadcastInDim S1 ![] bcast_S_S1 (constantI S_ 32 0#32))
      (Host.negf (extractStridedSlice S1024x8x4 ![0, 0, 4] (shapeCast _ x shapeCasts_S1024x256_S1024x8x32) slices_S1024x8x32_S1024x8x4_0_0_4 : FVec Ideal S1024x8x4 .f32)))
    (broadcastInDim S1 ![] bcast_S_S1 (constantI S_ 32 4#32))
    (extractStridedSlice S1024x8x4 ![0, 0, 0] (shapeCast _ x shapeCasts_S1024x256_S1024x8x32) slices_S1024x8x32_S1024x8x4_0_0_0)) shapeCasts_S1024x8x32_S1024x256

/-- The indexer's weights, scaled. -/
abbrev indexer : FVec Ideal S1024x8 .f32 :=
  mulf (extractStridedSlice S1024x8 ![0, 3360] (weights w) slices_S1024x5416_S1024x8_0_3360)
    (broadcastInDim S1024x8 ![] bcast_S_S1024x8 (constant S_ .f32 0x3D800000#32 : FVec Ideal S_ .f32))

theorem plain : V m c main_v61 = (truncf .bf16 (transpose S512x1024 [1, 0] (extractStridedSlice S1024x512 ![0, 512] (weights (m ((c : Thread nD τ).loc main_arg1)))
    slices_S1024x5416_S1024x512_0_512) transposes_S1024x512_S512x1024_1_0 : FVec Ideal S512x1024 .f32) bitsLt_bf16_f32 : FVec Ideal S512x1024 .bf16) := by
  unfold V hostOps0 hostOps0_1 hostOps0_2
  simp only [List.flatten_cons, List.flatten_nil, List.cons_append, List.nil_append, List.append_nil]
  after_results
  rfl

theorem turning : V m c main_v85 = (truncf .bf16 (transpose S768x1024 [1, 0] (concatenate S1024x768 1 [⟨S1024x512, keysCols (m ((c : Thread nD τ).loc main_arg1))⟩,
    ⟨S1024x256, queriesCols (m ((c : Thread nD τ).loc main_arg1))⟩] concatenates_S1024x512_S1024x256_S1024x768_d1) transposes_S1024x768_S768x1024_1_0 : FVec Ideal S768x1024 .f32)
    bitsLt_bf16_f32 : FVec Ideal S768x1024 .bf16) := by
  unfold V hostOps0 hostOps0_1 hostOps0_2
  simp only [List.flatten_cons, List.flatten_nil, List.cons_append, List.nil_append, List.append_nil]
  after_results
  rfl

theorem rotated : V m c main_v87 = (truncf .bf16 (transpose S768x1024 [1, 0] (concatenate S1024x768 1 [⟨S1024x512, rotated64 (keysCols (m ((c : Thread nD τ).loc main_arg1)))⟩,
    ⟨S1024x256, rotated32 (queriesCols (m ((c : Thread nD τ).loc main_arg1)))⟩] concatenates_S1024x512_S1024x256_S1024x768_d1) transposes_S1024x768_S768x1024_1_0
    : FVec Ideal S768x1024 .f32) bitsLt_bf16_f32 : FVec Ideal S768x1024 .bf16) := by
  unfold V hostOps0 hostOps0_1 hostOps0_2
  simp only [List.flatten_cons, List.flatten_nil, List.cons_append, List.nil_append, List.append_nil]
  after_results
  rfl

theorem cosines : V m c main_v88 = transpose S256x16896 [1, 0] (table (val_main_v40 (F := Ideal)) (val_main_v73 (F := Ideal)) 0x3F800000#32)
    transposes_S16896x256_S256x16896_1_0 := by
  unfold V hostOps0 hostOps0_1 hostOps0_2
  simp only [List.flatten_cons, List.flatten_nil, List.cons_append, List.nil_append, List.append_nil]
  after_results
  rfl

theorem sines : V m c main_v89 = transpose S256x16896 [1, 0] (table (val_main_v42 (F := Ideal)) (val_main_v75 (F := Ideal)) 0x00000000#32)
    transposes_S16896x256_S256x16896_1_0 := by
  unfold V hostOps0 hostOps0_1 hostOps0_2
  simp only [List.flatten_cons, List.flatten_nil, List.cons_append, List.nil_append, List.append_nil]
  after_results
  rfl

theorem padded : V m c main_v91 = (truncf .bf16 (transpose S128x1024 [1, 0] (pad S1024x128 ![0, 0] ![0, 120] ![0, 0] (indexer (m ((c : Thread nD τ).loc main_arg1)))
    (sitofp .f32 (constantI S_ 32 0#32) : FVec Ideal S_ .f32) pads_S1024x8_S1024x128_000_01200 h_S_) transposes_S1024x128_S128x1024_1_0 : FVec Ideal S128x1024 .f32)
    bitsLt_bf16_f32 : FVec Ideal S128x1024 .bf16) := by
  unfold V hostOps0 hostOps0_1 hostOps0_2
  simp only [List.flatten_cons, List.flatten_nil, List.cons_append, List.nil_append, List.append_nil]
  after_results
  rfl

/-! ### Read at an index -/

theorem turn_apply {A B : ℕ} {α : Type} (x : (⟨2, ![A, B]⟩ : Shape).Idx → α) (h : (⟨2, ![A, B]⟩ : Shape).Transposes [1, 0] ⟨2, ![B, A]⟩) (a : Fin A) (b : Fin B) :
    transpose ⟨2, ![B, A]⟩ [1, 0] x h (ix2 b a) = x (ix2 a b) := transpose_apply [1, 0] x h (ix2 b a) (ix2 a b) (by intro k; fin_cases k <;> rfl)

theorem plain_apply (k : Fin 1024) (d : Fin 512) : V m c main_v61 (ix2 d k) = column (m ((c : Thread nD τ).loc main_arg1)) k (512 + d.val) := by
  rw [plain, truncf_apply, turn_apply, weights_slice]

theorem turning_left (k : Fin 1024) (d : Fin 512) (e : Fin 768) (he : e.val = d.val) :
    V m c main_v85 (ix2 e k) = column (m ((c : Thread nD τ).loc main_arg1)) k (2048 + d.val) := by
  rw [turning, truncf_apply, turn_apply, beside_left _ _ _ k d e he]
  exact weights_slice _ _ _ k d

theorem turning_right (k : Fin 1024) (d : Fin 256) (e : Fin 768) (he : e.val = 512 + d.val) :
    V m c main_v85 (ix2 e k) = column (m ((c : Thread nD τ).loc main_arg1)) k (3072 + d.val) := by
  rw [turning, truncf_apply, turn_apply, beside_right _ _ _ k d e he]
  exact weights_slice _ _ _ k d

theorem rotated_left (k : Fin 1024) (d : Fin 512) (e : Fin 768) (he : e.val = d.val) :
    V m c main_v87 (ix2 e k) = half 8 (fun j => column (m ((c : Thread nD τ).loc main_arg1)) k (2048 + (64 * (d.val / 64) + j))) (d.val % 64) := by
  have hd := d.isLt
  rw [rotated, truncf_apply, turn_apply, beside_left _ _ _ k d e he]
  exact rotate_apply (A := 1024) (N := 8) (D := 64) (L := 512) (H := 8) _ rfl rfl rfl _ _ _ _ (fun _ => Ideal.ofBits_zero_f32) _ _ rfl rfl _ _ rfl (by decide) k
    ⟨d.val / 64, by omega⟩ ⟨d.val % 64, by omega⟩ d (Nat.div_add_mod _ _).symm
    (fun j => column (m ((c : Thread nD τ).loc main_arg1)) k (2048 + j)) (fun x => weights_slice _ _ _ k x)

theorem rotated_right (k : Fin 1024) (d : Fin 256) (e : Fin 768) (he : e.val = 512 + d.val) :
    V m c main_v87 (ix2 e k) = half 4 (fun j => column (m ((c : Thread nD τ).loc main_arg1)) k (3072 + (32 * (d.val / 32) + j))) (d.val % 32) := by
  have hd := d.isLt
  rw [rotated, truncf_apply, turn_apply, beside_right _ _ _ k d e he]
  exact rotate_apply (A := 1024) (N := 8) (D := 32) (L := 256) (H := 4) _ rfl rfl rfl _ _ _ _ (fun _ => Ideal.ofBits_zero_f32) _ _ rfl rfl _ _ rfl (by decide) k
    ⟨d.val / 32, by omega⟩ ⟨d.val % 32, by omega⟩ d (Nat.div_add_mod _ _).symm
    (fun j => column (m ((c : Thread nD τ).loc main_arg1)) k (3072 + j)) (fun x => weights_slice _ _ _ k x)

theorem cosines_left (t : Fin 16896) (l : Fin 128) (e : Fin 256) (he : e.val = l.val) : V m c main_v88 (ix2 e t) = lanes 8 (cosQ t) 1 (l.val % 64) := by
  rw [cosines, turn_apply, table_left _ _ _ t l e he, Ideal.ofBits_one_f32]

theorem cosines_right (t : Fin 16896) (l : Fin 128) (e : Fin 256) (he : e.val = 128 + l.val) : V m c main_v88 (ix2 e t) = lanes 4 (cosK t) 1 (l.val % 32) := by
  rw [cosines, turn_apply, table_right _ _ _ t l e he, Ideal.ofBits_one_f32]

theorem sines_left (t : Fin 16896) (l : Fin 128) (e : Fin 256) (he : e.val = l.val) : V m c main_v89 (ix2 e t) = lanes 8 (sinQ t) 0 (l.val % 64) := by
  rw [sines, turn_apply, table_left _ _ _ t l e he, Ideal.ofBits_zero_f32]

theorem sines_right (t : Fin 16896) (l : Fin 128) (e : Fin 256) (he : e.val = 128 + l.val) : V m c main_v89 (ix2 e t) = lanes 4 (sinK t) 0 (l.val % 32) := by
  rw [sines, turn_apply, table_right _ _ _ t l e he, Ideal.ofBits_zero_f32]

/-- The indexer's weights below, zeros above. -/
theorem padded_apply (k : Fin 1024) (l : Fin 128) :
    V m c main_v91 (ix2 l k) = if l.val < 8 then column (m ((c : Thread nD τ).loc main_arg1)) k (3360 + l.val) * Ideal.ofBits .f32 0x3D800000#32 else 0 := by
  rw [padded, truncf_apply, turn_apply]
  split_ifs with h
  · rw [pad_apply_of_inside _ _ _ _ _ _ _ _ (ix2 k (⟨l.val, h⟩ : Fin 8)) (by
      intro a
      fin_cases a
      · show k.val = 0 + k.val * (0 + 1); omega
      · show l.val = 0 + l.val * (0 + 1); omega)]
    unfold indexer
    rw [mulf_apply, weights_slice]
    rfl
  · rw [pad_apply_of_not_inside _ _ _ _ _ _ _ _ 1 (by
      rintro ⟨-, -, h8⟩
      have h8 : (l.val - 0) / (0 + 1) < 8 := h8
      omega)]
    show (((0#32 : BitVec 32).toInt : ℝ) : EReal) = 0
    simp

end Cert.Kernel5Ideal.Layer

end
-- ==== Proof.Layer.ColsBody.lean ====
/-
  What one block of the column projections' call computes, read at an index.
-/
module

public import proofs.«01_k».proof.Defs
public import proofs.«01_k».proof.Proof.Layer.Norm
public import proofs.«01_k».proof.Proof.Gen.Kernel5Ideal.Value
public import Idealize.ShloMosaic.Lib.MatmulPlain
public import Idealize.ShloMosaic.Lib.Pipeline.ValueKit.Geometry

@[expose] public section

set_option maxRecDepth 16384

noncomputable section

namespace Cert.Kernel5Ideal.Layer

open Cert.Kernel5Ideal Cert.Kernel5Ideal.Gen Cert.Layer
open Idealize.ShloMosaic Idealize.ShloMosaic.TcCoe Idealize.SL.Sem
open Idealize.ShloMosaic.ValueIdx

/-- The rows of a matrix against the norm of 256 rows. -/
abbrev against {N : ℕ} (w : FVec Ideal ⟨2, ![N, 1024]⟩ .bf16) (x0 : FVec Ideal S256x1024 .f32) (g : FVec Ideal S1x1024 .f32) : FVec Ideal ⟨2, ![N, 256]⟩ .f32 :=
  matmul (DotDims.transposedRhs N 1024 256) none w (truncf .bf16 (normed x0 g) bitsLt_bf16_f32) (constant ⟨2, ![N, 256]⟩ .f32 0x00000000#32)

theorem against_apply {N : ℕ} (w : FVec Ideal ⟨2, ![N, 1024]⟩ .bf16) (x0 : FVec Ideal S256x1024 .f32) (g : FVec Ideal S1x1024 .f32) (d : Fin N) (r : Fin 256) :
    against w x0 g (ix2 d r) = ∑ k : Fin 1024, rms (fun k => x0 (ix2 r k)) (fun k => g (ix2 (0 : Fin 1) k)) k * (w (ix2 d k) : EReal) := by
  unfold against
  refine (Ideal.matmul_transposedRhs_apply none _ _ _ d r).trans ?_
  rw [constant_apply, Ideal.ofBits_zero_f32, zero_add]
  refine Finset.sum_congr rfl fun k _ => ?_
  rw [truncf_apply, normed_apply]
  exact mul_comm _ _

theorem rows_apply {α : Type} {T M L : ℕ} (y : (⟨2, ![T, L]⟩ : Shape).Idx → α) (o : ℕ) (h : (⟨2, ![T, L]⟩ : Shape).Slices ![o, 0] ⟨2, ![M, L]⟩) (e : Fin M) (t : Fin L)
    (d : Fin T) (hd : d.val = o + e.val) : extractStridedSlice (⟨2, ![M, L]⟩ : Shape) ![o, 0] y h (ix2 e t) = y (ix2 d t) :=
  extractStridedSlice_apply _ _ h _ _ (by
    intro a
    fin_cases a
    · exact hd
    · exact (Nat.zero_add _).symm)

theorem slices_at {N n : ℕ} (o : ℕ) (ho : o + 128 * n ≤ N) (j : Fin n) : (⟨2, ![N, 256]⟩ : Shape).Slices ![o + 128 * j.val, 0] S128x256 := ⟨rfl, fun a => by
  fin_cases a
  · show o + 128 * j.val + 128 ≤ N
    have := j.isLt
    omega
  · exact Nat.le_refl 256⟩

/-- A head pair's slab of keys. -/
abbrev slab4 (y : FVec Ideal S128x256 .f32) : FVec Ideal S1x1x128x256 .bf16 := shapeCast S1x1x128x256 (truncf .bf16 y bitsLt_bf16_f32) shapeCasts_S128x256_S1x1x128x256

/-- A slab of four indexer heads. -/
abbrev slab2 (y : FVec Ideal S128x256 .f32) : FVec Ideal S1x128x256 .bf16 := shapeCast S1x128x256 (truncf .bf16 y bitsLt_bf16_f32) shapeCasts_S128x256_S1x128x256

theorem slabs4_apply (A : Fin 4 → FVec Ideal S128x256 .f32) {p0 p1 p2 p3 : FVec Ideal S1x1x128x256 .bf16} (h0 : p0 = slab4 (A 0)) (h1 : p1 = slab4 (A 1))
    (h2 : p2 = slab4 (A 2)) (h3 : p3 = slab4 (A 3)) (j : Fin 4) (z : Fin 1) (l : Fin 128) (r : Fin 256) :
    (View.canon [⟨r0_6, p3⟩, ⟨r0_5, p2⟩, ⟨r0_4, p1⟩, ⟨r0_3, p0⟩] : Vec Ideal S4x1x128x256 .bf16) (ix4 j z l r) = A j (ix2 l r) := by
  subst h0 h1 h2 h3
  let G : S4x1x128x256.Idx → EReal := fun y => A (y 0) (ix2 (y 2) (y 3))
  have piece : ∀ (j : Fin 4) (o) (ho : o = (![j.val, 0, 0, 0] : Fin 4 → ℕ)) (inb) (x : (Rect.unit (s := S4x1x128x256) o S1x1x128x256.size inb).shape.Idx),
      slab4 (A j) x = G ((Rect.unit (s := S4x1x128x256) o S1x1x128x256.size inb).emb x) := by
    rintro j _ rfl inb x
    have h0 : (x 0).val < 1 := (x 0).isLt
    have h1 : (x 1).val < 1 := (x 1).isLt
    have e : ((Rect.unit (s := S4x1x128x256) ![j.val, 0, 0, 0] S1x1x128x256.size inb).emb x) = ix4 j (x 1) (x 2) (x 3) := by
      refine funext fun a => Fin.ext ?_
      fin_cases a
      · show j.val + 1 * (x 0).val = j.val; omega
      · show 0 + 1 * (x 1).val = (x 1).val; omega
      · show 0 + 1 * (x 2).val = (x 2).val; omega
      · show 0 + 1 * (x 3).val = (x 3).val; omega
    rw [e]
    refine shapeCast_apply _ _ _ (ix2 (x 2) (x 3)) ?_
    rw [Shape.rowMajor_val_four, Shape.rowMajor_val_two]
    show (x 2).val * 256 + (x 3).val = (((x 0).val * 1 + (x 1).val) * 128 + (x 2).val) * 256 + (x 3).val
    omega
  have inside : ∀ (o) (ho : o = (![j.val, 0, 0, 0] : Fin 4 → ℕ)) (inb), ix4 j z l r ∈ (Rect.unit (s := S4x1x128x256) o S1x1x128x256.size inb).set := by
    rintro _ rfl inb
    have e : ix4 j z l r = (Rect.unit (s := S4x1x128x256) ![j.val, 0, 0, 0] S1x1x128x256.size inb).emb (ix4 (0 : Fin 1) z l r) := by
      refine funext fun a => Fin.ext ?_
      fin_cases a
      · show j.val = j.val + 1 * 0; omega
      · show z.val = 0 + 1 * z.val; omega
      · show l.val = 0 + 1 * l.val; omega
      · show r.val = 0 + 1 * r.val; omega
    rw [e]; exact LoadRect.idx_mem _ _
  refine (View.canon_apply_of_pieces (Val := Elt Ideal) (e := .bf16) G _ ?_ (ix4 j z l r) ?_).trans rfl
  · intro p hp
    rcases List.mem_cons.1 hp with rfl | hp
    · exact piece 3 ![3, 0, 0, 0] rfl inb_S4x1x128x256_S1x1x128x256_3_0_0_0
    rcases List.mem_cons.1 hp with rfl | hp
    · exact piece 2 ![2, 0, 0, 0] rfl inb_S4x1x128x256_S1x1x128x256_2_0_0_0
    rcases List.mem_cons.1 hp with rfl | hp
    · exact piece 1 ![1, 0, 0, 0] rfl inb_S4x1x128x256_S1x1x128x256_1_0_0_0
    obtain rfl := List.mem_singleton.1 hp
    exact piece 0 ![0, 0, 0, 0] rfl inb_S4x1x128x256_S1x1x128x256_0_0_0_0
  · fin_cases j
    · exact ⟨_, List.mem_cons_of_mem _ (List.mem_cons_of_mem _ (List.mem_cons_of_mem _ List.mem_cons_self)), inside ![0, 0, 0, 0] rfl inb_S4x1x128x256_S1x1x128x256_0_0_0_0⟩
    · exact ⟨_, List.mem_cons_of_mem _ (List.mem_cons_of_mem _ List.mem_cons_self), inside ![1, 0, 0, 0] rfl inb_S4x1x128x256_S1x1x128x256_1_0_0_0⟩
    · exact ⟨_, List.mem_cons_of_mem _ List.mem_cons_self, inside ![2, 0, 0, 0] rfl inb_S4x1x128x256_S1x1x128x256_2_0_0_0⟩
    · exact ⟨_, List.mem_cons_self, inside ![3, 0, 0, 0] rfl inb_S4x1x128x256_S1x1x128x256_3_0_0_0⟩

theorem slabs2_apply (A : Fin 2 → FVec Ideal S128x256 .f32) {p0 p1 : FVec Ideal S1x128x256 .bf16} (h0 : p0 = slab2 (A 0)) (h1 : p1 = slab2 (A 1)) (j : Fin 2) (l : Fin 128)
    (r : Fin 256) : (View.canon [⟨r0_10, p1⟩, ⟨r0_9, p0⟩] : Vec Ideal S2x128x256 .bf16) (ix3 j l r) = A j (ix2 l r) := by
  subst h0 h1
  let G : S2x128x256.Idx → EReal := fun y => A (y 0) (ix2 (y 1) (y 2))
  have piece : ∀ (j : Fin 2) (o) (ho : o = (![j.val, 0, 0] : Fin 3 → ℕ)) (inb) (x : (Rect.unit (s := S2x128x256) o S1x128x256.size inb).shape.Idx),
      slab2 (A j) x = G ((Rect.unit (s := S2x128x256) o S1x128x256.size inb).emb x) := by
    rintro j _ rfl inb x
    have h0 : (x 0).val < 1 := (x 0).isLt
    have e : ((Rect.unit (s := S2x128x256) ![j.val, 0, 0] S1x128x256.size inb).emb x) = ix3 j (x 1) (x 2) := by
      refine funext fun a => Fin.ext ?_
      fin_cases a
      · show j.val + 1 * (x 0).val = j.val; omega
      · show 0 + 1 * (x 1).val = (x 1).val; omega
      · show 0 + 1 * (x 2).val = (x 2).val; omega
    rw [e]
    refine shapeCast_apply _ _ _ (ix2 (x 1) (x 2)) ?_
    rw [Shape.rowMajor_val_three, Shape.rowMajor_val_two]
    show (x 1).val * 256 + (x 2).val = ((x 0).val * 128 + (x 1).val) * 256 + (x 2).val
    omega
  have inside : ∀ (o) (ho : o = (![j.val, 0, 0] : Fin 3 → ℕ)) (inb), ix3 j l r ∈ (Rect.unit (s := S2x128x256) o S1x128x256.size inb).set := by
    rintro _ rfl inb
    have e : ix3 j l r = (Rect.unit (s := S2x128x256) ![j.val, 0, 0] S1x128x256.size inb).emb (ix3 (0 : Fin 1) l r) := by
      refine funext fun a => Fin.ext ?_
      fin_cases a
      · show j.val = j.val + 1 * 0; omega
      · show l.val = 0 + 1 * l.val; omega
      · show r.val = 0 + 1 * r.val; omega
    rw [e]; exact LoadRect.idx_mem _ _
  refine (View.canon_apply_of_pieces (Val := Elt Ideal) (e := .bf16) G _ ?_ (ix3 j l r) ?_).trans rfl
  · intro p hp
    rcases List.mem_cons.1 hp with rfl | hp
    · exact piece 1 ![1, 0, 0] rfl inb_S2x128x256_S1x128x256_1_0_0
    obtain rfl := List.mem_singleton.1 hp
    exact piece 0 ![0, 0, 0] rfl inb_S2x128x256_S1x128x256_0_0_0
  · fin_cases j
    · exact ⟨_, List.mem_cons_of_mem _ List.mem_cons_self, inside ![0, 0, 0] rfl inb_S2x128x256_S1x128x256_0_0_0⟩
    · exact ⟨_, List.mem_cons_self, inside ![1, 0, 0] rfl inb_S2x128x256_S1x128x256_1_0_0⟩

variable (x0 : FVec Ideal S256x1024 .f32) (x1 : FVec Ideal S512x1024 .bf16) (x2 x3 : FVec Ideal S768x1024 .bf16) (x4 x5 : FVec Ideal S256x256 .f32)
  (x6 : FVec Ideal S128x1024 .bf16) (x7 : FVec Ideal S1x1024 .f32)

theorem whole : (![0, 0] : Fin 2 → ℕ) = fun _ => 0 := by funext a; fin_cases a <;> rfl

theorem norm_eq (v0 : FVec Ideal S256x1024 .f32) (v1 : FVec Ideal S1x1024 .f32) : k0_pay2 (F := Ideal) v0 v1 = truncf .bf16 (normed v0 v1) bitsLt_bf16_f32 := by
  unfold k0_pay2
  rfl

theorem plain_of : k0_pay3 (F := Ideal) x0 x7 x1 = against x1 x0 x7 := by
  unfold k0_pay3
  rw [norm_eq]
  simp only [shapeCast_self]
  rfl

theorem norm_at : k0_pay24 (F := Ideal) x0 x1 x2 x3 x4 x5 x6 x7 = truncf .bf16 (normed x0 x7) bitsLt_bf16_f32 := by
  unfold k0_pay24
  iterate 2 rw [View.ld_unit_zero whole]
  rw [norm_eq]

theorem turning_of (w : FVec Ideal S768x1024 .bf16) : k0_pay9 (F := Ideal) (k0_pay24 x0 x1 x2 x3 x4 x5 x6 x7) w = against w x0 x7 := by
  rw [norm_at]
  unfold k0_pay9
  simp only [shapeCast_self]
  rfl

theorem rotated_of (w : FVec Ideal S768x1024 .bf16) : k0_pay10 (F := Ideal) (k0_pay24 x0 x1 x2 x3 x4 x5 x6 x7) w = against w x0 x7 := by
  rw [norm_at]
  unfold k0_pay10
  simp only [shapeCast_self]
  rfl

theorem turning_at : k0_pay25 (F := Ideal) x0 x1 x2 x3 x4 x5 x6 x7 = against x2 x0 x7 := by
  unfold k0_pay25
  rw [View.ld_unit_zero whole, turning_of]

theorem rotated_at : k0_pay26 (F := Ideal) x0 x1 x2 x3 x4 x5 x6 x7 = against x3 x0 x7 := by
  unfold k0_pay26
  rw [View.ld_unit_zero whole, rotated_of]

/-- The lanes `o` to `o + 128` of a block of cosines or sines. -/
abbrev lane (x : FVec Ideal S256x256 .f32) (o : ℕ) (h : S256x256.Slices ![o, 0] S128x256) : FVec Ideal S128x256 .f32 := extractStridedSlice S128x256 ![o, 0] x h

theorem cos_of : k0_pay13 (F := Ideal) x4 = lane x4 0 slices_S256x256_o0_0_S128x256 := by
  unfold k0_pay13 k0_pay11
  rw [shapeCast_self]

theorem sin_of : k0_pay14 (F := Ideal) x5 = lane x5 0 slices_S256x256_o0_0_S128x256 := by
  unfold k0_pay14 k0_pay12
  rw [shapeCast_self]

theorem cos_at : k0_pay27 (F := Ideal) x0 x1 x2 x3 x4 x5 x6 x7 = lane x4 0 slices_S256x256_o0_0_S128x256 := by
  unfold k0_pay27
  rw [View.ld_unit_zero whole, cos_of]

theorem sin_at : k0_pay28 (F := Ideal) x0 x1 x2 x3 x4 x5 x6 x7 = lane x5 0 slices_S256x256_o0_0_S128x256 := by
  unfold k0_pay28
  rw [View.ld_unit_zero whole, sin_of]

theorem cos_at' : k0_pay29 (F := Ideal) x0 x1 x2 x3 x4 x5 x6 x7 = lane x4 128 slices_S256x256_o128_0_S128x256 := by
  unfold k0_pay29
  rw [View.ld_unit_zero whole]
  unfold k0_pay15 k0_pay11
  rw [shapeCast_self]

theorem sin_at' : k0_pay30 (F := Ideal) x0 x1 x2 x3 x4 x5 x6 x7 = lane x5 128 slices_S256x256_o128_0_S128x256 := by
  unfold k0_pay30
  rw [View.ld_unit_zero whole]
  unfold k0_pay16 k0_pay12
  rw [shapeCast_self]

theorem out8_apply (j : Fin 4) (z : Fin 1) (l : Fin 128) (r : Fin 256) (d : Fin 512) (hd : d.val = 0 + 128 * j.val + l.val) :
    out0_8 (F := Ideal) x0 x1 x2 x3 x4 x5 x6 x7 (ix4 j z l r) = against x1 x0 x7 (ix2 d r) := by
  unfold out0_8
  repeat rw [View.ld_unit_zero whole]
  rw [slabs4_apply (fun j => extractStridedSlice S128x256 ![0 + 128 * j.val, 0] (against x1 x0 x7) (slices_at 0 (by decide) j)) (by unfold k0_pay4; rw [plain_of]; rfl)
    (by unfold k0_pay5; rw [plain_of]; rfl) (by unfold k0_pay6; rw [plain_of]; rfl) (by unfold k0_pay8 k0_pay7; rw [plain_of]; rfl)]
  exact rows_apply _ _ _ l r d hd

/-- The rotated rows `o` to `o + 128`. -/
abbrev turn (y y' : FVec Ideal S768x256 .f32) (o : ℕ) (h : S768x256.Slices ![o, 0] S128x256) (C S : FVec Ideal S128x256 .f32) : FVec Ideal S128x256 .f32 :=
  addf (mulf (extractStridedSlice S128x256 ![o, 0] y h) C) (mulf (extractStridedSlice S128x256 ![o, 0] y' h) S)

theorem turned_rows (y y' : FVec Ideal S768x256 .f32) (o : ℕ) (h) (x4 x5 : FVec Ideal S256x256 .f32) (o' : ℕ) (h') (l : Fin 128) (r : Fin 256) (d : Fin 768)
    (hd : d.val = o + l.val) (e : Fin 256) (he : e.val = o' + l.val) :
    turn y y' o h (lane x4 o' h') (lane x5 o' h') (ix2 l r) = y (ix2 d r) * (x4 (ix2 e r) : EReal) + y' (ix2 d r) * (x5 (ix2 e r) : EReal) :=
  congrArg₂ (· + ·) (congrArg₂ (· * ·) (rows_apply y o h l r d hd) (rows_apply x4 o' h' l r e he)) (congrArg₂ (· * ·) (rows_apply y' o h l r d hd) (rows_apply x5 o' h' l r e he))

theorem out9_apply (j : Fin 4) (z : Fin 1) (l : Fin 128) (r : Fin 256) (d : Fin 768) (hd : d.val = 0 + 128 * j.val + l.val) (e : Fin 256) (he : e.val = 0 + l.val) :
    out0_9 (F := Ideal) x0 x1 x2 x3 x4 x5 x6 x7 (ix4 j z l r)
      = against x2 x0 x7 (ix2 d r) * (x4 (ix2 e r) : EReal) + against x3 x0 x7 (ix2 d r) * (x5 (ix2 e r) : EReal) := by
  unfold out0_9
  rw [turning_at, rotated_at, cos_at, sin_at]
  repeat rw [View.ld_unit_zero whole]
  rw [slabs4_apply (fun j => turn (against x2 x0 x7) (against x3 x0 x7) (0 + 128 * j.val) (slices_at 0 (by decide) j) (lane x4 0 slices_S256x256_o0_0_S128x256)
      (lane x5 0 slices_S256x256_o0_0_S128x256))
    (by unfold k0_pay17; rw [turning_of, rotated_of, cos_of, sin_of]; rfl) (by unfold k0_pay18; rw [turning_of, rotated_of, cos_of, sin_of]; rfl)
    (by unfold k0_pay19; rfl) (by unfold k0_pay20; rfl)]
  exact turned_rows _ _ _ _ x4 x5 _ _ l r d hd e he

theorem out10_apply (j : Fin 2) (l : Fin 128) (r : Fin 256) (d : Fin 768) (hd : d.val = 512 + 128 * j.val + l.val) (e : Fin 256) (he : e.val = 128 + l.val) :
    out0_10 (F := Ideal) x0 x1 x2 x3 x4 x5 x6 x7 (ix3 j l r)
      = against x2 x0 x7 (ix2 d r) * (x4 (ix2 e r) : EReal) + against x3 x0 x7 (ix2 d r) * (x5 (ix2 e r) : EReal) := by
  unfold out0_10
  rw [turning_at, rotated_at, cos_at', sin_at']
  rw [slabs2_apply (fun j => turn (against x2 x0 x7) (against x3 x0 x7) (512 + 128 * j.val) (slices_at 512 (by decide) j) (lane x4 128 slices_S256x256_o128_0_S128x256)
      (lane x5 128 slices_S256x256_o128_0_S128x256)) (by unfold k0_pay21; rfl) (by unfold k0_pay22; rfl)]
  exact turned_rows _ _ _ _ x4 x5 _ _ l r d hd e he

theorem out11_apply (l : Fin 128) (r : Fin 256) : out0_11 (F := Ideal) x0 x1 x2 x3 x4 x5 x6 x7 (ix2 l r) = against x6 x0 x7 (ix2 l r) := by
  unfold out0_11
  rw [View.canon_unit_zero whole, norm_at, View.ld_unit_zero whole]
  unfold k0_pay1 k0_pay23
  simp only [shapeCast_self]
  rfl

end Cert.Kernel5Ideal.Layer

end
-- ==== Proof.Layer.Cols.lean ====
/-
  A block of the column projections' results, entry by entry, in terms of the arguments.
-/
module

public import proofs.«01_k».proof.Proof.Layer.ColsHost
public import proofs.«01_k».proof.Proof.Layer.ColsBody

@[expose] public section

set_option maxRecDepth 16384

noncomputable section

namespace Cert.Kernel5Ideal.Layer

open Cert.Kernel5Ideal Cert.Kernel5Ideal.Gen Cert.Layer
open Cert.Reference4Ideal.Layer (column entry cosQ sinQ cosK sinK)
open Idealize.ShloMosaic Idealize.ShloMosaic.TcCoe Idealize.SL.Sem
open Idealize.ShloMosaic.ValueIdx

theorem scale_ix : ∃ s : ℝ, 0 ≤ s ∧ Ideal.ofBits .f32 0x3D800000#32 = (s : EReal) := by
  refine ⟨_, ?_, by simp [Ideal.ofBits, Ideal.ieee, -EReal.coe_mul]; rfl⟩
  positivity

/-! ### The blocks -/

variable (m : (ℓ : Loc nD τ sig) → Buf (Elt Ideal) ℓ) (c : Dev nD)

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, (grid0.coords t 0).val] := by decide +kernel
theorem index5 : ∀ t : Fin grid0.N, win0_5.index t = ![0, (grid0.coords t 0).val] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, (grid0.coords t 0).val, 0, 0] := by decide +kernel
theorem index9 : ∀ t : Fin grid0.N, win0_9.index t = ![0, (grid0.coords t 0).val, 0, 0] := by decide +kernel
theorem index10 : ∀ t : Fin grid0.N, win0_10.index t = ![0, 0, (grid0.coords t 0).val] := by decide +kernel
theorem index11 : ∀ t : Fin grid0.N, win0_11.index t = ![0, (grid0.coords t 0).val] := by decide +kernel

/-- The row of the whole that a block's row is. -/
abbrev rowAt (t : Fin cfg0.N) (r : Fin 256) : Fin 16896 := Fin.ofNat 16896 (256 * (grid0.coords t 0).val + r.val)

theorem rowAt_val (t : Fin cfg0.N) (r : Fin 256) : (rowAt t r).val = 256 * (grid0.coords t 0).val + r.val := by
  have hi : (grid0.coords t 0).val < 66 := (grid0.coords t 0).isLt
  exact Nat.mod_eq_of_lt (by omega)

theorem block0 (t : Fin cfg0.N) (r : Fin 256) (d : Fin 1024) : iblk m c 0 t (ix2 r d) = m ((c : Thread nD τ).loc main_arg0) (ix2 (rowAt t r) d) := by
  rw [← V_main_arg0 m c]
  refine congrArg (V m c main_arg0) (funext fun a => Fin.ext ?_)
  fin_cases a
  · refine Eq.trans ?_ (rowAt_val t r).symm; blk_simp [index0 t]; simp [ix2]; omega
  · blk_simp [index0 t]; try simp [ix2]

theorem block1 (t : Fin cfg0.N) : iblk m c 1 t = V m c main_v61 := by
  funext y
  refine congrArg (V m c main_v61) (funext fun a => Fin.ext ?_)
  fin_cases a <;> blk_simp [index1 t] <;> simp

theorem block2 (t : Fin cfg0.N) : iblk m c 2 t = V m c main_v85 := by
  funext y
  refine congrArg (V m c main_v85) (funext fun a => Fin.ext ?_)
  fin_cases a <;> blk_simp [index2 t] <;> simp

theorem block3 (t : Fin cfg0.N) : iblk m c 3 t = V m c main_v87 := by
  funext y
  refine congrArg (V m c main_v87) (funext fun a => Fin.ext ?_)
  fin_cases a <;> blk_simp [index3 t] <;> simp

theorem block4 (t : Fin cfg0.N) (e : Fin 256) (r : Fin 256) : iblk m c 4 t (ix2 e r) = V m c main_v88 (ix2 e (rowAt t r)) := by
  refine congrArg (V m c main_v88) (funext fun a => Fin.ext ?_)
  fin_cases a
  · blk_simp [index4 t]; try simp [ix2]
  · refine Eq.trans ?_ (rowAt_val t r).symm; blk_simp [index4 t]; simp [ix2]; omega

theorem block5 (t : Fin cfg0.N) (e : Fin 256) (r : Fin 256) : iblk m c 5 t (ix2 e r) = V m c main_v89 (ix2 e (rowAt t r)) := by
  refine congrArg (V m c main_v89) (funext fun a => Fin.ext ?_)
  fin_cases a
  · blk_simp [index5 t]; try simp [ix2]
  · refine Eq.trans ?_ (rowAt_val t r).symm; blk_simp [index5 t]; simp [ix2]; omega

theorem block6 (t : Fin cfg0.N) : iblk m c 6 t = V m c main_v91 := by
  funext y
  refine congrArg (V m c main_v91) (funext fun a => Fin.ext ?_)
  fin_cases a <;> blk_simp [index6 t] <;> simp

theorem block7 (t : Fin cfg0.N) : iblk m c 7 t = m ((c : Thread nD τ).loc main_arg2) := by
  rw [← V_main_arg2 m c]
  funext y
  refine congrArg (V m c main_arg2) (funext fun a => Fin.ext ?_)
  fin_cases a <;> blk_simp [index7 t] <;> simp

/-- The norm of a row. -/
abbrev normedRow (R : Fin 16896) (k : Fin 1024) : EReal :=
  rms (fun k => m ((c : Thread nD τ).loc main_arg0) (ix2 R k)) (fun k => m ((c : Thread nD τ).loc main_arg2) (ix2 (0 : Fin 1) k)) k

/-- The reference's product, of this call's arguments. -/
abbrev entryAt (R : Fin 16896) (j : ℕ) : EReal :=
  entry (m ((c : Thread nD τ).loc main_arg0)) (m ((c : Thread nD τ).loc main_arg2)) (m ((c : Thread nD τ).loc main_arg1)) R j

theorem against_at {N : ℕ} (t : Fin cfg0.N) (w : FVec Ideal ⟨2, ![N, 1024]⟩ .bf16) (d : Fin N) (r : Fin 256) (v : Fin 1024 → EReal) (hv : ∀ k, w (ix2 d k) = v k) :
    against w (iblk m c 0 t) (iblk m c 7 t) (ix2 d r) = ∑ k : Fin 1024, normedRow m c (rowAt t r) k * v k := by
  rw [against_apply]
  simp only [block0, block7, hv]

/-! ### A block's entries -/

theorem kt_sb_at (t : Fin cfg0.N) (j : Fin 4) (z : Fin 1) (l : Fin 128) (r : Fin 256) :
    out0_8 (F := Ideal) (iblk m c 0 t) (iblk m c 1 t) (iblk m c 2 t) (iblk m c 3 t) (iblk m c 4 t) (iblk m c 5 t) (iblk m c 6 t) (iblk m c 7 t) (ix4 j z l r)
      = entryAt m c (rowAt t r) (512 + (128 * j.val + l.val)) := by
  have hj := j.isLt
  have hl := l.isLt
  refine (out8_apply _ _ _ _ _ _ _ _ j z l r ⟨128 * j.val + l.val, by omega⟩ (by show 128 * j.val + l.val = 0 + 128 * j.val + l.val; omega)).trans ?_
  rw [block1]
  exact against_at m c t _ _ r _ fun k => plain_apply m c k ⟨128 * j.val + l.val, by omega⟩

theorem w_ix_at (t : Fin cfg0.N) (l : Fin 128) (r : Fin 256) :
    out0_11 (F := Ideal) (iblk m c 0 t) (iblk m c 1 t) (iblk m c 2 t) (iblk m c 3 t) (iblk m c 4 t) (iblk m c 5 t) (iblk m c 6 t) (iblk m c 7 t) (ix2 l r)
      = if l.val < 8 then entryAt m c (rowAt t r) (3360 + l.val) * Ideal.ofBits .f32 0x3D800000#32 else 0 := by
  obtain ⟨s, hs, e⟩ := scale_ix
  rw [out11_apply, block6, against_at m c t _ _ r _ fun k => padded_apply m c k l, e]
  split_ifs with h
  · exact sum_scale _ _ s hs
  · simp only [mul_zero, Finset.sum_const_zero]

variable (hx : ∀ i, ∃ r : ℝ, m ((c : Thread nD τ).loc main_arg0) i = (r : EReal)) (hw : ∀ i, ∃ r : ℝ, m ((c : Thread nD τ).loc main_arg1) i = (r : EReal))
  (hg : ∀ i, ∃ r : ℝ, m ((c : Thread nD τ).loc main_arg2) i = (r : EReal))

include hx hg in
theorem normedRow_real (R : Fin 16896) (k : Fin 1024) : ∃ r : ℝ, normedRow m c R k = r := rms_real _ _ (fun k => hx _) (fun k => hg _) k

include hx hw hg in
/-- A head's turned entry: its product and its rotated product, times the tables' lanes. -/
theorem turned_at (H o n d : ℕ) (cos sin : ℕ → EReal) (R : Fin 16896) (a : EReal) (ha : a = entryAt m c R (o + (n + d))) :
    a * lanes H cos 1 d + (∑ k : Fin 1024, normedRow m c R k * half H (fun i => column (m ((c : Thread nD τ).loc main_arg1)) k (o + (n + i))) d) * lanes H sin 0 d
      = turned H cos sin (fun i => entryAt m c R (o + (n + i))) d := by
  rw [sum_half H _ (fun k i => column (m ((c : Thread nD τ).loc main_arg1)) k (o + (n + i))) (normedRow_real m c hx hg _) (fun k i => hw _), ha]
  exact turned_eq H cos sin (fun i => entryAt m c R (o + (n + i))) d

include hx hw hg in
theorem kt_ds_at (t : Fin cfg0.N) (j : Fin 4) (z : Fin 1) (l : Fin 128) (r : Fin 256) :
    out0_9 (F := Ideal) (iblk m c 0 t) (iblk m c 1 t) (iblk m c 2 t) (iblk m c 3 t) (iblk m c 4 t) (iblk m c 5 t) (iblk m c 6 t) (iblk m c 7 t) (ix4 j z l r)
      = turned 8 (cosQ (rowAt t r)) (sinQ (rowAt t r)) (fun e => entryAt m c (rowAt t r) (2048 + (64 * ((128 * j.val + l.val) / 64) + e))) ((128 * j.val + l.val) % 64) := by
  have hj := j.isLt
  have hl := l.isLt
  have hm : l.val % 64 = (128 * j.val + l.val) % 64 := by omega
  rw [out9_apply _ _ _ _ _ _ _ _ j z l r ⟨128 * j.val + l.val, by omega⟩ (by show 128 * j.val + l.val = 0 + 128 * j.val + l.val; omega) ⟨l.val, by omega⟩ (Nat.zero_add _).symm,
    block2, block3, block4, block5, against_at m c t _ _ r _ fun k => turning_left m c k ⟨128 * j.val + l.val, by omega⟩ _ rfl,
    against_at m c t _ _ r _ fun k => rotated_left m c k ⟨128 * j.val + l.val, by omega⟩ _ rfl, cosines_left m c _ l _ rfl, sines_left m c _ l _ rfl, hm]
  exact turned_at m c hx hw hg 8 2048 _ _ _ _ (rowAt t r) _ (by rw [Nat.div_add_mod]; rfl)

include hx hw hg in
theorem q_ix_at (t : Fin cfg0.N) (j : Fin 2) (l : Fin 128) (r : Fin 256) :
    out0_10 (F := Ideal) (iblk m c 0 t) (iblk m c 1 t) (iblk m c 2 t) (iblk m c 3 t) (iblk m c 4 t) (iblk m c 5 t) (iblk m c 6 t) (iblk m c 7 t) (ix3 j l r)
      = turned 4 (cosK (rowAt t r)) (sinK (rowAt t r)) (fun e => entryAt m c (rowAt t r) (3072 + (32 * ((128 * j.val + l.val) / 32) + e))) ((128 * j.val + l.val) % 32) := by
  have hj := j.isLt
  have hl := l.isLt
  have hm : l.val % 32 = (128 * j.val + l.val) % 32 := by omega
  rw [out10_apply _ _ _ _ _ _ _ _ j l r ⟨512 + (128 * j.val + l.val), by omega⟩ (by show 512 + (128 * j.val + l.val) = 512 + 128 * j.val + l.val; omega) ⟨128 + l.val, by omega⟩ rfl,
    block2, block3, block4, block5, against_at m c t _ _ r _ fun k => turning_right m c k ⟨128 * j.val + l.val, by omega⟩ _ rfl,
    against_at m c t _ _ r _ fun k => rotated_right m c k ⟨128 * j.val + l.val, by omega⟩ _ rfl, cosines_right m c _ l _ rfl, sines_right m c _ l _ rfl, hm]
  exact turned_at m c hx hw hg 4 3072 _ _ _ _ (rowAt t r) _ (by rw [Nat.div_add_mod]; rfl)

end Cert.Kernel5Ideal.Layer

end
-- ==== Proof.Layer.ColsRef.lean ====
/-
  The column projections' reference, read at an index.
-/
module

public import proofs.«01_k».proof.Proof.Layer.ProjHost
public import proofs.«01_k».proof.Proof.Gen.Reference5Ideal.Read

@[expose] public section

set_option maxRecDepth 16384

noncomputable section

namespace Cert.Reference5Ideal.Layer

open Cert.Reference5Ideal Cert.Reference5Ideal.Gen Cert.Reference5Ideal.Read Cert.Layer
open Cert.Reference4Ideal.Layer (entry turned_apply slice_apply cosQ sinQ cosK sinK ofNat_val)
open Cert.Kernel4Ideal.Layer (beside_left beside_right)
open Idealize.ShloMosaic Idealize.ShloMosaic.TcCoe Idealize.SL.Sem
open Idealize.ShloMosaic.ValueIdx

variable (x0 : FVec Ideal S16896x1024 .f32) (x1 : FVec Ideal S1x1024x5416 .f32) (x2 : FVec Ideal S1x1024 .f32)

/-- The product is the row projections' own. -/
theorem product_eq : val_main_v15 (F := Ideal) x0 x1 x2 = Cert.Reference4Ideal.Read.val_main_v15 (F := Ideal) x0 x1 x2 := rfl

theorem columns_apply {M : ℕ} (o : ℕ) (ho : o + M ≤ 5416) (h : S16896x5416.Slices ![0, o] ⟨2, ![16896, M]⟩) (r : Fin 16896) (d : Fin M) :
    extractStridedSlice (⟨2, ![16896, M]⟩ : Shape) ![0, o] (val_main_v15 (F := Ideal) x0 x1 x2) h (ix2 r d) = entry x0 x2 x1 r (o + d.val) := by
  rw [product_eq]
  exact slice_apply x0 x1 x2 o ho h r d

/-- Blocks of 256 rows transposed: head pairs, blocks, lanes, rows. -/
theorem blocks_apply (y : FVec Ideal S66x256x4x128 .f32) (h : S66x256x4x128.Transposes [2, 0, 3, 1] S4x66x128x256) (j : Fin 4) (b : Fin 66) (l : Fin 128) (r : Fin 256) :
    transpose S4x66x128x256 [2, 0, 3, 1] y h (ix4 j b l r) = y (ix4 b r j l) :=
  transpose_apply [2, 0, 3, 1] y h (ix4 j b l r) (ix4 b r j l) (by intro a; fin_cases a <;> rfl)

theorem kt_sb_apply (j : Fin 4) (b : Fin 66) (l : Fin 128) (r : Fin 256) (R : Fin 16896) (hR : R.val = 256 * b.val + r.val) :
    val_main_v95 (F := Ideal) x0 x1 x2 (ix4 j b l r) = entry x0 x2 x1 R (512 + (128 * j.val + l.val)) := by
  have hj := j.isLt
  have hl := l.isLt
  unfold val_main_v95 val_main_v94 val_main_v93
  rw [truncf_apply, blocks_apply, shapeCast_apply _ _ _ (ix2 R (⟨128 * j.val + l.val, by omega⟩ : Fin 512)) (by
    rw [Shape.rowMajor_val_two, Shape.rowMajor_val_four]
    show R.val * 512 + (128 * j.val + l.val) = ((b.val * 256 + r.val) * 4 + j.val) * 128 + l.val
    omega)]
  exact columns_apply x0 x1 x2 512 (by decide) _ R _

theorem heads_at (r : Fin 16896) (n : Fin 8) (e : Fin 64) : val_main_v27 (F := Ideal) x0 x1 x2 (ix3 r n e) = entry x0 x2 x1 r (2048 + (64 * n.val + e.val)) := by
  have hn := n.isLt
  have he := e.isLt
  unfold val_main_v27
  exact (heads_apply (val_main_v20 (F := Ideal) x0 x1 x2) _ rfl r n e ⟨64 * n.val + e.val, by omega⟩ rfl).trans (columns_apply x0 x1 x2 2048 (by decide) _ r _)

theorem queries_at (r : Fin 16896) (n : Fin 8) (e : Fin 32) : val_main_v58 (F := Ideal) x0 x1 x2 (ix3 r n e) = entry x0 x2 x1 r (3072 + (32 * n.val + e.val)) := by
  have hn := n.isLt
  have he := e.isLt
  unfold val_main_v58
  exact (heads_apply (val_main_v22 (F := Ideal) x0 x1 x2) _ rfl r n e ⟨32 * n.val + e.val, by omega⟩ rfl).trans (columns_apply x0 x1 x2 3072 (by decide) _ r _)

theorem cosQ_at (r : Fin 16896) (n j : Fin 8) : val_main_v46 (F := Ideal) (ix3 r n j) = cosQ r j.val := Cert.Reference4Ideal.Layer.cosQ_at r n j

theorem sinQ_at (r : Fin 16896) (n j : Fin 8) : val_main_v48 (F := Ideal) (ix3 r n j) = sinQ r j.val := Cert.Reference4Ideal.Layer.sinQ_at r n j

theorem cosK_at (r : Fin 16896) (n : Fin 8) (j : Fin 4) : val_main_v77 (F := Ideal) (ix3 r n j) = cosK r j.val := by
  rw [val_main_v77_apply, val_main_v72_apply]
  exact congrArg (val_main_v71 (F := Ideal)) (Shape.idx_ext₂ rfl (congrArg Fin.val (ofNat_val j)))

theorem sinK_at (r : Fin 16896) (n : Fin 8) (j : Fin 4) : val_main_v79 (F := Ideal) (ix3 r n j) = sinK r j.val := by
  rw [val_main_v79_apply, val_main_v74_apply]
  exact congrArg (val_main_v73 (F := Ideal)) (Shape.idx_ext₂ rfl (congrArg Fin.val (ofNat_val j)))

theorem kt_ds_apply (j : Fin 4) (b : Fin 66) (l : Fin 128) (r : Fin 256) (R : Fin 16896) (hR : R.val = 256 * b.val + r.val) :
    val_main_v98 (F := Ideal) x0 x1 x2 (ix4 j b l r)
      = turned 8 (cosQ R) (sinQ R) (fun e => entry x0 x2 x1 R (2048 + (64 * ((128 * j.val + l.val) / 64) + e))) ((128 * j.val + l.val) % 64) := by
  have hj := j.isLt
  have hl := l.isLt
  unfold val_main_v98 val_main_v97 val_main_v96
  rw [truncf_apply, blocks_apply,
    shapeCast_apply _ _ _ (ix3 R (⟨(128 * j.val + l.val) / 64, by omega⟩ : Fin 8) (⟨(128 * j.val + l.val) % 64, by omega⟩ : Fin 64)) (by
      rw [Shape.rowMajor_val_three, Shape.rowMajor_val_four]
      show (R.val * 8 + (128 * j.val + l.val) / 64) * 64 + (128 * j.val + l.val) % 64 = ((b.val * 256 + r.val) * 4 + j.val) * 128 + l.val
      omega)]
  unfold val_main_v57 val_main_v50 val_main_v55 val_main_v47 val_main_v49 val_main_v52 val_main_v54 val_main_v56 val_main_v44 val_main_v45
  exact turned_apply (val_main_v27 (F := Ideal) x0 x1 x2) _ _ _ _ 16 rfl _ _ _ _ rfl R _ _ (cosQ R) (sinQ R) _ (cosQ_at R _) (sinQ_at R _) (cosQ_at R _) (sinQ_at R _) (heads_at x0 x1 x2 R _)

theorem q_ix_apply (j : Fin 2) (l : Fin 128) (R : Fin 16896) :
    val_main_v101 (F := Ideal) x0 x1 x2 (ix3 j l R)
      = turned 4 (cosK R) (sinK R) (fun e => entry x0 x2 x1 R (3072 + (32 * ((128 * j.val + l.val) / 32) + e))) ((128 * j.val + l.val) % 32) := by
  have hj := j.isLt
  have hl := l.isLt
  unfold val_main_v101 val_main_v100 val_main_v99
  rw [truncf_apply, transpose_apply [1, 2, 0] _ _ (ix3 j l R) (ix3 R j l) (by intro b; fin_cases b <;> rfl),
    shapeCast_apply _ _ _ (ix3 R (⟨(128 * j.val + l.val) / 32, by omega⟩ : Fin 8) (⟨(128 * j.val + l.val) % 32, by omega⟩ : Fin 32)) (by
      rw [Shape.rowMajor_val_three, Shape.rowMajor_val_three]
      show (R.val * 8 + (128 * j.val + l.val) / 32) * 32 + (128 * j.val + l.val) % 32 = (R.val * 2 + j.val) * 128 + l.val
      omega)]
  unfold val_main_v88 val_main_v81 val_main_v86 val_main_v78 val_main_v80 val_main_v83 val_main_v85 val_main_v87 val_main_v75 val_main_v76
  exact turned_apply (val_main_v58 (F := Ideal) x0 x1 x2) _ _ _ _ 8 rfl _ _ _ _ rfl R _ _ (cosK R) (sinK R) _ (cosK_at R _) (sinK_at R _) (cosK_at R _) (sinK_at R _) (queries_at x0 x1 x2 R _)

theorem w_ix_apply (l : Fin 128) (R : Fin 16896) :
    val_main_v102 (F := Ideal) x0 x1 x2 (ix2 l R) = if l.val < 8 then entry x0 x2 x1 R (3360 + l.val) * Ideal.ofBits .f32 0x3D800000#32 else 0 := by
  have hl := l.isLt
  unfold val_main_v102 val_main_v92
  rw [transpose_apply [1, 0] _ _ (ix2 l R) (ix2 R l) (by intro b; fin_cases b <;> rfl)]
  split_ifs with h
  · rw [beside_left (T := 16896) (A := 8) (B := 120) (D := 128) _ _ _ R ⟨l.val, h⟩ l rfl]
    unfold val_main_v90
    rw [mulf_apply]
    exact congrArg (· * Ideal.ofBits .f32 0x3D800000#32) (columns_apply x0 x1 x2 3360 (by decide) _ R ⟨l.val, h⟩)
  · rw [beside_right (T := 16896) (A := 8) (B := 120) (D := 128) _ _ _ R ⟨l.val - 8, by omega⟩ l (by show l.val = 8 + (l.val - 8); omega)]
    exact Ideal.ofBits_zero_f32

end Cert.Reference5Ideal.Layer

end
-- ==== Proof.Layer.ColsResult.lean ====
/-
  The column projections' call computes the reference's results.
-/
module

public import proofs.«01_k».proof.Proof.SB.Value
public import proofs.«01_k».proof.Proof.Layer.Cols
public import proofs.«01_k».proof.Proof.Layer.ColsRef
public import proofs.«01_k».proof.Proof.Gen.Reference5Ideal.Run

@[expose] public section

set_option maxRecDepth 16384

noncomputable section

namespace Cert.Kernel5Ideal.Layer

open Cert.Kernel5Ideal Cert.Kernel5Ideal.Gen Cert.Layer
open Idealize.ShloMosaic Idealize.ShloMosaic.TcCoe Idealize.SL.Sem
open Idealize.ShloMosaic.ValueIdx

variable (m : (ℓ : Loc nD τ sig) → Buf (Elt Ideal) ℓ) (c : Dev nD)
  (hx : ∀ i, ∃ r : ℝ, m ((c : Thread nD τ).loc main_arg0) i = (r : EReal)) (hw : ∀ i, ∃ r : ℝ, m ((c : Thread nD τ).loc main_arg1) i = (r : EReal))
  (hg : ∀ i, ∃ r : ℝ, m ((c : Thread nD τ).loc main_arg2) i = (r : EReal))

/-! ### The results -/

/-- An index of a block, by its coordinates. -/
theorem ix_two {A B : ℕ} (y : (⟨2, ![A, B]⟩ : Shape).Idx) : y = ix2 (y 0) (y 1) := Shape.idx_ext₂ rfl rfl
theorem ix_three (y : S2x128x256.Idx) : y = ix3 (y 0) (y 1) (y 2) := funext fun a => by fin_cases a <;> rfl
theorem ix_four (y : S4x1x128x256.Idx) : y = ix4 (y 0) (y 1) (y 2) (y 3) := funext fun a => by fin_cases a <;> rfl

theorem kt_sb_eq : (dats m 0 c).arrAt 8 cfg0.N = Cert.Reference5Ideal.Read.val_main_v95 (F := Ideal)
    (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  have er : ((win0_8.blk t).view.emb y) = ix4 (y 0) (grid0.coords t 0) (y 2) (y 3) := by
    refine funext fun a => Fin.ext ?_
    fin_cases a
    · blk_simp [index8 t]; simp [ix4]
    · blk_simp [index8 t]
    · blk_simp [index8 t]; simp [ix4]
    · blk_simp [index8 t]; simp [ix4]
  exact (congrArg (out0_8 (F := Ideal) _ _ _ _ _ _ _ _) (ix_four y)).trans ((kt_sb_at m c t (y 0) (y 1) (y 2) (y 3)).trans
    ((Cert.Reference5Ideal.Layer.kt_sb_apply _ _ _ (y 0) (grid0.coords t 0) (y 2) (y 3) (rowAt t (y 3)) (rowAt_val t (y 3))).symm.trans
      (congrArg (Cert.Reference5Ideal.Read.val_main_v95 (F := Ideal) _ _ _) er.symm)))

include hx hw hg in
theorem kt_ds_eq : (dats m 0 c).arrAt 9 cfg0.N = Cert.Reference5Ideal.Read.val_main_v98 (F := Ideal)
    (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  have er : ((win0_9.blk t).view.emb y) = ix4 (y 0) (grid0.coords t 0) (y 2) (y 3) := by
    refine funext fun a => Fin.ext ?_
    fin_cases a
    · blk_simp [index9 t]; simp [ix4]
    · blk_simp [index9 t]
    · blk_simp [index9 t]; simp [ix4]
    · blk_simp [index9 t]; simp [ix4]
  exact (congrArg (out0_9 (F := Ideal) _ _ _ _ _ _ _ _) (ix_four y)).trans ((kt_ds_at m c hx hw hg t (y 0) (y 1) (y 2) (y 3)).trans
    ((Cert.Reference5Ideal.Layer.kt_ds_apply _ _ _ (y 0) (grid0.coords t 0) (y 2) (y 3) (rowAt t (y 3)) (rowAt_val t (y 3))).symm.trans
      (congrArg (Cert.Reference5Ideal.Read.val_main_v98 (F := Ideal) _ _ _) er.symm)))

include hx hw hg in
theorem q_ix_eq : (dats m 0 c).arrAt 10 cfg0.N = Cert.Reference5Ideal.Read.val_main_v101 (F := Ideal)
    (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  have er : ((win0_10.blk t).view.emb y) = ix3 (y 0) (y 1) (rowAt t (y 2)) := by
    refine funext fun a => Fin.ext ?_
    fin_cases a
    · blk_simp [index10 t]; simp [ix3]
    · blk_simp [index10 t]; simp [ix3]
    · refine Eq.trans ?_ (rowAt_val t _).symm; blk_simp [index10 t]; simp; omega
  exact (congrArg (out0_10 (F := Ideal) _ _ _ _ _ _ _ _) (ix_three y)).trans ((q_ix_at m c hx hw hg t (y 0) (y 1) (y 2)).trans
    ((Cert.Reference5Ideal.Layer.q_ix_apply _ _ _ (y 0) (y 1) (rowAt t (y 2))).symm.trans (congrArg (Cert.Reference5Ideal.Read.val_main_v101 (F := Ideal) _ _ _) er.symm)))

theorem w_ix_eq : (dats m 0 c).arrAt 11 cfg0.N = Cert.Reference5Ideal.Read.val_main_v102 (F := Ideal)
    (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  have er : ((win0_11.blk t).view.emb y) = ix2 (y 0) (rowAt t (y 1)) := by
    refine funext fun a => Fin.ext ?_
    fin_cases a
    · blk_simp [index11 t]; simp [ix2]
    · refine Eq.trans ?_ (rowAt_val t _).symm; blk_simp [index11 t]; simp; omega
  exact (congrArg (out0_11 (F := Ideal) _ _ _ _ _ _ _ _) (ix_two (A := 128) (B := 256) y)).trans ((w_ix_at m c t (y 0) (y 1)).trans
    ((Cert.Reference5Ideal.Layer.w_ix_apply _ _ _ (y 0) (rowAt t (y 1))).symm.trans (congrArg (Cert.Reference5Ideal.Read.val_main_v102 (F := Ideal) _ _ _) er.symm)))

/-! ### The claim -/

theorem real_of_pre [Cert.Pre_finite_rows.Facts] (x0 : FVec Ideal S16896x1024 .f32) (x1 : FVec Ideal S1x1024x5416 .f32) (x2 : FVec Ideal S1x1024 .f32)
    (h : Cert.Pre_finite_rows.fn (F := Ideal) x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have e := congrFun h (fun a => a.elim0)
  obtain ⟨e01, e2⟩ := IntOp.andi_eq_one.1 e
  obtain ⟨e0, e1⟩ := IntOp.andi_eq_one.1 e01
  haveI : Subsingleton Cert.Pre_finite_rows.S_.Idx := ⟨fun a b => funext fun k => k.elim0⟩
  exact ⟨fun i => ⟨_, Cert.KernelIdeal.SB.real_of_lt _ (Host.reduce_andi_all _ _ _ _ _ e0 i)⟩,
    fun i => ⟨_, Cert.KernelIdeal.SB.real_of_lt _ (Host.reduce_andi_all _ _ _ _ _ e1 i)⟩,
    fun i => ⟨_, Cert.KernelIdeal.SB.real_of_lt _ (Host.reduce_andi_all _ _ _ _ _ e2 i)⟩⟩

set_option maxHeartbeats 2000000 in
theorem algebraic [Cert.Pre_finite_rows.Facts] : Cert.algebraic_Kernel5Ideal_Reference5Ideal_pre_finite_rows (hKernel5Ideal := Cert.Kernel5Ideal.Gen.facts)
    (hReference5Ideal := Cert.Reference5Ideal.Gen.facts) := fun m g m' g' hpre hargs =>
  ⟨fun c => (dats m 0 c).arrAt 8 cfg0.N, fun c => (dats m 0 c).arrAt 9 cfg0.N, fun c => (dats m 0 c).arrAt 10 cfg0.N, fun c => (dats m 0 c).arrAt 11 cfg0.N,
    Value.run_blocks m g, (θ_run _ _ _).mono (fun _ h c => by
      obtain ⟨h0, h1, h2⟩ := hargs c
      obtain ⟨hx, hw, hg⟩ := real_of_pre _ _ _ (hpre c)
      obtain ⟨r0, r1, r2, r3, kept⟩ := h c
      refine ⟨r0.trans ?_, r1.trans ?_, r2.trans ?_, r3.trans ?_, kept⟩
      · rw [Cert.Reference5Ideal.Read.val_main_v95_eq, h0, h1, h2]; exact (kt_sb_eq m c).symm
      · rw [Cert.Reference5Ideal.Read.val_main_v98_eq, h0, h1, h2]; exact (kt_ds_eq m c hx hw hg).symm
      · rw [Cert.Reference5Ideal.Read.val_main_v101_eq, h0, h1, h2]; exact (q_ix_eq m c hx hw hg).symm
      · rw [Cert.Reference5Ideal.Read.val_main_v102_eq, h0, h1, h2]; exact (w_ix_eq m c).symm)
    (Cert.Reference5Ideal.Value.run m' g')⟩

end Cert.Kernel5Ideal.Layer

end
-- ==== Proof.lean ====
module

public import proofs.«01_k».proof.Defs
public import proofs.«01_k».proof.Proof.SB.Value
public import proofs.«01_k».proof.Proof.SB.Frame
public import proofs.«01_k».proof.Proof.SBits.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite_scores
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_inputs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_rows
public import proofs.«01_k».proof.Proof.Layer.Mlp
public import proofs.«01_k».proof.Proof.Layer.Merge
public import proofs.«01_k».proof.Proof.Layer.ProjResult
public import proofs.«01_k».proof.Proof.Layer.ColsResult
public import Idealize.ShloMosaic.Lib.Quiescent

@[expose] public section

noncomputable section

namespace Cert.Proof

open Idealize.ShloMosaic Idealize.ShloMosaic.TcCoe Idealize.SL.Sem

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem constants : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "zero_below" .f32 0xC3170000#32 ⊥ rfl⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts, Cert.Pre_finite_inputs.Gen.facts, Cert.Pre_finite_rows.Gen.facts,
    fun m ρ _ => Cert.Kernel.SB.frame_main m ρ, fun m ρ _ => Cert.KernelIdeal.SB.frame_main m ρ,
    fun m ρ _ => Cert.KernelIdeal.SB.frame_main m ρ, frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ,
    fun m ρ _ => Cert.Kernel4Ideal.Gen.frame m ρ, frame_ri4, fun m ρ _ => frame_ri4 m ρ trivial,
    fun m ρ _ => Cert.Kernel5.Gen.frame m ρ, fun m ρ _ => Cert.Kernel5Ideal.Gen.frame m ρ,
    fun m ρ _ => Cert.Kernel5Ideal.Gen.frame m ρ, frame_ri5, fun m ρ _ => frame_ri5 m ρ trivial,
    constants, Cert.KernelIdeal.SB.algebraic, trivial,
    Cert.Kernel2Ideal.Layer.algebraic, trivial, Cert.Kernel3Ideal.Layer.algebraic, trivial,
    Cert.Kernel4Ideal.Layer.algebraic, trivial,
    Cert.Kernel5Ideal.Layer.algebraic⟩

end Cert.Proof

end
